-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_inputs_finite [hPre_inputs_finite : Cert.Pre_inputs_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.2.2.2.2.2.2.1 = (fun _ => 1#1)
    ∧ (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2.2.2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_inputs_finite [hPre_inputs_finite : Cert.Pre_inputs_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.2.2.2.2.2.2.1 = (fun _ => 1#1)
    ∧ (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2.2.2.2.2.2.2.2.2.2 = (fun _ => 1#1)

def Pre_Kernel5 [hPre_experts_in_range : Cert.Pre_experts_in_range.Facts] (m : (ℓ : Loc Cert.Kernel5.nD Cert.Kernel5.τ Cert.Kernel5.sig) → Buf (Elt Bits) ℓ) : Prop :=
  ∀ c : Dev Cert.Kernel5.nD,
    (Cert.Pre_experts_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_experts_in_range : Cert.Pre_experts_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_in_range [hPre_experts_in_range : Cert.Pre_experts_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_inputs_finite [hKernel6Ideal : Cert.Kernel6Ideal.Facts] [hPre_inputs_finite : Cert.Pre_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_inputs_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_inputs_finite [hReference6Ideal : Cert.Reference6Ideal.Facts] [hPre_inputs_finite : Cert.Pre_inputs_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_inputs_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel5 [hKernel5 : Cert.Kernel5.Facts] [hPre_experts_in_range : Cert.Pre_experts_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_experts_in_range : Cert.Pre_experts_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_experts_in_range [hReference5Ideal : Cert.Reference5Ideal.Facts] [hPre_experts_in_range : Cert.Pre_experts_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v11_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel6_Kernel6Ideal : Prop :=
  True

def algebraic_Kernel6Ideal_Reference6Ideal_pre_inputs_finite [hKernel6Ideal : Cert.Kernel6Ideal.Facts] [hReference6Ideal : Cert.Reference6Ideal.Facts] [hPre_inputs_finite : Cert.Pre_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_inputs_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v11_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v123) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel5_Kernel5Ideal : Prop :=
  True

def algebraic_Kernel5Ideal_Reference5Ideal [hKernel5Ideal : Cert.Kernel5Ideal.Facts] [hReference5Ideal : Cert.Reference5Ideal.Facts] [hPre_experts_in_range : Cert.Pre_experts_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hPre_inputs_finite : Cert.Pre_inputs_finite.Facts) (hPre_experts_in_range : Cert.Pre_experts_in_range.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_inputs_finite (hKernel6Ideal := hKernel6Ideal) (hPre_inputs_finite := hPre_inputs_finite)
    ∧ quiescent_Reference6Ideal (hReference6Ideal := hReference6Ideal)
    ∧ quiescent_Reference6Ideal_pre_inputs_finite (hReference6Ideal := hReference6Ideal) (hPre_inputs_finite := hPre_inputs_finite)
    ∧ quiescent_Kernel5 (hKernel5 := hKernel5) (hPre_experts_in_range := hPre_experts_in_range)
    ∧ quiescent_Kernel5Ideal (hKernel5Ideal := hKernel5Ideal) (hPre_experts_in_range := hPre_experts_in_range)
    ∧ quiescent_Reference5Ideal (hReference5Ideal := hReference5Ideal)
    ∧ quiescent_Reference5Ideal_pre_experts_in_range (hReference5Ideal := hReference5Ideal) (hPre_experts_in_range := hPre_experts_in_range)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_inputs_finite (hKernel6Ideal := hKernel6Ideal) (hReference6Ideal := hReference6Ideal) (hPre_inputs_finite := hPre_inputs_finite)
    ∧ preserves_Kernel5_Kernel5Ideal
    ∧ algebraic_Kernel5Ideal_Reference5Ideal (hKernel5Ideal := hKernel5Ideal) (hReference5Ideal := hReference5Ideal) (hPre_experts_in_range := hPre_experts_in_range)
-- ==== Pre_experts_in_range.lean ====
abbrev S160 : Shape := ⟨1, ![160]⟩
abbrev S1 : Shape := ⟨1, ![1]⟩
abbrev S81920x1024 : Shape := ⟨2, ![81920, 1024]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S81920x1024 .bf16) (main_arg3 : FVec F S2x32x1024x512 .f32) (main_arg4 : FVec F S2x32x1024x512 .f32) (main_arg5 : FVec F S2x32x512x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_inputs_finite.lean ====
abbrev S32768x1024 : Shape := ⟨2, ![32768, 1024]⟩
abbrev S32768x6144 : Shape := ⟨2, ![32768, 6144]⟩
abbrev S32768x256 : Shape := ⟨2, ![32768, 256]⟩
abbrev S4x256x1024 : Shape := ⟨3, ![4, 256, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S32768x1024 : S_.BroadcastsInDim S32768x1024 (![] : Fin 0 → Fin S32768x1024.rank)
  bcast_S_S32768x6144 : S_.BroadcastsInDim S32768x6144 (![] : Fin 0 → Fin S32768x6144.rank)
  bitsLt_bf16_f32 : FTy.bits .bf16 < FTy.bits .f32
  bcast_S_S32768x256 : S_.BroadcastsInDim S32768x256 (![] : Fin 0 → Fin S32768x256.rank)
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x32 : S_.BroadcastsInDim S1024x32 (![] : Fin 0 → Fin S1024x32.rank)
  bcast_S_S32 : S_.BroadcastsInDim S32 (![] : Fin 0 → Fin S32.rank)

variable [Facts]

def fn_part2 {F : FTy → Type} [FloatOps F] (main_arg11 : FVec F S4 .f32) (main_arg12 : FVec F S1024x32 .f32) (main_arg13 : FVec F S32 .f32) (main_v2 : IVec S32768x1024 1) (main_v5 : IVec S32768x6144 1) (main_v9 : IVec S32768x256 1) (main_v13 : IVec S32768x256 1) (main_v17 : IVec S32768x256 1) (main_v21 : IVec S32768x256 1) (main_v24 : IVec S4x256x1024 1) (main_v27 : IVec S1024x1024 1) (main_v30 : IVec S1024 1) (main_v33 : IVec S1024 1) (main_v36 : IVec S1024x4 1) : IVec S32768x1024 1 × IVec S32768x6144 1 × IVec S32768x256 1 × IVec S32768x256 1 × IVec S32768x256 1 × IVec S32768x256 1 × IVec S4x256x1024 1 × IVec S1024x1024 1 × IVec S1024 1 × IVec S1024 1 × IVec S1024x4 1 × IVec S4 1 × IVec S1024x32 1 × IVec S32 1 :=
  let main_v37 : FVec F S4 .f32 := Host.absf main_arg11
  let main_cst_10 : FVec F S_ .f32 := constant S_ .f32 0x7F800000#32
  let main_v38 : FVec F S4 .f32 := broadcastInDim S4 ![] bcast_S_S4 main_cst_10
  let main_v39 : IVec S4 1 := cmpf .olt main_v37 main_v38
  let main_v40 : FVec F S1024x32 .f32 := Host.absf main_arg12
  let main_cst_11 : FVec F S_ .f32 := constant S_ .f32 0x7F800000#32
  let main_v41 : FVec F S1024x32 .f32 := broadcastInDim S1024x32 ![] bcast_S_S1024x32 main_cst_11
  let main_v42 : IVec S1024x32 1 := cmpf .olt main_v40 main_v41
  let main_v43 : FVec F S32 .f32 := Host.absf main_arg13
  let main_cst_12 : FVec F S_ .f32 := constant S_ .f32 0x7F800000#32
  let main_v44 : FVec F S32 .f32 := broadcastInDim S32 ![] bcast_S_S32 main_cst_12
  let main_v45 : IVec S32 1 := cmpf .olt main_v43 main_v44
  (main_v2, main_v5, main_v9, main_v13, main_v17, main_v21, main_v24, main_v27, main_v30, main_v33, main_v36, main_v39, main_v42, main_v45)

def fn_part1 {F : FTy → Type} [FloatOps F] (main_arg6 : FVec F S4x256x1024 .f32) (main_arg7 : FVec F S1024x1024 .f32) (main_arg8 : FVec F S1024 .f32) (main_arg9 : FVec F S1024 .f32) (main_arg10 : FVec F S1024x4 .f32) (main_arg11 : FVec F S4 .f32) (main_arg12 : FVec F S1024x32 .f32) (main_arg13 : FVec F S32 .f32) (main_v2 : IVec S32768x1024 1) (main_v5 : IVec S32768x6144 1) (main_v9 : IVec S32768x256 1) (main_v13 : IVec S32768x256 1) (main_v17 : IVec S32768x256 1) (main_v18 : FVec F S32768x256 .f32) : IVec S32768x1024 1 × IVec S32768x6144 1 × IVec S32768x256 1 × IVec S32768x256 1 × IVec S32768x256 1 × IVec S32768x256 1 × IVec S4x256x1024 1 × IVec S1024x1024 1 × IVec S1024 1 × IVec S1024 1 × IVec S1024x4 1 × IVec S4 1 × IVec S1024x32 1 × IVec S32 1 :=
  let main_v19 : FVec F S32768x256 .f32 := Host.absf main_v18
  let main_cst_4 : FVec F S_ .f32 := constant S_ .f32 0x7F800000#32
  let main_v20 : FVec F S32768x256 .f32 := broadcastInDim S32768x256 ![] bcast_S_S32768x256 main_cst_4
  let main_v21 : IVec S32768x256 1 := cmpf .olt main_v19 main_v20
  let main_v22 : FVec F S4x256x1024 .f32 := Host.absf main_arg6
  let main_cst_5 : FVec F S_ .f32 := constant S_ .f32 0x7F800000#32
  let main_v23 : FVec F S4x256x1024 .f32 := broadcastInDim S4x256x1024 ![] bcast_S_S4x256x1024 main_cst_5
  let main_v24 : IVec S4x256x1024 1 := cmpf .olt main_v22 main_v23
  let main_v25 : FVec F S1024x1024 .f32 := Host.absf main_arg7
  let main_cst_6 : FVec F S_ .f32 := constant S_ .f32 0x7F800000#32
  let main_v26 : FVec F S1024x1024 .f32 := broadcastInDim S1024x1024 ![] bcast_S_S1024x1024 main_cst_6
  let main_v27 : IVec S1024x1024 1 := cmpf .olt main_v25 main_v26
  let main_v28 : FVec F S1024 .f32 := Host.absf main_arg8
  let main_cst_7 : FVec F S_ .f32 := constant S_ .f32 0x7F800000#32
  let main_v29 : FVec F S1024 .f32 := broadcastInDim S1024 ![] bcast_S_S1024 main_cst_7
  let main_v30 : IVec S1024 1 := cmpf .olt main_v28 main_v29
  let main_v31 : FVec F S1024 .f32 := Host.absf main_arg9
  let main_cst_8 : FVec F S_ .f32 := constant S_ .f32 0x7F800000#32
  let main_v32 : FVec F S1024 .f32 := broadcastInDim S1024 ![] bcast_S_S1024 main_cst_8
  let main_v33 : IVec S1024 1 := cmpf .olt main_v31 main_v32
  let main_v34 : FVec F S1024x4 .f32 := Host.absf main_arg10
  let main_cst_9 : FVec F S_ .f32 := constant S_ .f32 0x7F800000#32
  let main_v35 : FVec F S1024x4 .f32 := broadcastInDim S1024x4 ![] bcast_S_S1024x4 main_cst_9
  let main_v36 : IVec S1024x4 1 := cmpf .olt main_v34 main_v35
  fn_part2 (F := F) main_arg11 main_arg12 main_arg13 main_v2 main_v5 main_v9 main_v13 main_v17 main_v21 main_v24 main_v27 main_v30 main_v33 main_v36

def fn {F : FTy → Type} [FloatOps F] (main_arg0 : FVec F S32768x1024 .f32) (main_arg1 : FVec F S32768x6144 .f32) (main_arg2 : FVec F S32768x256 .bf16) (main_arg3 : FVec F S32768x256 .bf16) (main_arg4 : FVec F S32768x256 .bf16) (main_arg5 : FVec F S32768x256 .bf16) (main_arg6 : FVec F S4x256x1024 .f32) (main_arg7 : FVec F S1024x1024 .f32) (main_arg8 : FVec F S1024 .f32) (main_arg9 : FVec F S1024 .f32) (main_arg10 : FVec F S1024x4 .f32) (main_arg11 : FVec F S4 .f32) (main_arg12 : FVec F S1024x32 .f32) (main_arg13 : FVec F S32 .f32) : IVec S32768x1024 1 × IVec S32768x6144 1 × IVec S32768x256 1 × IVec S32768x256 1 × IVec S32768x256 1 × IVec S32768x256 1 × IVec S4x256x1024 1 × IVec S1024x1024 1 × IVec S1024 1 × IVec S1024 1 × IVec S1024x4 1 × IVec S4 1 × IVec S1024x32 1 × IVec S32 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S32768x6144 .f32 := Host.absf main_arg1
  let main_cst_0 : FVec F S_ .f32 := constant S_ .f32 0x7F800000#32
  let main_v4 : FVec F S32768x6144 .f32 := broadcastInDim S32768x6144 ![] bcast_S_S32768x6144 main_cst_0
  let main_v5 : IVec S32768x6144 1 := cmpf .olt main_v3 main_v4
  let main_v6 : FVec F S32768x256 .f32 := (extf .f32 · bitsLt_bf16_f32) main_arg2
  let main_v7 : FVec F S32768x256 .f32 := Host.absf main_v6
  let main_cst_1 : FVec F S_ .f32 := constant S_ .f32 0x7F800000#32
  let main_v8 : FVec F S32768x256 .f32 := broadcastInDim S32768x256 ![] bcast_S_S32768x256 main_cst_1
  let main_v9 : IVec S32768x256 1 := cmpf .olt main_v7 main_v8
  let main_v10 : FVec F S32768x256 .f32 := (extf .f32 · bitsLt_bf16_f32) main_arg3
  let main_v11 : FVec F S32768x256 .f32 := Host.absf main_v10
  let main_cst_2 : FVec F S_ .f32 := constant S_ .f32 0x7F800000#32
  let main_v12 : FVec F S32768x256 .f32 := broadcastInDim S32768x256 ![] bcast_S_S32768x256 main_cst_2
  let main_v13 : IVec S32768x256 1 := cmpf .olt main_v11 main_v12
  let main_v14 : FVec F S32768x256 .f32 := (extf .f32 · bitsLt_bf16_f32) main_arg4
  let main_v15 : FVec F S32768x256 .f32 := Host.absf main_v14
  let main_cst_3 : FVec F S_ .f32 := constant S_ .f32 0x7F800000#32
  let main_v16 : FVec F S32768x256 .f32 := broadcastInDim S32768x256 ![] bcast_S_S32768x256 main_cst_3
  let main_v17 : IVec S32768x256 1 := cmpf .olt main_v15 main_v16
  let main_v18 : FVec F S32768x256 .f32 := (extf .f32 · bitsLt_bf16_f32) main_arg5
  fn_part1 (F := F) main_arg6 main_arg7 main_arg8 main_arg9 main_arg10 main_arg11 main_arg12 main_arg13 main_v2 main_v5 main_v9 main_v13 main_v17 main_v18
-- ==== Kernel.lean ====
abbrev S8x4096x3840 : Shape := ⟨3, ![8, 4096, 3840]⟩
abbrev S8x4096x6144 : Shape := ⟨3, ![8, 4096, 6144]⟩
abbrev S_ : Shape := ⟨0, ![]⟩
abbrev S256x256 : Shape := ⟨2, ![256, 256]⟩
abbrev S8x4096x256 : Shape := ⟨3, ![8, 4096, 256]⟩
abbrev S1x512x256 : Shape := ⟨3, ![1, 512, 256]⟩
abbrev S1x4096x256 : Shape := ⟨3, ![1, 4096, 256]⟩
abbrev S1x4096x128 : Shape := ⟨3, ![1, 4096, 128]⟩
abbrev S1x512x128 : Shape := ⟨3, ![1, 512, 128]⟩
abbrev S8x512x512 : Shape := ⟨3, ![8, 512, 512]⟩
abbrev S4x8x128x512 : Shape := ⟨4, ![4, 8, 128, 512]⟩
abbrev S128x1 : Shape := ⟨2, ![128, 1]⟩
abbrev S1x128x4 : Shape := ⟨3, ![1, 128, 4]⟩
abbrev S128x4 : Shape := ⟨2, ![128, 4]⟩
abbrev S1x128x256 : Shape := ⟨3, ![1, 128, 256]⟩
abbrev S128x256 : Shape := ⟨2, ![128, 256]⟩
abbrev S1x512x64 : Shape := ⟨3, ![1, 512, 64]⟩
abbrev S512x64 : Shape := ⟨2, ![512, 64]⟩
abbrev S128x512 : Shape := ⟨2, ![128, 512]⟩
abbrev S128x64 : Shape := ⟨2, ![128, 64]⟩
abbrev S1x128x512 : Shape := ⟨3, ![1, 128, 512]⟩
abbrev S128x128 : Shape := ⟨2, ![128, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x256 : Shape := ⟨2, ![1, 256]⟩
abbrev S512x256 : Shape := ⟨2, ![512, 256]⟩
abbrev S512x512 : Shape := ⟨2, ![512, 512]⟩
abbrev S1x1x128x512 : Shape := ⟨4, ![1, 1, 128, 512]⟩

abbrev nBuf : Space → Nat
  | .hbm => 15
  | .vmem => 18
  | .smem => 0
  | _ => 0

abbrev bufTy : (tb : Table) → Fin (tcTables nBuf tb) → BufTy
  | .hbm, ⟨0, _⟩ => ⟨S8x4096x3840, .bf16⟩
  | .hbm, ⟨1, _⟩ => ⟨S8x4096x6144, .f32⟩
  | .hbm, ⟨2, _⟩ => ⟨S_, .f32⟩
  | .hbm, ⟨3, _⟩ => ⟨S256x256, .f32⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .bf16⟩
  | .hbm, ⟨14, _⟩ => ⟨S8x4096x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x512x128, .f32⟩
  | .local _ .vmem, ⟨11, _⟩ => ⟨S1x512x128, .f32⟩
  | .local _ .vmem, ⟨12, _⟩ => ⟨S256x256, .bf16⟩
  | .local _ .vmem, ⟨13, _⟩ => ⟨S1x512x256, .bf16⟩
  | .local _ .vmem, ⟨14, _⟩ => ⟨S1x512x256, .bf16⟩
  | .local _ .vmem, ⟨15, _⟩ => ⟨S8x512x512, .f32⟩
  | .local _ .vmem, ⟨16, _⟩ => ⟨S8x512x512, .f32⟩
  | .local _ .vmem, ⟨17, _⟩ => ⟨S4x8x128x512, .f32⟩
  | _, _ => ⟨S8x4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_52 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v110 : BitVec 32 := Scalar.subi v21 c0_i32_52
  let c1_i32_53 : BitVec 32 := 1#32
  let v112 : BitVec 32 := Scalar.divsi v110 c1_i32_53
  let v113 : BitVec 32 := Scalar.muli v112 c1_i32_53
  let v114 : BitVec 32 := Scalar.addi c0_i32_52 v113
  let c1_i32_54 : BitVec 32 := 1#32
  ⟨c0_i32_52, v114, c1_i32_54⟩
def k0_mult1 (i : grid0.Coords) (k0_t1 : Fin (k0_t1_loop i).trips) : BitVec 32 :=
  let c0_i32_52 : BitVec 32 := 0#32
  let c1_i32_54 : BitVec 32 := 1#32
  let arg13 : BitVec 32 := Scf.iv c0_i32_52 c1_i32_54 k0_t1
  let c512_i32_379 : BitVec 32 := 512#32
  let v834 : BitVec 32 := Scalar.muli arg13 c512_i32_379
  v834
def k0_off1 (i : grid0.Coords) (k0_t1 : Fin (k0_t1_loop i).trips) : Fin 3 → Nat :=
  let c0_380 : Index := 0#32
  let c0_i32_52 : BitVec 32 := 0#32
  let c1_i32_54 : BitVec 32 := 1#32
  let arg13 : BitVec 32 := Scf.iv c0_i32_52 c1_i32_54 k0_t1
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off2 (i : grid0.Coords) (k0_t1 : Fin (k0_t1_loop i).trips) : Fin 3 → Nat :=
  let c0_i32_52 : BitVec 32 := 0#32
  let c1_i32_54 : BitVec 32 := 1#32
  let arg13 : BitVec 32 := Scf.iv c0_i32_52 c1_i32_54 k0_t1
  let v879 : Index := Scalar.indexCast arg13
  let c0_392 : Index := 0#32
  let c0_393 : Index := 0#32
  ![v879.toNat, 0, 0]
@[reducible] def k0_t2_loop (i : grid0.Coords) : Scf.Loop 32 :=
  let c0_i32_52 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v110 : BitVec 32 := Scalar.subi v21 c0_i32_52
  let c1_i32_53 : BitVec 32 := 1#32
  let v112 : BitVec 32 := Scalar.divsi v110 c1_i32_53
  let v113 : BitVec 32 := Scalar.muli v112 c1_i32_53
  let v114 : BitVec 32 := Scalar.addi c0_i32_52 v113
  let v111 : BitVec 32 := Scalar.addi c0_i32_52 v110
  let c1_i32_55 : BitVec 32 := 1#32
  ⟨v114, v111, c1_i32_55⟩
def k0_mult2 (i : grid0.Coords) (k0_t2 : Fin (k0_t2_loop i).trips) : BitVec 32 :=
  let c0_i32_52 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v110 : BitVec 32 := Scalar.subi v21 c0_i32_52
  let c1_i32_53 : BitVec 32 := 1#32
  let v112 : BitVec 32 := Scalar.divsi v110 c1_i32_53
  let v113 : BitVec 32 := Scalar.muli v112 c1_i32_53
  let v114 : BitVec 32 := Scalar.addi c0_i32_52 v113
  let c1_i32_55 : BitVec 32 := 1#32
  let arg13 : BitVec 32 := Scf.iv v114 c1_i32_55 k0_t2
  let c512_i32_379 : BitVec 32 := 512#32
  let v834 : BitVec 32 := Scalar.muli arg13 c512_i32_379
  v834
def k0_off3 (i : grid0.Coords) (k0_t2 : Fin (k0_t2_loop i).trips) : Fin 3 → Nat :=
  let c0_380 : Index := 0#32
  let c0_i32_52 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v110 : BitVec 32 := Scalar.subi v21 c0_i32_52
  let c1_i32_53 : BitVec 32 := 1#32
  let v112 : BitVec 32 := Scalar.divsi v110 c1_i32_53
  let v113 : BitVec 32 := Scalar.muli v112 c1_i32_53
  let v114 : BitVec 32 := Scalar.addi c0_i32_52 v113
  let c1_i32_55 : BitVec 32 := 1#32
  let arg13 : BitVec 32 := Scf.iv v114 c1_i32_55 k0_t2
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off4 (i : grid0.Coords) (k0_t2 : Fin (k0_t2_loop i).trips) : Fin 3 → Nat :=
  let c0_i32_52 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v110 : BitVec 32 := Scalar.subi v21 c0_i32_52
  let c1_i32_53 : BitVec 32 := 1#32
  let v112 : BitVec 32 := Scalar.divsi v110 c1_i32_53
  let v113 : BitVec 32 := Scalar.muli v112 c1_i32_53
  let v114 : BitVec 32 := Scalar.addi c0_i32_52 v113
  let c1_i32_55 : BitVec 32 := 1#32
  let arg13 : BitVec 32 := Scf.iv v114 c1_i32_55 k0_t2
  let v879 : Index := Scalar.indexCast arg13
  let c0_392 : Index := 0#32
  let c0_393 : Index := 0#32
  ![v879.toNat, 0, 0]
@[reducible] def k0_t3_loop (i : grid0.Coords) : Scf.Loop 32 :=
  let c0_i32_63 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v121 : BitVec 32 := Scalar.subi v47 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_65 : BitVec 32 := 1#32
  ⟨c0_i32_63, v125, c1_i32_65⟩
def k0_mult3 (i : grid0.Coords) (k0_t3 : Fin (k0_t3_loop i).trips) : BitVec 32 :=
  let c0_i32_63 : BitVec 32 := 0#32
  let c1_i32_65 : BitVec 32 := 1#32
  let arg13 : BitVec 32 := Scf.iv c0_i32_63 c1_i32_65 k0_t3
  let c512_i32_379 : BitVec 32 := 512#32
  let v834 : BitVec 32 := Scalar.muli arg13 c512_i32_379
  v834
def k0_off5 (i : grid0.Coords) (k0_t3 : Fin (k0_t3_loop i).trips) : Fin 3 → Nat :=
  let c0_380 : Index := 0#32
  let c0_i32_63 : BitVec 32 := 0#32
  let c1_i32_65 : BitVec 32 := 1#32
  let arg13 : BitVec 32 := Scf.iv c0_i32_63 c1_i32_65 k0_t3
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off6 (i : grid0.Coords) (k0_t3 : Fin (k0_t3_loop i).trips) : Fin 3 → Nat :=
  let c0_i32_63 : BitVec 32 := 0#32
  let c1_i32_65 : BitVec 32 := 1#32
  let arg13 : BitVec 32 := Scf.iv c0_i32_63 c1_i32_65 k0_t3
  let v879 : Index := Scalar.indexCast arg13
  let c128_392 : Index := 128#32
  let c0_393 : Index := 0#32
  ![v879.toNat, 128, 0]
@[reducible] def k0_t4_loop (i : grid0.Coords) : Scf.Loop 32 :=
  let c0_i32_63 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v121 : BitVec 32 := Scalar.subi v47 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let v122 : BitVec 32 := Scalar.addi c0_i32_63 v121
  let c1_i32_66 : BitVec 32 := 1#32
  ⟨v125, v122, c1_i32_66⟩
def k0_mult4 (i : grid0.Coords) (k0_t4 : Fin (k0_t4_loop i).trips) : BitVec 32 :=
  let c0_i32_63 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v121 : BitVec 32 := Scalar.subi v47 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg13 : BitVec 32 := Scf.iv v125 c1_i32_66 k0_t4
  let c512_i32_379 : BitVec 32 := 512#32
  let v834 : BitVec 32 := Scalar.muli arg13 c512_i32_379
  v834
def k0_off7 (i : grid0.Coords) (k0_t4 : Fin (k0_t4_loop i).trips) : Fin 3 → Nat :=
  let c0_380 : Index := 0#32
  let c0_i32_63 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v121 : BitVec 32 := Scalar.subi v47 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg13 : BitVec 32 := Scf.iv v125 c1_i32_66 k0_t4
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off8 (i : grid0.Coords) (k0_t4 : Fin (k0_t4_loop i).trips) : Fin 3 → Nat :=
  let c0_i32_63 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v121 : BitVec 32 := Scalar.subi v47 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg13 : BitVec 32 := Scf.iv v125 c1_i32_66 k0_t4
  let v879 : Index := Scalar.indexCast arg13
  let c128_392 : Index := 128#32
  let c0_393 : Index := 0#32
  ![v879.toNat, 128, 0]
@[reducible] def k0_t5_loop (i : grid0.Coords) : Scf.Loop 32 :=
  let c0_i32_74 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v132 : BitVec 32 := Scalar.subi v73 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_76 : BitVec 32 := 1#32
  ⟨c0_i32_74, v136, c1_i32_76⟩
def k0_mult5 (i : grid0.Coords) (k0_t5 : Fin (k0_t5_loop i).trips) : BitVec 32 :=
  let c0_i32_74 : BitVec 32 := 0#32
  let c1_i32_76 : BitVec 32 := 1#32
  let arg13 : BitVec 32 := Scf.iv c0_i32_74 c1_i32_76 k0_t5
  let c512_i32_379 : BitVec 32 := 512#32
  let v834 : BitVec 32 := Scalar.muli arg13 c512_i32_379
  v834
def k0_off9 (i : grid0.Coords) (k0_t5 : Fin (k0_t5_loop i).trips) : Fin 3 → Nat :=
  let c0_380 : Index := 0#32
  let c0_i32_74 : BitVec 32 := 0#32
  let c1_i32_76 : BitVec 32 := 1#32
  let arg13 : BitVec 32 := Scf.iv c0_i32_74 c1_i32_76 k0_t5
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off10 (i : grid0.Coords) (k0_t5 : Fin (k0_t5_loop i).trips) : Fin 3 → Nat :=
  let c0_i32_74 : BitVec 32 := 0#32
  let c1_i32_76 : BitVec 32 := 1#32
  let arg13 : BitVec 32 := Scf.iv c0_i32_74 c1_i32_76 k0_t5
  let v879 : Index := Scalar.indexCast arg13
  let c256_392 : Index := 256#32
  let c0_393 : Index := 0#32
  ![v879.toNat, 256, 0]
@[reducible] def k0_t6_loop (i : grid0.Coords) : Scf.Loop 32 :=
  let c0_i32_74 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v132 : BitVec 32 := Scalar.subi v73 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let v133 : BitVec 32 := Scalar.addi c0_i32_74 v132
  let c1_i32_77 : BitVec 32 := 1#32
  ⟨v136, v133, c1_i32_77⟩
def k0_mult6 (i : grid0.Coords) (k0_t6 : Fin (k0_t6_loop i).trips) : BitVec 32 :=
  let c0_i32_74 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v132 : BitVec 32 := Scalar.subi v73 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg13 : BitVec 32 := Scf.iv v136 c1_i32_77 k0_t6
  let c512_i32_379 : BitVec 32 := 512#32
  let v834 : BitVec 32 := Scalar.muli arg13 c512_i32_379
  v834
def k0_off11 (i : grid0.Coords) (k0_t6 : Fin (k0_t6_loop i).trips) : Fin 3 → Nat :=
  let c0_380 : Index := 0#32
  let c0_i32_74 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v132 : BitVec 32 := Scalar.subi v73 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg13 : BitVec 32 := Scf.iv v136 c1_i32_77 k0_t6
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off12 (i : grid0.Coords) (k0_t6 : Fin (k0_t6_loop i).trips) : Fin 3 → Nat :=
  let c0_i32_74 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v132 : BitVec 32 := Scalar.subi v73 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg13 : BitVec 32 := Scf.iv v136 c1_i32_77 k0_t6
  let v879 : Index := Scalar.indexCast arg13
  let c256_392 : Index := 256#32
  let c0_393 : Index := 0#32
  ![v879.toNat, 256, 0]
@[reducible] def k0_t7_loop (i : grid0.Coords) : Scf.Loop 32 :=
  let c0_i32_85 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v143 : BitVec 32 := Scalar.subi v99 c0_i32_85
  let c1_i32_86 : BitVec 32 := 1#32
  let v145 : BitVec 32 := Scalar.divsi v143 c1_i32_86
  let v146 : BitVec 32 := Scalar.muli v145 c1_i32_86
  let v147 : BitVec 32 := Scalar.addi c0_i32_85 v146
  let c1_i32_87 : BitVec 32 := 1#32
  ⟨c0_i32_85, v147, c1_i32_87⟩
def k0_mult7 (i : grid0.Coords) (k0_t7 : Fin (k0_t7_loop i).trips) : BitVec 32 :=
  let c0_i32_85 : BitVec 32 := 0#32
  let c1_i32_87 : BitVec 32 := 1#32
  let arg13 : BitVec 32 := Scf.iv c0_i32_85 c1_i32_87 k0_t7
  let c512_i32_379 : BitVec 32 := 512#32
  let v834 : BitVec 32 := Scalar.muli arg13 c512_i32_379
  v834
def k0_off13 (i : grid0.Coords) (k0_t7 : Fin (k0_t7_loop i).trips) : Fin 3 → Nat :=
  let c0_380 : Index := 0#32
  let c0_i32_85 : BitVec 32 := 0#32
  let c1_i32_87 : BitVec 32 := 1#32
  let arg13 : BitVec 32 := Scf.iv c0_i32_85 c1_i32_87 k0_t7
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off14 (i : grid0.Coords) (k0_t7 : Fin (k0_t7_loop i).trips) : Fin 3 → Nat :=
  let c0_i32_85 : BitVec 32 := 0#32
  let c1_i32_87 : BitVec 32 := 1#32
  let arg13 : BitVec 32 := Scf.iv c0_i32_85 c1_i32_87 k0_t7
  let v879 : Index := Scalar.indexCast arg13
  let c384_392 : Index := 384#32
  let c0_393 : Index := 0#32
  ![v879.toNat, 384, 0]
@[reducible] def k0_t8_loop (i : grid0.Coords) : Scf.Loop 32 :=
  let c0_i32_85 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v143 : BitVec 32 := Scalar.subi v99 c0_i32_85
  let c1_i32_86 : BitVec 32 := 1#32
  let v145 : BitVec 32 := Scalar.divsi v143 c1_i32_86
  let v146 : BitVec 32 := Scalar.muli v145 c1_i32_86
  let v147 : BitVec 32 := Scalar.addi c0_i32_85 v146
  let v144 : BitVec 32 := Scalar.addi c0_i32_85 v143
  let c1_i32_88 : BitVec 32 := 1#32
  ⟨v147, v144, c1_i32_88⟩
def k0_mult8 (i : grid0.Coords) (k0_t8 : Fin (k0_t8_loop i).trips) : BitVec 32 :=
  let c0_i32_85 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v143 : BitVec 32 := Scalar.subi v99 c0_i32_85
  let c1_i32_86 : BitVec 32 := 1#32
  let v145 : BitVec 32 := Scalar.divsi v143 c1_i32_86
  let v146 : BitVec 32 := Scalar.muli v145 c1_i32_86
  let v147 : BitVec 32 := Scalar.addi c0_i32_85 v146
  let c1_i32_88 : BitVec 32 := 1#32
  let arg13 : BitVec 32 := Scf.iv v147 c1_i32_88 k0_t8
  let c512_i32_379 : BitVec 32 := 512#32
  let v834 : BitVec 32 := Scalar.muli arg13 c512_i32_379
  v834
def k0_off15 (i : grid0.Coords) (k0_t8 : Fin (k0_t8_loop i).trips) : Fin 3 → Nat :=
  let c0_380 : Index := 0#32
  let c0_i32_85 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v143 : BitVec 32 := Scalar.subi v99 c0_i32_85
  let c1_i32_86 : BitVec 32 := 1#32
  let v145 : BitVec 32 := Scalar.divsi v143 c1_i32_86
  let v146 : BitVec 32 := Scalar.muli v145 c1_i32_86
  let v147 : BitVec 32 := Scalar.addi c0_i32_85 v146
  let c1_i32_88 : BitVec 32 := 1#32
  let arg13 : BitVec 32 := Scf.iv v147 c1_i32_88 k0_t8
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off16 (i : grid0.Coords) (k0_t8 : Fin (k0_t8_loop i).trips) : Fin 3 → Nat :=
  let c0_i32_85 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v143 : BitVec 32 := Scalar.subi v99 c0_i32_85
  let c1_i32_86 : BitVec 32 := 1#32
  let v145 : BitVec 32 := Scalar.divsi v143 c1_i32_86
  let v146 : BitVec 32 := Scalar.muli v145 c1_i32_86
  let v147 : BitVec 32 := Scalar.addi c0_i32_85 v146
  let c1_i32_88 : BitVec 32 := 1#32
  let arg13 : BitVec 32 := Scf.iv v147 c1_i32_88 k0_t8
  let v879 : Index := Scalar.indexCast arg13
  let c384_392 : Index := 384#32
  let c0_393 : Index := 0#32
  ![v879.toNat, 384, 0]
@[reducible] def k0_t9_loop (i : grid0.Coords) : Scf.Loop 32 :=
  let c0_i32_90 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v149 : BitVec 32 := Scalar.subi v21 c0_i32_90
  let c1_i32_91 : BitVec 32 := 1#32
  let v151 : BitVec 32 := Scalar.divsi v149 c1_i32_91
  let v152 : BitVec 32 := Scalar.muli v151 c1_i32_91
  let v153 : BitVec 32 := Scalar.addi c0_i32_90 v152
  let c1_i32_92 : BitVec 32 := 1#32
  ⟨c0_i32_90, v153, c1_i32_92⟩
def k0_off17 (i : grid0.Coords) (k0_t9 : Fin (k0_t9_loop i).trips) : Fin 3 → Nat :=
  let c0_i32_90 : BitVec 32 := 0#32
  let c1_i32_92 : BitVec 32 := 1#32
  let arg13 : BitVec 32 := Scf.iv c0_i32_90 c1_i32_92 k0_t9
  let v834 : Index := Scalar.indexCast arg13
  let c0_379 : Index := 0#32
  let c0_380 : Index := 0#32
  ![v834.toNat, 0, 0]
@[reducible] def k0_t10_loop (i : grid0.Coords) : Scf.Loop 32 :=
  let c0_i32_90 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v149 : BitVec 32 := Scalar.subi v21 c0_i32_90
  let c1_i32_91 : BitVec 32 := 1#32
  let v151 : BitVec 32 := Scalar.divsi v149 c1_i32_91
  let v152 : BitVec 32 := Scalar.muli v151 c1_i32_91
  let v153 : BitVec 32 := Scalar.addi c0_i32_90 v152
  let v150 : BitVec 32 := Scalar.addi c0_i32_90 v149
  let c1_i32_93 : BitVec 32 := 1#32
  ⟨v153, v150, c1_i32_93⟩
def k0_off18 (i : grid0.Coords) (k0_t10 : Fin (k0_t10_loop i).trips) : Fin 3 → Nat :=
  let c0_i32_90 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v149 : BitVec 32 := Scalar.subi v21 c0_i32_90
  let c1_i32_91 : BitVec 32 := 1#32
  let v151 : BitVec 32 := Scalar.divsi v149 c1_i32_91
  let v152 : BitVec 32 := Scalar.muli v151 c1_i32_91
  let v153 : BitVec 32 := Scalar.addi c0_i32_90 v152
  let c1_i32_93 : BitVec 32 := 1#32
  let arg13 : BitVec 32 := Scf.iv v153 c1_i32_93 k0_t10
  let v834 : Index := Scalar.indexCast arg13
  let c0_379 : Index := 0#32
  let c0_380 : Index := 0#32
  ![v834.toNat, 0, 0]
@[reducible] def k0_t11_loop (i : grid0.Coords) : Scf.Loop 32 :=
  let c0_i32_98 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v164 : BitVec 32 := Scalar.subi v47 c0_i32_98
  let c1_i32_99 : BitVec 32 := 1#32
  let v166 : BitVec 32 := Scalar.divsi v164 c1_i32_99
  let v167 : BitVec 32 := Scalar.muli v166 c1_i32_99
  let v168 : BitVec 32 := Scalar.addi c0_i32_98 v167
  let c1_i32_100 : BitVec 32 := 1#32
  ⟨c0_i32_98, v168, c1_i32_100⟩
def k0_off19 (i : grid0.Coords) (k0_t11 : Fin (k0_t11_loop i).trips) : Fin 3 → Nat :=
  let c0_i32_98 : BitVec 32 := 0#32
  let c1_i32_100 : BitVec 32 := 1#32
  let arg13 : BitVec 32 := Scf.iv c0_i32_98 c1_i32_100 k0_t11
  let v834 : Index := Scalar.indexCast arg13
  let c128_379 : Index := 128#32
  let c0_380 : Index := 0#32
  ![v834.toNat, 128, 0]
@[reducible] def k0_t12_loop (i : grid0.Coords) : Scf.Loop 32 :=
  let c0_i32_98 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v164 : BitVec 32 := Scalar.subi v47 c0_i32_98
  let c1_i32_99 : BitVec 32 := 1#32
  let v166 : BitVec 32 := Scalar.divsi v164 c1_i32_99
  let v167 : BitVec 32 := Scalar.muli v166 c1_i32_99
  let v168 : BitVec 32 := Scalar.addi c0_i32_98 v167
  let v165 : BitVec 32 := Scalar.addi c0_i32_98 v164
  let c1_i32_101 : BitVec 32 := 1#32
  ⟨v168, v165, c1_i32_101⟩
def k0_off20 (i : grid0.Coords) (k0_t12 : Fin (k0_t12_loop i).trips) : Fin 3 → Nat :=
  let c0_i32_98 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v164 : BitVec 32 := Scalar.subi v47 c0_i32_98
  let c1_i32_99 : BitVec 32 := 1#32
  let v166 : BitVec 32 := Scalar.divsi v164 c1_i32_99
  let v167 : BitVec 32 := Scalar.muli v166 c1_i32_99
  let v168 : BitVec 32 := Scalar.addi c0_i32_98 v167
  let c1_i32_101 : BitVec 32 := 1#32
  let arg13 : BitVec 32 := Scf.iv v168 c1_i32_101 k0_t12
  let v834 : Index := Scalar.indexCast arg13
  let c128_379 : Index := 128#32
  let c0_380 : Index := 0#32
  ![v834.toNat, 128, 0]
@[reducible] def k0_t13_loop (i : grid0.Coords) : Scf.Loop 32 :=
  let c0_i32_107 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v179 : BitVec 32 := Scalar.subi v73 c0_i32_107
  let c1_i32_108 : BitVec 32 := 1#32
  let v181 : BitVec 32 := Scalar.divsi v179 c1_i32_108
  let v182 : BitVec 32 := Scalar.muli v181 c1_i32_108
  let v183 : BitVec 32 := Scalar.addi c0_i32_107 v182
  let c1_i32_109 : BitVec 32 := 1#32
  ⟨c0_i32_107, v183, c1_i32_109⟩
def k0_off21 (i : grid0.Coords) (k0_t13 : Fin (k0_t13_loop i).trips) : Fin 3 → Nat :=
  let c0_i32_107 : BitVec 32 := 0#32
  let c1_i32_109 : BitVec 32 := 1#32
  let arg13 : BitVec 32 := Scf.iv c0_i32_107 c1_i32_109 k0_t13
  let v834 : Index := Scalar.indexCast arg13
  let c256_379 : Index := 256#32
  let c0_380 : Index := 0#32
  ![v834.toNat, 256, 0]
@[reducible] def k0_t14_loop (i : grid0.Coords) : Scf.Loop 32 :=
  let c0_i32_107 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v179 : BitVec 32 := Scalar.subi v73 c0_i32_107
  let c1_i32_108 : BitVec 32 := 1#32
  let v181 : BitVec 32 := Scalar.divsi v179 c1_i32_108
  let v182 : BitVec 32 := Scalar.muli v181 c1_i32_108
  let v183 : BitVec 32 := Scalar.addi c0_i32_107 v182
  let v180 : BitVec 32 := Scalar.addi c0_i32_107 v179
  let c1_i32_110 : BitVec 32 := 1#32
  ⟨v183, v180, c1_i32_110⟩
def k0_off22 (i : grid0.Coords) (k0_t14 : Fin (k0_t14_loop i).trips) : Fin 3 → Nat :=
  let c0_i32_107 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v179 : BitVec 32 := Scalar.subi v73 c0_i32_107
  let c1_i32_108 : BitVec 32 := 1#32
  let v181 : BitVec 32 := Scalar.divsi v179 c1_i32_108
  let v182 : BitVec 32 := Scalar.muli v181 c1_i32_108
  let v183 : BitVec 32 := Scalar.addi c0_i32_107 v182
  let c1_i32_110 : BitVec 32 := 1#32
  let arg13 : BitVec 32 := Scf.iv v183 c1_i32_110 k0_t14
  let v834 : Index := Scalar.indexCast arg13
  let c256_379 : Index := 256#32
  let c0_380 : Index := 0#32
  ![v834.toNat, 256, 0]
@[reducible] def k0_t15_loop (i : grid0.Coords) : Scf.Loop 32 :=
  let c0_i32_116 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v194 : BitVec 32 := Scalar.subi v99 c0_i32_116
  let c1_i32_117 : BitVec 32 := 1#32
  let v196 : BitVec 32 := Scalar.divsi v194 c1_i32_117
  let v197 : BitVec 32 := Scalar.muli v196 c1_i32_117
  let v198 : BitVec 32 := Scalar.addi c0_i32_116 v197
  let c1_i32_118 : BitVec 32 := 1#32
  ⟨c0_i32_116, v198, c1_i32_118⟩
def k0_off23 (i : grid0.Coords) (k0_t15 : Fin (k0_t15_loop i).trips) : Fin 3 → Nat :=
  let c0_i32_116 : BitVec 32 := 0#32
  let c1_i32_118 : BitVec 32 := 1#32
  let arg13 : BitVec 32 := Scf.iv c0_i32_116 c1_i32_118 k0_t15
  let v834 : Index := Scalar.indexCast arg13
  let c384_379 : Index := 384#32
  let c0_380 : Index := 0#32
  ![v834.toNat, 384, 0]
@[reducible] def k0_t16_loop (i : grid0.Coords) : Scf.Loop 32 :=
  let c0_i32_116 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v194 : BitVec 32 := Scalar.subi v99 c0_i32_116
  let c1_i32_117 : BitVec 32 := 1#32
  let v196 : BitVec 32 := Scalar.divsi v194 c1_i32_117
  let v197 : BitVec 32 := Scalar.muli v196 c1_i32_117
  let v198 : BitVec 32 := Scalar.addi c0_i32_116 v197
  let v195 : BitVec 32 := Scalar.addi c0_i32_116 v194
  let c1_i32_119 : BitVec 32 := 1#32
  ⟨v198, v195, c1_i32_119⟩
def k0_off24 (i : grid0.Coords) (k0_t16 : Fin (k0_t16_loop i).trips) : Fin 3 → Nat :=
  let c0_i32_116 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v194 : BitVec 32 := Scalar.subi v99 c0_i32_116
  let c1_i32_117 : BitVec 32 := 1#32
  let v196 : BitVec 32 := Scalar.divsi v194 c1_i32_117
  let v197 : BitVec 32 := Scalar.muli v196 c1_i32_117
  let v198 : BitVec 32 := Scalar.addi c0_i32_116 v197
  let c1_i32_119 : BitVec 32 := 1#32
  let arg13 : BitVec 32 := Scf.iv v198 c1_i32_119 k0_t16
  let v834 : Index := Scalar.indexCast arg13
  let c384_379 : Index := 384#32
  let c0_380 : Index := 0#32
  ![v834.toNat, 384, 0]
@[reducible] def k0_t17_loop : Scf.Loop 32 :=
  let c0_i32_124 : BitVec 32 := 0#32
  let c31_i32 : BitVec 32 := 31#32
  let v208 : BitVec 32 := Scalar.addi c0_i32_124 c31_i32
  let c1_i32_125 : BitVec 32 := 1#32
  ⟨c0_i32_124, v208, c1_i32_125⟩
@[reducible] def k0_t18_loop (i : grid0.Coords) : Scf.Loop 32 :=
  let c0_i32_383 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v851 : BitVec 32 := Scalar.subi v21 c0_i32_383
  let c1_i32_384 : BitVec 32 := 1#32
  let v853 : BitVec 32 := Scalar.divsi v851 c1_i32_384
  let v854 : BitVec 32 := Scalar.muli v853 c1_i32_384
  let v855 : BitVec 32 := Scalar.addi c0_i32_383 v854
  let c1_i32_385 : BitVec 32 := 1#32
  ⟨c0_i32_383, v855, c1_i32_385⟩
def k0_off25 (i : grid0.Coords) (k0_t18 : Fin (k0_t18_loop i).trips) : Fin 3 → Nat :=
  let c0_i32_383 : BitVec 32 := 0#32
  let c1_i32_385 : BitVec 32 := 1#32
  let arg18 : BitVec 32 := Scf.iv c0_i32_383 c1_i32_385 k0_t18
  let v920 : Index := Scalar.indexCast arg18
  let c0_416 : Index := 0#32
  let c0_417 : Index := 0#32
  ![v920.toNat, 0, 0]
@[reducible] def k0_t19_loop (i : grid0.Coords) : Scf.Loop 32 :=
  let c0_i32_383 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v851 : BitVec 32 := Scalar.subi v21 c0_i32_383
  let c1_i32_384 : BitVec 32 := 1#32
  let v853 : BitVec 32 := Scalar.divsi v851 c1_i32_384
  let v854 : BitVec 32 := Scalar.muli v853 c1_i32_384
  let v855 : BitVec 32 := Scalar.addi c0_i32_383 v854
  let v852 : BitVec 32 := Scalar.addi c0_i32_383 v851
  let c1_i32_386 : BitVec 32 := 1#32
  ⟨v855, v852, c1_i32_386⟩
def k0_off26 (i : grid0.Coords) (k0_t19 : Fin (k0_t19_loop i).trips) : Fin 3 → Nat :=
  let c0_i32_383 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v851 : BitVec 32 := Scalar.subi v21 c0_i32_383
  let c1_i32_384 : BitVec 32 := 1#32
  let v853 : BitVec 32 := Scalar.divsi v851 c1_i32_384
  let v854 : BitVec 32 := Scalar.muli v853 c1_i32_384
  let v855 : BitVec 32 := Scalar.addi c0_i32_383 v854
  let c1_i32_386 : BitVec 32 := 1#32
  let arg18 : BitVec 32 := Scf.iv v855 c1_i32_386 k0_t19
  let v920 : Index := Scalar.indexCast arg18
  let c0_416 : Index := 0#32
  let c0_417 : Index := 0#32
  ![v920.toNat, 0, 0]
@[reducible] def k0_t20_loop (i : grid0.Coords) : Scf.Loop 32 :=
  let c0_i32_390 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v865 : BitVec 32 := Scalar.subi v47 c0_i32_390
  let c1_i32_391 : BitVec 32 := 1#32
  let v867 : BitVec 32 := Scalar.divsi v865 c1_i32_391
  let v868 : BitVec 32 := Scalar.muli v867 c1_i32_391
  let v869 : BitVec 32 := Scalar.addi c0_i32_390 v868
  let c1_i32_392 : BitVec 32 := 1#32
  ⟨c0_i32_390, v869, c1_i32_392⟩
def k0_off27 (i : grid0.Coords) (k0_t20 : Fin (k0_t20_loop i).trips) : Fin 3 → Nat :=
  let c0_i32_390 : BitVec 32 := 0#32
  let c1_i32_392 : BitVec 32 := 1#32
  let arg18 : BitVec 32 := Scf.iv c0_i32_390 c1_i32_392 k0_t20
  let v920 : Index := Scalar.indexCast arg18
  let c128_416 : Index := 128#32
  let c0_417 : Index := 0#32
  ![v920.toNat, 128, 0]
@[reducible] def k0_t21_loop (i : grid0.Coords) : Scf.Loop 32 :=
  let c0_i32_390 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v865 : BitVec 32 := Scalar.subi v47 c0_i32_390
  let c1_i32_391 : BitVec 32 := 1#32
  let v867 : BitVec 32 := Scalar.divsi v865 c1_i32_391
  let v868 : BitVec 32 := Scalar.muli v867 c1_i32_391
  let v869 : BitVec 32 := Scalar.addi c0_i32_390 v868
  let v866 : BitVec 32 := Scalar.addi c0_i32_390 v865
  let c1_i32_393 : BitVec 32 := 1#32
  ⟨v869, v866, c1_i32_393⟩
def k0_off28 (i : grid0.Coords) (k0_t21 : Fin (k0_t21_loop i).trips) : Fin 3 → Nat :=
  let c0_i32_390 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v865 : BitVec 32 := Scalar.subi v47 c0_i32_390
  let c1_i32_391 : BitVec 32 := 1#32
  let v867 : BitVec 32 := Scalar.divsi v865 c1_i32_391
  let v868 : BitVec 32 := Scalar.muli v867 c1_i32_391
  let v869 : BitVec 32 := Scalar.addi c0_i32_390 v868
  let c1_i32_393 : BitVec 32 := 1#32
  let arg18 : BitVec 32 := Scf.iv v869 c1_i32_393 k0_t21
  let v920 : Index := Scalar.indexCast arg18
  let c128_416 : Index := 128#32
  let c0_417 : Index := 0#32
  ![v920.toNat, 128, 0]
@[reducible] def k0_t22_loop (i : grid0.Coords) : Scf.Loop 32 :=
  let c0_i32_397 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v879 : BitVec 32 := Scalar.subi v73 c0_i32_397
  let c1_i32_398 : BitVec 32 := 1#32
  let v881 : BitVec 32 := Scalar.divsi v879 c1_i32_398
  let v882 : BitVec 32 := Scalar.muli v881 c1_i32_398
  let v883 : BitVec 32 := Scalar.addi c0_i32_397 v882
  let c1_i32_399 : BitVec 32 := 1#32
  ⟨c0_i32_397, v883, c1_i32_399⟩
def k0_off29 (i : grid0.Coords) (k0_t22 : Fin (k0_t22_loop i).trips) : Fin 3 → Nat :=
  let c0_i32_397 : BitVec 32 := 0#32
  let c1_i32_399 : BitVec 32 := 1#32
  let arg18 : BitVec 32 := Scf.iv c0_i32_397 c1_i32_399 k0_t22
  let v920 : Index := Scalar.indexCast arg18
  let c256_416 : Index := 256#32
  let c0_417 : Index := 0#32
  ![v920.toNat, 256, 0]
@[reducible] def k0_t23_loop (i : grid0.Coords) : Scf.Loop 32 :=
  let c0_i32_397 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v879 : BitVec 32 := Scalar.subi v73 c0_i32_397
  let c1_i32_398 : BitVec 32 := 1#32
  let v881 : BitVec 32 := Scalar.divsi v879 c1_i32_398
  let v882 : BitVec 32 := Scalar.muli v881 c1_i32_398
  let v883 : BitVec 32 := Scalar.addi c0_i32_397 v882
  let v880 : BitVec 32 := Scalar.addi c0_i32_397 v879
  let c1_i32_400 : BitVec 32 := 1#32
  ⟨v883, v880, c1_i32_400⟩
def k0_off30 (i : grid0.Coords) (k0_t23 : Fin (k0_t23_loop i).trips) : Fin 3 → Nat :=
  let c0_i32_397 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v879 : BitVec 32 := Scalar.subi v73 c0_i32_397
  let c1_i32_398 : BitVec 32 := 1#32
  let v881 : BitVec 32 := Scalar.divsi v879 c1_i32_398
  let v882 : BitVec 32 := Scalar.muli v881 c1_i32_398
  let v883 : BitVec 32 := Scalar.addi c0_i32_397 v882
  let c1_i32_400 : BitVec 32 := 1#32
  let arg18 : BitVec 32 := Scf.iv v883 c1_i32_400 k0_t23
  let v920 : Index := Scalar.indexCast arg18
  let c256_416 : Index := 256#32
  let c0_417 : Index := 0#32
  ![v920.toNat, 256, 0]
@[reducible] def k0_t24_loop (i : grid0.Coords) : Scf.Loop 32 :=
  let c0_i32_404 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v893 : BitVec 32 := Scalar.subi v99 c0_i32_404
  let c1_i32_405 : BitVec 32 := 1#32
  let v895 : BitVec 32 := Scalar.divsi v893 c1_i32_405
  let v896 : BitVec 32 := Scalar.muli v895 c1_i32_405
  let v897 : BitVec 32 := Scalar.addi c0_i32_404 v896
  let c1_i32_406 : BitVec 32 := 1#32
  ⟨c0_i32_404, v897, c1_i32_406⟩
def k0_off31 (i : grid0.Coords) (k0_t24 : Fin (k0_t24_loop i).trips) : Fin 3 → Nat :=
  let c0_i32_404 : BitVec 32 := 0#32
  let c1_i32_406 : BitVec 32 := 1#32
  let arg18 : BitVec 32 := Scf.iv c0_i32_404 c1_i32_406 k0_t24
  let v920 : Index := Scalar.indexCast arg18
  let c384_416 : Index := 384#32
  let c0_417 : Index := 0#32
  ![v920.toNat, 384, 0]
@[reducible] def k0_t25_loop (i : grid0.Coords) : Scf.Loop 32 :=
  let c0_i32_404 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v893 : BitVec 32 := Scalar.subi v99 c0_i32_404
  let c1_i32_405 : BitVec 32 := 1#32
  let v895 : BitVec 32 := Scalar.divsi v893 c1_i32_405
  let v896 : BitVec 32 := Scalar.muli v895 c1_i32_405
  let v897 : BitVec 32 := Scalar.addi c0_i32_404 v896
  let v894 : BitVec 32 := Scalar.addi c0_i32_404 v893
  let c1_i32_407 : BitVec 32 := 1#32
  ⟨v897, v894, c1_i32_407⟩
def k0_off32 (i : grid0.Coords) (k0_t25 : Fin (k0_t25_loop i).trips) : Fin 3 → Nat :=
  let c0_i32_404 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v893 : BitVec 32 := Scalar.subi v99 c0_i32_404
  let c1_i32_405 : BitVec 32 := 1#32
  let v895 : BitVec 32 := Scalar.divsi v893 c1_i32_405
  let v896 : BitVec 32 := Scalar.muli v895 c1_i32_405
  let v897 : BitVec 32 := Scalar.addi c0_i32_404 v896
  let c1_i32_407 : BitVec 32 := 1#32
  let arg18 : BitVec 32 := Scf.iv v897 c1_i32_407 k0_t25
  let v920 : Index := Scalar.indexCast arg18
  let c384_416 : Index := 384#32
  let c0_417 : Index := 0#32
  ![v920.toNat, 384, 0]
@[reducible] def k0_t26_loop (i : grid0.Coords) : Scf.Loop 32 :=
  let c0_i32_131 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v221 : BitVec 32 := Scalar.subi v21 c0_i32_131
  let c1_i32_132 : BitVec 32 := 1#32
  let v223 : BitVec 32 := Scalar.divsi v221 c1_i32_132
  let v224 : BitVec 32 := Scalar.muli v223 c1_i32_132
  let v225 : BitVec 32 := Scalar.addi c0_i32_131 v224
  let c1_i32_133 : BitVec 32 := 1#32
  ⟨c0_i32_131, v225, c1_i32_133⟩
def k0_off33 (i : grid0.Coords) (k0_t26 : Fin (k0_t26_loop i).trips) : Fin 3 → Nat :=
  let c0_i32_131 : BitVec 32 := 0#32
  let c1_i32_133 : BitVec 32 := 1#32
  let arg13 : BitVec 32 := Scf.iv c0_i32_131 c1_i32_133 k0_t26
  let v834 : Index := Scalar.indexCast arg13
  let c0_379 : Index := 0#32
  let c0_380 : Index := 0#32
  ![v834.toNat, 0, 0]
@[reducible] def k0_t27_loop (i : grid0.Coords) : Scf.Loop 32 :=
  let c0_i32_131 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v221 : BitVec 32 := Scalar.subi v21 c0_i32_131
  let c1_i32_132 : BitVec 32 := 1#32
  let v223 : BitVec 32 := Scalar.divsi v221 c1_i32_132
  let v224 : BitVec 32 := Scalar.muli v223 c1_i32_132
  let v225 : BitVec 32 := Scalar.addi c0_i32_131 v224
  let v222 : BitVec 32 := Scalar.addi c0_i32_131 v221
  let c1_i32_134 : BitVec 32 := 1#32
  ⟨v225, v222, c1_i32_134⟩
def k0_off34 (i : grid0.Coords) (k0_t27 : Fin (k0_t27_loop i).trips) : Fin 3 → Nat :=
  let c0_i32_131 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v221 : BitVec 32 := Scalar.subi v21 c0_i32_131
  let c1_i32_132 : BitVec 32 := 1#32
  let v223 : BitVec 32 := Scalar.divsi v221 c1_i32_132
  let v224 : BitVec 32 := Scalar.muli v223 c1_i32_132
  let v225 : BitVec 32 := Scalar.addi c0_i32_131 v224
  let c1_i32_134 : BitVec 32 := 1#32
  let arg13 : BitVec 32 := Scf.iv v225 c1_i32_134 k0_t27
  let v834 : Index := Scalar.indexCast arg13
  let c0_379 : Index := 0#32
  let c0_380 : Index := 0#32
  ![v834.toNat, 0, 0]
@[reducible] def k0_t28_loop (i : grid0.Coords) : Scf.Loop 32 :=
  let c0_i32_138 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v233 : BitVec 32 := Scalar.subi v21 c0_i32_138
  let c1_i32_139 : BitVec 32 := 1#32
  let v235 : BitVec 32 := Scalar.divsi v233 c1_i32_139
  let v236 : BitVec 32 := Scalar.muli v235 c1_i32_139
  let v237 : BitVec 32 := Scalar.addi c0_i32_138 v236
  let c1_i32_140 : BitVec 32 := 1#32
  ⟨c0_i32_138, v237, c1_i32_140⟩
def k0_off35 (i : grid0.Coords) (k0_t28 : Fin (k0_t28_loop i).trips) : Fin 3 → Nat :=
  let c0_i32_138 : BitVec 32 := 0#32
  let c1_i32_140 : BitVec 32 := 1#32
  let arg13 : BitVec 32 := Scf.iv c0_i32_138 c1_i32_140 k0_t28
  let v834 : Index := Scalar.indexCast arg13
  let c0_379 : Index := 0#32
  let c0_380 : Index := 0#32
  ![v834.toNat, 0, 0]
@[reducible] def k0_t29_loop (i : grid0.Coords) : Scf.Loop 32 :=
  let c0_i32_138 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v233 : BitVec 32 := Scalar.subi v21 c0_i32_138
  let c1_i32_139 : BitVec 32 := 1#32
  let v235 : BitVec 32 := Scalar.divsi v233 c1_i32_139
  let v236 : BitVec 32 := Scalar.muli v235 c1_i32_139
  let v237 : BitVec 32 := Scalar.addi c0_i32_138 v236
  let v234 : BitVec 32 := Scalar.addi c0_i32_138 v233
  let c1_i32_141 : BitVec 32 := 1#32
  ⟨v237, v234, c1_i32_141⟩
def k0_off36 (i : grid0.Coords) (k0_t29 : Fin (k0_t29_loop i).trips) : Fin 3 → Nat :=
  let c0_i32_138 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v233 : BitVec 32 := Scalar.subi v21 c0_i32_138
  let c1_i32_139 : BitVec 32 := 1#32
  let v235 : BitVec 32 := Scalar.divsi v233 c1_i32_139
  let v236 : BitVec 32 := Scalar.muli v235 c1_i32_139
  let v237 : BitVec 32 := Scalar.addi c0_i32_138 v236
  let c1_i32_141 : BitVec 32 := 1#32
  let arg13 : BitVec 32 := Scf.iv v237 c1_i32_141 k0_t29
  let v834 : Index := Scalar.indexCast arg13
  let c0_379 : Index := 0#32
  let c0_380 : Index := 0#32
  ![v834.toNat, 0, 0]
@[reducible] def k0_t30_loop (i : grid0.Coords) : Scf.Loop 32 :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off37 (i : grid0.Coords) (k0_t30 : Fin (k0_t30_loop i).trips) : Fin 3 → Nat :=
  let c0_i32_379 : BitVec 32 := 0#32
  let c1_i32_381 : BitVec 32 := 1#32
  let arg13 : BitVec 32 := Scf.iv c0_i32_379 c1_i32_381 k0_t30
  let v841 : Index := Scalar.indexCast arg13
  let c0_383 : Index := 0#32
  let c0_384 : Index := 0#32
  ![v841.toNat, 0, 0]
def k0_off38 (i : grid0.Coords) (k0_t30 : Fin (k0_t30_loop i).trips) : Fin 3 → Nat :=
  let c0_i32_379 : BitVec 32 := 0#32
  let c1_i32_381 : BitVec 32 := 1#32
  let arg13 : BitVec 32 := Scf.iv c0_i32_379 c1_i32_381 k0_t30
  let v883 : Index := Scalar.indexCast arg13
  let c0_402 : Index := 0#32
  let c0_403 : Index := 0#32
  ![v883.toNat, 0, 0]
def k0_off39 (i : grid0.Coords) (k0_t30 : Fin (k0_t30_loop i).trips) : Fin 3 → Nat :=
  let c0_i32_379 : BitVec 32 := 0#32
  let c1_i32_381 : BitVec 32 := 1#32
  let arg13 : BitVec 32 := Scf.iv c0_i32_379 c1_i32_381 k0_t30
  let v909 : Index := Scalar.indexCast arg13
  let c0_412 : Index := 0#32
  let c256_413 : Index := 256#32
  ![v909.toNat, 0, 256]
@[reducible] def k0_t31_loop (i : grid0.Coords) : Scf.Loop 32 :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off40 (i : grid0.Coords) (k0_t31 : Fin (k0_t31_loop i).trips) : Fin 3 → Nat :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t31
  let v841 : Index := Scalar.indexCast arg13
  let c0_383 : Index := 0#32
  let c0_384 : Index := 0#32
  ![v841.toNat, 0, 0]
def k0_off41 (i : grid0.Coords) (k0_t31 : Fin (k0_t31_loop i).trips) : Fin 3 → Nat :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t31
  let v883 : Index := Scalar.indexCast arg13
  let c0_402 : Index := 0#32
  let c0_403 : Index := 0#32
  ![v883.toNat, 0, 0]
def k0_off42 (i : grid0.Coords) (k0_t31 : Fin (k0_t31_loop i).trips) : Fin 3 → Nat :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t31
  let v909 : Index := Scalar.indexCast arg13
  let c0_412 : Index := 0#32
  let c256_413 : Index := 256#32
  ![v909.toNat, 0, 256]
@[reducible] def k0_t32_loop (i : grid0.Coords) : Scf.Loop 32 :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off43 (i : grid0.Coords) (k0_t32 : Fin (k0_t32_loop i).trips) : Fin 3 → Nat :=
  let c0_i32_379 : BitVec 32 := 0#32
  let c1_i32_381 : BitVec 32 := 1#32
  let arg13 : BitVec 32 := Scf.iv c0_i32_379 c1_i32_381 k0_t32
  let v839 : Index := Scalar.indexCast arg13
  let c0_383 : Index := 0#32
  let c0_384 : Index := 0#32
  ![v839.toNat, 0, 0]
@[reducible] def k0_t33_loop (i : grid0.Coords) : Scf.Loop 32 :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off44 (i : grid0.Coords) (k0_t33 : Fin (k0_t33_loop i).trips) : Fin 3 → Nat :=
  let c0_i32_379 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v834 : BitVec 32 := Scalar.subi v21 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t33
  let v839 : Index := Scalar.indexCast arg13
  let c0_383 : Index := 0#32
  let c0_384 : Index := 0#32
  ![v839.toNat, 0, 0]
@[reducible] def k0_t34_loop (i : grid0.Coords) : Scf.Loop 32 :=
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_165 : BitVec 32 := 1#32
  ⟨c0_i32_163, v310, c1_i32_165⟩
def k0_mult9 (i : grid0.Coords) (k0_t34 : Fin (k0_t34_loop i).trips) : BitVec 32 :=
  let c0_i32_163 : BitVec 32 := 0#32
  let c1_i32_165 : BitVec 32 := 1#32
  let arg13 : BitVec 32 := Scf.iv c0_i32_163 c1_i32_165 k0_t34
  let c512_i32_379 : BitVec 32 := 512#32
  let v834 : BitVec 32 := Scalar.muli arg13 c512_i32_379
  v834
def k0_off45 (i : grid0.Coords) (k0_t34 : Fin (k0_t34_loop i).trips) : Fin 3 → Nat :=
  let c0_i32_163 : BitVec 32 := 0#32
  let c1_i32_165 : BitVec 32 := 1#32
  let arg13 : BitVec 32 := Scf.iv c0_i32_163 c1_i32_165 k0_t34
  let v836 : Index := Scalar.indexCast arg13
  let c0_380 : Index := 0#32
  let c0_381 : Index := 0#32
  ![v836.toNat, 0, 0]
def k0_off46 (i : grid0.Coords) (k0_t34 : Fin (k0_t34_loop i).trips) : Fin 3 → Nat :=
  let c0_382 : Index := 0#32
  let c0_i32_163 : BitVec 32 := 0#32
  let c1_i32_165 : BitVec 32 := 1#32
  let arg13 : BitVec 32 := Scf.iv c0_i32_163 c1_i32_165 k0_t34
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off47 (i : grid0.Coords) (k0_t34 : Fin (k0_t34_loop i).trips) : Fin 4 → Nat :=
  let c0_385 : Index := 0#32
  let c0_i32_163 : BitVec 32 := 0#32
  let c1_i32_165 : BitVec 32 := 1#32
  let arg13 : BitVec 32 := Scf.iv c0_i32_163 c1_i32_165 k0_t34
  let v845 : Index := Scalar.indexCast arg13
  let c0_386 : Index := 0#32
  let c0_387 : Index := 0#32
  ![0, v845.toNat, 0, 0]
def k0_off48 (i : grid0.Coords) (k0_t34 : Fin (k0_t34_loop i).trips) : Fin 4 → Nat :=
  let c1 : Index := 1#32
  let c0_i32_163 : BitVec 32 := 0#32
  let c1_i32_165 : BitVec 32 := 1#32
  let arg13 : BitVec 32 := Scf.iv c0_i32_163 c1_i32_165 k0_t34
  let v859 : Index := Scalar.indexCast arg13
  let c0_388 : Index := 0#32
  let c0_389 : Index := 0#32
  ![1, v859.toNat, 0, 0]
def k0_off49 (i : grid0.Coords) (k0_t34 : Fin (k0_t34_loop i).trips) : Fin 4 → Nat :=
  let c2 : Index := 2#32
  let c0_i32_163 : BitVec 32 := 0#32
  let c1_i32_165 : BitVec 32 := 1#32
  let arg13 : BitVec 32 := Scf.iv c0_i32_163 c1_i32_165 k0_t34
  let v873 : Index := Scalar.indexCast arg13
  let c0_390 : Index := 0#32
  let c0_391 : Index := 0#32
  ![2, v873.toNat, 0, 0]
def k0_off50 (i : grid0.Coords) (k0_t34 : Fin (k0_t34_loop i).trips) : Fin 4 → Nat :=
  let c3 : Index := 3#32
  let c0_i32_163 : BitVec 32 := 0#32
  let c1_i32_165 : BitVec 32 := 1#32
  let arg13 : BitVec 32 := Scf.iv c0_i32_163 c1_i32_165 k0_t34
  let v887 : Index := Scalar.indexCast arg13
  let c0_392 : Index := 0#32
  let c0_393 : Index := 0#32
  ![3, v887.toNat, 0, 0]
@[reducible] def k0_t35_loop (i : grid0.Coords) : Scf.Loop 32 :=
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let v307 : BitVec 32 := Scalar.addi c0_i32_163 v306
  let c1_i32_166 : BitVec 32 := 1#32
  ⟨v310, v307, c1_i32_166⟩
def k0_mult10 (i : grid0.Coords) (k0_t35 : Fin (k0_t35_loop i).trips) : BitVec 32 :=
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_166 : BitVec 32 := 1#32
  let arg13 : BitVec 32 := Scf.iv v310 c1_i32_166 k0_t35
  let c512_i32_379 : BitVec 32 := 512#32
  let v834 : BitVec 32 := Scalar.muli arg13 c512_i32_379
  v834
def k0_off51 (i : grid0.Coords) (k0_t35 : Fin (k0_t35_loop i).trips) : Fin 3 → Nat :=
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_166 : BitVec 32 := 1#32
  let arg13 : BitVec 32 := Scf.iv v310 c1_i32_166 k0_t35
  let v836 : Index := Scalar.indexCast arg13
  let c0_380 : Index := 0#32
  let c0_381 : Index := 0#32
  ![v836.toNat, 0, 0]
def k0_off52 (i : grid0.Coords) (k0_t35 : Fin (k0_t35_loop i).trips) : Fin 3 → Nat :=
  let c0_382 : Index := 0#32
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_166 : BitVec 32 := 1#32
  let arg13 : BitVec 32 := Scf.iv v310 c1_i32_166 k0_t35
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off53 (i : grid0.Coords) (k0_t35 : Fin (k0_t35_loop i).trips) : Fin 4 → Nat :=
  let c0_385 : Index := 0#32
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_166 : BitVec 32 := 1#32
  let arg13 : BitVec 32 := Scf.iv v310 c1_i32_166 k0_t35
  let v845 : Index := Scalar.indexCast arg13
  let c0_386 : Index := 0#32
  let c0_387 : Index := 0#32
  ![0, v845.toNat, 0, 0]
def k0_off54 (i : grid0.Coords) (k0_t35 : Fin (k0_t35_loop i).trips) : Fin 4 → Nat :=
  let c1 : Index := 1#32
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_166 : BitVec 32 := 1#32
  let arg13 : BitVec 32 := Scf.iv v310 c1_i32_166 k0_t35
  let v859 : Index := Scalar.indexCast arg13
  let c0_388 : Index := 0#32
  let c0_389 : Index := 0#32
  ![1, v859.toNat, 0, 0]
def k0_off55 (i : grid0.Coords) (k0_t35 : Fin (k0_t35_loop i).trips) : Fin 4 → Nat :=
  let c2 : Index := 2#32
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_166 : BitVec 32 := 1#32
  let arg13 : BitVec 32 := Scf.iv v310 c1_i32_166 k0_t35
  let v873 : Index := Scalar.indexCast arg13
  let c0_390 : Index := 0#32
  let c0_391 : Index := 0#32
  ![2, v873.toNat, 0, 0]
def k0_off56 (i : grid0.Coords) (k0_t35 : Fin (k0_t35_loop i).trips) : Fin 4 → Nat :=
  let c3 : Index := 3#32
  let c0_i32_163 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v306 : BitVec 32 := Scalar.subi v21 c0_i32_163
  let c1_i32_164 : BitVec 32 := 1#32
  let v308 : BitVec 32 := Scalar.divsi v306 c1_i32_164
  let v309 : BitVec 32 := Scalar.muli v308 c1_i32_164
  let v310 : BitVec 32 := Scalar.addi c0_i32_163 v309
  let c1_i32_166 : BitVec 32 := 1#32
  let arg13 : BitVec 32 := Scf.iv v310 c1_i32_166 k0_t35
  let v887 : Index := Scalar.indexCast arg13
  let c0_392 : Index := 0#32
  let c0_393 : Index := 0#32
  ![3, v887.toNat, 0, 0]
@[reducible] def k0_t36_loop (i : grid0.Coords) : Scf.Loop 32 :=
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let c1_i32_175 : BitVec 32 := 1#32
  ⟨c0_i32_173, v327, c1_i32_175⟩
def k0_mult11 (i : grid0.Coords) (k0_t36 : Fin (k0_t36_loop i).trips) : BitVec 32 :=
  let c0_i32_173 : BitVec 32 := 0#32
  let c1_i32_175 : BitVec 32 := 1#32
  let arg13 : BitVec 32 := Scf.iv c0_i32_173 c1_i32_175 k0_t36
  let c512_i32_379 : BitVec 32 := 512#32
  let v834 : BitVec 32 := Scalar.muli arg13 c512_i32_379
  v834
def k0_off57 (i : grid0.Coords) (k0_t36 : Fin (k0_t36_loop i).trips) : Fin 3 → Nat :=
  let c0_380 : Index := 0#32
  let c0_i32_173 : BitVec 32 := 0#32
  let c1_i32_175 : BitVec 32 := 1#32
  let arg13 : BitVec 32 := Scf.iv c0_i32_173 c1_i32_175 k0_t36
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off58 (i : grid0.Coords) (k0_t36 : Fin (k0_t36_loop i).trips) : Fin 4 → Nat :=
  let c0_382 : Index := 0#32
  let c0_i32_173 : BitVec 32 := 0#32
  let c1_i32_175 : BitVec 32 := 1#32
  let arg13 : BitVec 32 := Scf.iv c0_i32_173 c1_i32_175 k0_t36
  let v839 : Index := Scalar.indexCast arg13
  let c0_383 : Index := 0#32
  let c0_384 : Index := 0#32
  ![0, v839.toNat, 0, 0]
def k0_off59 (i : grid0.Coords) (k0_t36 : Fin (k0_t36_loop i).trips) : Fin 4 → Nat :=
  let c1 : Index := 1#32
  let c0_i32_173 : BitVec 32 := 0#32
  let c1_i32_175 : BitVec 32 := 1#32
  let arg13 : BitVec 32 := Scf.iv c0_i32_173 c1_i32_175 k0_t36
  let v845 : Index := Scalar.indexCast arg13
  let c0_385 : Index := 0#32
  let c0_386 : Index := 0#32
  ![1, v845.toNat, 0, 0]
def k0_off60 (i : grid0.Coords) (k0_t36 : Fin (k0_t36_loop i).trips) : Fin 4 → Nat :=
  let c2 : Index := 2#32
  let c0_i32_173 : BitVec 32 := 0#32
  let c1_i32_175 : BitVec 32 := 1#32
  let arg13 : BitVec 32 := Scf.iv c0_i32_173 c1_i32_175 k0_t36
  let v851 : Index := Scalar.indexCast arg13
  let c0_387 : Index := 0#32
  let c0_388 : Index := 0#32
  ![2, v851.toNat, 0, 0]
def k0_off61 (i : grid0.Coords) (k0_t36 : Fin (k0_t36_loop i).trips) : Fin 4 → Nat :=
  let c3 : Index := 3#32
  let c0_i32_173 : BitVec 32 := 0#32
  let c1_i32_175 : BitVec 32 := 1#32
  let arg13 : BitVec 32 := Scf.iv c0_i32_173 c1_i32_175 k0_t36
  let v857 : Index := Scalar.indexCast arg13
  let c0_389 : Index := 0#32
  let c0_390 : Index := 0#32
  ![3, v857.toNat, 0, 0]
@[reducible] def k0_t37_loop (i : grid0.Coords) : Scf.Loop 32 :=
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let v324 : BitVec 32 := Scalar.addi c0_i32_173 v323
  let c1_i32_176 : BitVec 32 := 1#32
  ⟨v327, v324, c1_i32_176⟩
def k0_mult12 (i : grid0.Coords) (k0_t37 : Fin (k0_t37_loop i).trips) : BitVec 32 :=
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let c1_i32_176 : BitVec 32 := 1#32
  let arg13 : BitVec 32 := Scf.iv v327 c1_i32_176 k0_t37
  let c512_i32_379 : BitVec 32 := 512#32
  let v834 : BitVec 32 := Scalar.muli arg13 c512_i32_379
  v834
def k0_off62 (i : grid0.Coords) (k0_t37 : Fin (k0_t37_loop i).trips) : Fin 3 → Nat :=
  let c0_380 : Index := 0#32
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let c1_i32_176 : BitVec 32 := 1#32
  let arg13 : BitVec 32 := Scf.iv v327 c1_i32_176 k0_t37
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off63 (i : grid0.Coords) (k0_t37 : Fin (k0_t37_loop i).trips) : Fin 4 → Nat :=
  let c0_382 : Index := 0#32
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let c1_i32_176 : BitVec 32 := 1#32
  let arg13 : BitVec 32 := Scf.iv v327 c1_i32_176 k0_t37
  let v839 : Index := Scalar.indexCast arg13
  let c0_383 : Index := 0#32
  let c0_384 : Index := 0#32
  ![0, v839.toNat, 0, 0]
def k0_off64 (i : grid0.Coords) (k0_t37 : Fin (k0_t37_loop i).trips) : Fin 4 → Nat :=
  let c1 : Index := 1#32
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let c1_i32_176 : BitVec 32 := 1#32
  let arg13 : BitVec 32 := Scf.iv v327 c1_i32_176 k0_t37
  let v845 : Index := Scalar.indexCast arg13
  let c0_385 : Index := 0#32
  let c0_386 : Index := 0#32
  ![1, v845.toNat, 0, 0]
def k0_off65 (i : grid0.Coords) (k0_t37 : Fin (k0_t37_loop i).trips) : Fin 4 → Nat :=
  let c2 : Index := 2#32
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let c1_i32_176 : BitVec 32 := 1#32
  let arg13 : BitVec 32 := Scf.iv v327 c1_i32_176 k0_t37
  let v851 : Index := Scalar.indexCast arg13
  let c0_387 : Index := 0#32
  let c0_388 : Index := 0#32
  ![2, v851.toNat, 0, 0]
def k0_off66 (i : grid0.Coords) (k0_t37 : Fin (k0_t37_loop i).trips) : Fin 4 → Nat :=
  let c3 : Index := 3#32
  let c0_i32_173 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.addi v1 c128_i32
  let c512_i32_0 : BitVec 32 := 512#32
  let v3 : BitVec 32 := Scalar.addi v2 c512_i32_0
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_1 : BitVec 32 := 512#32
  let c0_i32_4 : BitVec 32 := 0#32
  let v11 : BitVec 1 := Scalar.cmpi .sgt c512_i32_1 c0_i32_4
  let v12 : BitVec 32 := Scalar.extui v11
  let c0_i32_5 : BitVec 32 := 0#32
  let v13 : BitVec 1 := Scalar.cmpi .slt c512_i32_1 c0_i32_5
  let v14 : BitVec 32 := Scalar.extui v13
  let v15 : BitVec 32 := Scalar.subi v12 v14
  let v16 : BitVec 1 := Scalar.cmpi .ne v10 v15
  let v17 : BitVec 32 := Scalar.remsi v4 c512_i32_1
  let c0_i32_6 : BitVec 32 := 0#32
  let v18 : BitVec 1 := Scalar.cmpi .ne v17 c0_i32_6
  let v19 : BitVec 1 := Scalar.andi v16 v18
  let v5 : BitVec 32 := Scalar.divsi v4 c512_i32_1
  let c1_i32_7 : BitVec 32 := 1#32
  let v20 : BitVec 32 := Scalar.subi v5 c1_i32_7
  let v21 : BitVec 32 := Scalar.select v19 v20 v5
  let v323 : BitVec 32 := Scalar.subi v21 c0_i32_173
  let c1_i32_174 : BitVec 32 := 1#32
  let v325 : BitVec 32 := Scalar.divsi v323 c1_i32_174
  let v326 : BitVec 32 := Scalar.muli v325 c1_i32_174
  let v327 : BitVec 32 := Scalar.addi c0_i32_173 v326
  let c1_i32_176 : BitVec 32 := 1#32
  let arg13 : BitVec 32 := Scf.iv v327 c1_i32_176 k0_t37
  let v857 : Index := Scalar.indexCast arg13
  let c0_389 : Index := 0#32
  let c0_390 : Index := 0#32
  ![3, v857.toNat, 0, 0]
@[reducible] def k0_t38_loop (i : grid0.Coords) : Scf.Loop 32 :=
  let c0_i32_192 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v377 : BitVec 32 := Scalar.subi v47 c0_i32_192
  let c1_i32_193 : BitVec 32 := 1#32
  let v379 : BitVec 32 := Scalar.divsi v377 c1_i32_193
  let v380 : BitVec 32 := Scalar.muli v379 c1_i32_193
  let v381 : BitVec 32 := Scalar.addi c0_i32_192 v380
  let c1_i32_194 : BitVec 32 := 1#32
  ⟨c0_i32_192, v381, c1_i32_194⟩
def k0_off67 (i : grid0.Coords) (k0_t38 : Fin (k0_t38_loop i).trips) : Fin 3 → Nat :=
  let c0_i32_192 : BitVec 32 := 0#32
  let c1_i32_194 : BitVec 32 := 1#32
  let arg13 : BitVec 32 := Scf.iv c0_i32_192 c1_i32_194 k0_t38
  let v834 : Index := Scalar.indexCast arg13
  let c128_379 : Index := 128#32
  let c0_380 : Index := 0#32
  ![v834.toNat, 128, 0]
@[reducible] def k0_t39_loop (i : grid0.Coords) : Scf.Loop 32 :=
  let c0_i32_192 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v377 : BitVec 32 := Scalar.subi v47 c0_i32_192
  let c1_i32_193 : BitVec 32 := 1#32
  let v379 : BitVec 32 := Scalar.divsi v377 c1_i32_193
  let v380 : BitVec 32 := Scalar.muli v379 c1_i32_193
  let v381 : BitVec 32 := Scalar.addi c0_i32_192 v380
  let v378 : BitVec 32 := Scalar.addi c0_i32_192 v377
  let c1_i32_195 : BitVec 32 := 1#32
  ⟨v381, v378, c1_i32_195⟩
def k0_off68 (i : grid0.Coords) (k0_t39 : Fin (k0_t39_loop i).trips) : Fin 3 → Nat :=
  let c0_i32_192 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v377 : BitVec 32 := Scalar.subi v47 c0_i32_192
  let c1_i32_193 : BitVec 32 := 1#32
  let v379 : BitVec 32 := Scalar.divsi v377 c1_i32_193
  let v380 : BitVec 32 := Scalar.muli v379 c1_i32_193
  let v381 : BitVec 32 := Scalar.addi c0_i32_192 v380
  let c1_i32_195 : BitVec 32 := 1#32
  let arg13 : BitVec 32 := Scf.iv v381 c1_i32_195 k0_t39
  let v834 : Index := Scalar.indexCast arg13
  let c128_379 : Index := 128#32
  let c0_380 : Index := 0#32
  ![v834.toNat, 128, 0]
@[reducible] def k0_t40_loop (i : grid0.Coords) : Scf.Loop 32 :=
  let c0_i32_199 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v389 : BitVec 32 := Scalar.subi v47 c0_i32_199
  let c1_i32_200 : BitVec 32 := 1#32
  let v391 : BitVec 32 := Scalar.divsi v389 c1_i32_200
  let v392 : BitVec 32 := Scalar.muli v391 c1_i32_200
  let v393 : BitVec 32 := Scalar.addi c0_i32_199 v392
  let c1_i32_201 : BitVec 32 := 1#32
  ⟨c0_i32_199, v393, c1_i32_201⟩
def k0_off69 (i : grid0.Coords) (k0_t40 : Fin (k0_t40_loop i).trips) : Fin 3 → Nat :=
  let c0_i32_199 : BitVec 32 := 0#32
  let c1_i32_201 : BitVec 32 := 1#32
  let arg13 : BitVec 32 := Scf.iv c0_i32_199 c1_i32_201 k0_t40
  let v834 : Index := Scalar.indexCast arg13
  let c128_379 : Index := 128#32
  let c0_380 : Index := 0#32
  ![v834.toNat, 128, 0]
@[reducible] def k0_t41_loop (i : grid0.Coords) : Scf.Loop 32 :=
  let c0_i32_199 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v389 : BitVec 32 := Scalar.subi v47 c0_i32_199
  let c1_i32_200 : BitVec 32 := 1#32
  let v391 : BitVec 32 := Scalar.divsi v389 c1_i32_200
  let v392 : BitVec 32 := Scalar.muli v391 c1_i32_200
  let v393 : BitVec 32 := Scalar.addi c0_i32_199 v392
  let v390 : BitVec 32 := Scalar.addi c0_i32_199 v389
  let c1_i32_202 : BitVec 32 := 1#32
  ⟨v393, v390, c1_i32_202⟩
def k0_off70 (i : grid0.Coords) (k0_t41 : Fin (k0_t41_loop i).trips) : Fin 3 → Nat :=
  let c0_i32_199 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v389 : BitVec 32 := Scalar.subi v47 c0_i32_199
  let c1_i32_200 : BitVec 32 := 1#32
  let v391 : BitVec 32 := Scalar.divsi v389 c1_i32_200
  let v392 : BitVec 32 := Scalar.muli v391 c1_i32_200
  let v393 : BitVec 32 := Scalar.addi c0_i32_199 v392
  let c1_i32_202 : BitVec 32 := 1#32
  let arg13 : BitVec 32 := Scf.iv v393 c1_i32_202 k0_t41
  let v834 : Index := Scalar.indexCast arg13
  let c128_379 : Index := 128#32
  let c0_380 : Index := 0#32
  ![v834.toNat, 128, 0]
@[reducible] def k0_t42_loop (i : grid0.Coords) : Scf.Loop 32 :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off71 (i : grid0.Coords) (k0_t42 : Fin (k0_t42_loop i).trips) : Fin 3 → Nat :=
  let c0_i32_379 : BitVec 32 := 0#32
  let c1_i32_381 : BitVec 32 := 1#32
  let arg13 : BitVec 32 := Scf.iv c0_i32_379 c1_i32_381 k0_t42
  let v841 : Index := Scalar.indexCast arg13
  let c128_383 : Index := 128#32
  let c0_384 : Index := 0#32
  ![v841.toNat, 128, 0]
def k0_off72 (i : grid0.Coords) (k0_t42 : Fin (k0_t42_loop i).trips) : Fin 3 → Nat :=
  let c0_i32_379 : BitVec 32 := 0#32
  let c1_i32_381 : BitVec 32 := 1#32
  let arg13 : BitVec 32 := Scf.iv c0_i32_379 c1_i32_381 k0_t42
  let v883 : Index := Scalar.indexCast arg13
  let c128_402 : Index := 128#32
  let c0_403 : Index := 0#32
  ![v883.toNat, 128, 0]
def k0_off73 (i : grid0.Coords) (k0_t42 : Fin (k0_t42_loop i).trips) : Fin 3 → Nat :=
  let c0_i32_379 : BitVec 32 := 0#32
  let c1_i32_381 : BitVec 32 := 1#32
  let arg13 : BitVec 32 := Scf.iv c0_i32_379 c1_i32_381 k0_t42
  let v909 : Index := Scalar.indexCast arg13
  let c128_412 : Index := 128#32
  let c256_413 : Index := 256#32
  ![v909.toNat, 128, 256]
@[reducible] def k0_t43_loop (i : grid0.Coords) : Scf.Loop 32 :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off74 (i : grid0.Coords) (k0_t43 : Fin (k0_t43_loop i).trips) : Fin 3 → Nat :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t43
  let v841 : Index := Scalar.indexCast arg13
  let c128_383 : Index := 128#32
  let c0_384 : Index := 0#32
  ![v841.toNat, 128, 0]
def k0_off75 (i : grid0.Coords) (k0_t43 : Fin (k0_t43_loop i).trips) : Fin 3 → Nat :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t43
  let v883 : Index := Scalar.indexCast arg13
  let c128_402 : Index := 128#32
  let c0_403 : Index := 0#32
  ![v883.toNat, 128, 0]
def k0_off76 (i : grid0.Coords) (k0_t43 : Fin (k0_t43_loop i).trips) : Fin 3 → Nat :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t43
  let v909 : Index := Scalar.indexCast arg13
  let c128_412 : Index := 128#32
  let c256_413 : Index := 256#32
  ![v909.toNat, 128, 256]
@[reducible] def k0_t44_loop (i : grid0.Coords) : Scf.Loop 32 :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off77 (i : grid0.Coords) (k0_t44 : Fin (k0_t44_loop i).trips) : Fin 3 → Nat :=
  let c0_i32_379 : BitVec 32 := 0#32
  let c1_i32_381 : BitVec 32 := 1#32
  let arg13 : BitVec 32 := Scf.iv c0_i32_379 c1_i32_381 k0_t44
  let v839 : Index := Scalar.indexCast arg13
  let c128_383 : Index := 128#32
  let c0_384 : Index := 0#32
  ![v839.toNat, 128, 0]
@[reducible] def k0_t45_loop (i : grid0.Coords) : Scf.Loop 32 :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off78 (i : grid0.Coords) (k0_t45 : Fin (k0_t45_loop i).trips) : Fin 3 → Nat :=
  let c0_i32_379 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v834 : BitVec 32 := Scalar.subi v47 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t45
  let v839 : Index := Scalar.indexCast arg13
  let c128_383 : Index := 128#32
  let c0_384 : Index := 0#32
  ![v839.toNat, 128, 0]
@[reducible] def k0_t46_loop (i : grid0.Coords) : Scf.Loop 32 :=
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_229 : BitVec 32 := 1#32
  ⟨c0_i32_227, v466, c1_i32_229⟩
def k0_mult13 (i : grid0.Coords) (k0_t46 : Fin (k0_t46_loop i).trips) : BitVec 32 :=
  let c0_i32_227 : BitVec 32 := 0#32
  let c1_i32_229 : BitVec 32 := 1#32
  let arg13 : BitVec 32 := Scf.iv c0_i32_227 c1_i32_229 k0_t46
  let c512_i32_379 : BitVec 32 := 512#32
  let v834 : BitVec 32 := Scalar.muli arg13 c512_i32_379
  v834
def k0_off79 (i : grid0.Coords) (k0_t46 : Fin (k0_t46_loop i).trips) : Fin 3 → Nat :=
  let c0_i32_227 : BitVec 32 := 0#32
  let c1_i32_229 : BitVec 32 := 1#32
  let arg13 : BitVec 32 := Scf.iv c0_i32_227 c1_i32_229 k0_t46
  let v836 : Index := Scalar.indexCast arg13
  let c128_380 : Index := 128#32
  let c0_381 : Index := 0#32
  ![v836.toNat, 128, 0]
def k0_off80 (i : grid0.Coords) (k0_t46 : Fin (k0_t46_loop i).trips) : Fin 3 → Nat :=
  let c0_382 : Index := 0#32
  let c0_i32_227 : BitVec 32 := 0#32
  let c1_i32_229 : BitVec 32 := 1#32
  let arg13 : BitVec 32 := Scf.iv c0_i32_227 c1_i32_229 k0_t46
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off81 (i : grid0.Coords) (k0_t46 : Fin (k0_t46_loop i).trips) : Fin 4 → Nat :=
  let c0_385 : Index := 0#32
  let c0_i32_227 : BitVec 32 := 0#32
  let c1_i32_229 : BitVec 32 := 1#32
  let arg13 : BitVec 32 := Scf.iv c0_i32_227 c1_i32_229 k0_t46
  let v845 : Index := Scalar.indexCast arg13
  let c0_386 : Index := 0#32
  let c0_387 : Index := 0#32
  ![0, v845.toNat, 0, 0]
def k0_off82 (i : grid0.Coords) (k0_t46 : Fin (k0_t46_loop i).trips) : Fin 4 → Nat :=
  let c1 : Index := 1#32
  let c0_i32_227 : BitVec 32 := 0#32
  let c1_i32_229 : BitVec 32 := 1#32
  let arg13 : BitVec 32 := Scf.iv c0_i32_227 c1_i32_229 k0_t46
  let v859 : Index := Scalar.indexCast arg13
  let c0_388 : Index := 0#32
  let c0_389 : Index := 0#32
  ![1, v859.toNat, 0, 0]
def k0_off83 (i : grid0.Coords) (k0_t46 : Fin (k0_t46_loop i).trips) : Fin 4 → Nat :=
  let c2 : Index := 2#32
  let c0_i32_227 : BitVec 32 := 0#32
  let c1_i32_229 : BitVec 32 := 1#32
  let arg13 : BitVec 32 := Scf.iv c0_i32_227 c1_i32_229 k0_t46
  let v873 : Index := Scalar.indexCast arg13
  let c0_390 : Index := 0#32
  let c0_391 : Index := 0#32
  ![2, v873.toNat, 0, 0]
def k0_off84 (i : grid0.Coords) (k0_t46 : Fin (k0_t46_loop i).trips) : Fin 4 → Nat :=
  let c3 : Index := 3#32
  let c0_i32_227 : BitVec 32 := 0#32
  let c1_i32_229 : BitVec 32 := 1#32
  let arg13 : BitVec 32 := Scf.iv c0_i32_227 c1_i32_229 k0_t46
  let v887 : Index := Scalar.indexCast arg13
  let c0_392 : Index := 0#32
  let c0_393 : Index := 0#32
  ![3, v887.toNat, 0, 0]
@[reducible] def k0_t47_loop (i : grid0.Coords) : Scf.Loop 32 :=
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let v463 : BitVec 32 := Scalar.addi c0_i32_227 v462
  let c1_i32_230 : BitVec 32 := 1#32
  ⟨v466, v463, c1_i32_230⟩
def k0_mult14 (i : grid0.Coords) (k0_t47 : Fin (k0_t47_loop i).trips) : BitVec 32 :=
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_230 : BitVec 32 := 1#32
  let arg13 : BitVec 32 := Scf.iv v466 c1_i32_230 k0_t47
  let c512_i32_379 : BitVec 32 := 512#32
  let v834 : BitVec 32 := Scalar.muli arg13 c512_i32_379
  v834
def k0_off85 (i : grid0.Coords) (k0_t47 : Fin (k0_t47_loop i).trips) : Fin 3 → Nat :=
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_230 : BitVec 32 := 1#32
  let arg13 : BitVec 32 := Scf.iv v466 c1_i32_230 k0_t47
  let v836 : Index := Scalar.indexCast arg13
  let c128_380 : Index := 128#32
  let c0_381 : Index := 0#32
  ![v836.toNat, 128, 0]
def k0_off86 (i : grid0.Coords) (k0_t47 : Fin (k0_t47_loop i).trips) : Fin 3 → Nat :=
  let c0_382 : Index := 0#32
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_230 : BitVec 32 := 1#32
  let arg13 : BitVec 32 := Scf.iv v466 c1_i32_230 k0_t47
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off87 (i : grid0.Coords) (k0_t47 : Fin (k0_t47_loop i).trips) : Fin 4 → Nat :=
  let c0_385 : Index := 0#32
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_230 : BitVec 32 := 1#32
  let arg13 : BitVec 32 := Scf.iv v466 c1_i32_230 k0_t47
  let v845 : Index := Scalar.indexCast arg13
  let c0_386 : Index := 0#32
  let c0_387 : Index := 0#32
  ![0, v845.toNat, 0, 0]
def k0_off88 (i : grid0.Coords) (k0_t47 : Fin (k0_t47_loop i).trips) : Fin 4 → Nat :=
  let c1 : Index := 1#32
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_230 : BitVec 32 := 1#32
  let arg13 : BitVec 32 := Scf.iv v466 c1_i32_230 k0_t47
  let v859 : Index := Scalar.indexCast arg13
  let c0_388 : Index := 0#32
  let c0_389 : Index := 0#32
  ![1, v859.toNat, 0, 0]
def k0_off89 (i : grid0.Coords) (k0_t47 : Fin (k0_t47_loop i).trips) : Fin 4 → Nat :=
  let c2 : Index := 2#32
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_230 : BitVec 32 := 1#32
  let arg13 : BitVec 32 := Scf.iv v466 c1_i32_230 k0_t47
  let v873 : Index := Scalar.indexCast arg13
  let c0_390 : Index := 0#32
  let c0_391 : Index := 0#32
  ![2, v873.toNat, 0, 0]
def k0_off90 (i : grid0.Coords) (k0_t47 : Fin (k0_t47_loop i).trips) : Fin 4 → Nat :=
  let c3 : Index := 3#32
  let c0_i32_227 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v462 : BitVec 32 := Scalar.subi v47 c0_i32_227
  let c1_i32_228 : BitVec 32 := 1#32
  let v464 : BitVec 32 := Scalar.divsi v462 c1_i32_228
  let v465 : BitVec 32 := Scalar.muli v464 c1_i32_228
  let v466 : BitVec 32 := Scalar.addi c0_i32_227 v465
  let c1_i32_230 : BitVec 32 := 1#32
  let arg13 : BitVec 32 := Scf.iv v466 c1_i32_230 k0_t47
  let v887 : Index := Scalar.indexCast arg13
  let c0_392 : Index := 0#32
  let c0_393 : Index := 0#32
  ![3, v887.toNat, 0, 0]
@[reducible] def k0_t48_loop (i : grid0.Coords) : Scf.Loop 32 :=
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let c1_i32_239 : BitVec 32 := 1#32
  ⟨c0_i32_237, v483, c1_i32_239⟩
def k0_mult15 (i : grid0.Coords) (k0_t48 : Fin (k0_t48_loop i).trips) : BitVec 32 :=
  let c0_i32_237 : BitVec 32 := 0#32
  let c1_i32_239 : BitVec 32 := 1#32
  let arg13 : BitVec 32 := Scf.iv c0_i32_237 c1_i32_239 k0_t48
  let c512_i32_379 : BitVec 32 := 512#32
  let v834 : BitVec 32 := Scalar.muli arg13 c512_i32_379
  v834
def k0_off91 (i : grid0.Coords) (k0_t48 : Fin (k0_t48_loop i).trips) : Fin 3 → Nat :=
  let c0_380 : Index := 0#32
  let c0_i32_237 : BitVec 32 := 0#32
  let c1_i32_239 : BitVec 32 := 1#32
  let arg13 : BitVec 32 := Scf.iv c0_i32_237 c1_i32_239 k0_t48
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off92 (i : grid0.Coords) (k0_t48 : Fin (k0_t48_loop i).trips) : Fin 4 → Nat :=
  let c0_382 : Index := 0#32
  let c0_i32_237 : BitVec 32 := 0#32
  let c1_i32_239 : BitVec 32 := 1#32
  let arg13 : BitVec 32 := Scf.iv c0_i32_237 c1_i32_239 k0_t48
  let v839 : Index := Scalar.indexCast arg13
  let c0_383 : Index := 0#32
  let c0_384 : Index := 0#32
  ![0, v839.toNat, 0, 0]
def k0_off93 (i : grid0.Coords) (k0_t48 : Fin (k0_t48_loop i).trips) : Fin 4 → Nat :=
  let c1 : Index := 1#32
  let c0_i32_237 : BitVec 32 := 0#32
  let c1_i32_239 : BitVec 32 := 1#32
  let arg13 : BitVec 32 := Scf.iv c0_i32_237 c1_i32_239 k0_t48
  let v845 : Index := Scalar.indexCast arg13
  let c0_385 : Index := 0#32
  let c0_386 : Index := 0#32
  ![1, v845.toNat, 0, 0]
def k0_off94 (i : grid0.Coords) (k0_t48 : Fin (k0_t48_loop i).trips) : Fin 4 → Nat :=
  let c2 : Index := 2#32
  let c0_i32_237 : BitVec 32 := 0#32
  let c1_i32_239 : BitVec 32 := 1#32
  let arg13 : BitVec 32 := Scf.iv c0_i32_237 c1_i32_239 k0_t48
  let v851 : Index := Scalar.indexCast arg13
  let c0_387 : Index := 0#32
  let c0_388 : Index := 0#32
  ![2, v851.toNat, 0, 0]
def k0_off95 (i : grid0.Coords) (k0_t48 : Fin (k0_t48_loop i).trips) : Fin 4 → Nat :=
  let c3 : Index := 3#32
  let c0_i32_237 : BitVec 32 := 0#32
  let c1_i32_239 : BitVec 32 := 1#32
  let arg13 : BitVec 32 := Scf.iv c0_i32_237 c1_i32_239 k0_t48
  let v857 : Index := Scalar.indexCast arg13
  let c0_389 : Index := 0#32
  let c0_390 : Index := 0#32
  ![3, v857.toNat, 0, 0]
@[reducible] def k0_t49_loop (i : grid0.Coords) : Scf.Loop 32 :=
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let v480 : BitVec 32 := Scalar.addi c0_i32_237 v479
  let c1_i32_240 : BitVec 32 := 1#32
  ⟨v483, v480, c1_i32_240⟩
def k0_mult16 (i : grid0.Coords) (k0_t49 : Fin (k0_t49_loop i).trips) : BitVec 32 :=
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let c1_i32_240 : BitVec 32 := 1#32
  let arg13 : BitVec 32 := Scf.iv v483 c1_i32_240 k0_t49
  let c512_i32_379 : BitVec 32 := 512#32
  let v834 : BitVec 32 := Scalar.muli arg13 c512_i32_379
  v834
def k0_off96 (i : grid0.Coords) (k0_t49 : Fin (k0_t49_loop i).trips) : Fin 3 → Nat :=
  let c0_380 : Index := 0#32
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let c1_i32_240 : BitVec 32 := 1#32
  let arg13 : BitVec 32 := Scf.iv v483 c1_i32_240 k0_t49
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off97 (i : grid0.Coords) (k0_t49 : Fin (k0_t49_loop i).trips) : Fin 4 → Nat :=
  let c0_382 : Index := 0#32
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let c1_i32_240 : BitVec 32 := 1#32
  let arg13 : BitVec 32 := Scf.iv v483 c1_i32_240 k0_t49
  let v839 : Index := Scalar.indexCast arg13
  let c0_383 : Index := 0#32
  let c0_384 : Index := 0#32
  ![0, v839.toNat, 0, 0]
def k0_off98 (i : grid0.Coords) (k0_t49 : Fin (k0_t49_loop i).trips) : Fin 4 → Nat :=
  let c1 : Index := 1#32
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let c1_i32_240 : BitVec 32 := 1#32
  let arg13 : BitVec 32 := Scf.iv v483 c1_i32_240 k0_t49
  let v845 : Index := Scalar.indexCast arg13
  let c0_385 : Index := 0#32
  let c0_386 : Index := 0#32
  ![1, v845.toNat, 0, 0]
def k0_off99 (i : grid0.Coords) (k0_t49 : Fin (k0_t49_loop i).trips) : Fin 4 → Nat :=
  let c2 : Index := 2#32
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let c1_i32_240 : BitVec 32 := 1#32
  let arg13 : BitVec 32 := Scf.iv v483 c1_i32_240 k0_t49
  let v851 : Index := Scalar.indexCast arg13
  let c0_387 : Index := 0#32
  let c0_388 : Index := 0#32
  ![2, v851.toNat, 0, 0]
def k0_off100 (i : grid0.Coords) (k0_t49 : Fin (k0_t49_loop i).trips) : Fin 4 → Nat :=
  let c3 : Index := 3#32
  let c0_i32_237 : BitVec 32 := 0#32
  let arg1 : BitVec 32 := BitVec.ofNat 32 (i 1).val
  let c512_i32_8 : BitVec 32 := 512#32
  let v26 : BitVec 32 := Scalar.muli arg1 c512_i32_8
  let c128_i32_9 : BitVec 32 := 128#32
  let v27 : BitVec 32 := Scalar.addi v26 c128_i32_9
  let c128_i32_10 : BitVec 32 := 128#32
  let v28 : BitVec 32 := Scalar.addi v27 c128_i32_10
  let c512_i32_11 : BitVec 32 := 512#32
  let v29 : BitVec 32 := Scalar.addi v28 c512_i32_11
  let c1_i32_12 : BitVec 32 := 1#32
  let v30 : BitVec 32 := Scalar.subi v29 c1_i32_12
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c512_i32_13 : BitVec 32 := 512#32
  let c0_i32_16 : BitVec 32 := 0#32
  let v37 : BitVec 1 := Scalar.cmpi .sgt c512_i32_13 c0_i32_16
  let v38 : BitVec 32 := Scalar.extui v37
  let c0_i32_17 : BitVec 32 := 0#32
  let v39 : BitVec 1 := Scalar.cmpi .slt c512_i32_13 c0_i32_17
  let v40 : BitVec 32 := Scalar.extui v39
  let v41 : BitVec 32 := Scalar.subi v38 v40
  let v42 : BitVec 1 := Scalar.cmpi .ne v36 v41
  let v43 : BitVec 32 := Scalar.remsi v30 c512_i32_13
  let c0_i32_18 : BitVec 32 := 0#32
  let v44 : BitVec 1 := Scalar.cmpi .ne v43 c0_i32_18
  let v45 : BitVec 1 := Scalar.andi v42 v44
  let v31 : BitVec 32 := Scalar.divsi v30 c512_i32_13
  let c1_i32_19 : BitVec 32 := 1#32
  let v46 : BitVec 32 := Scalar.subi v31 c1_i32_19
  let v47 : BitVec 32 := Scalar.select v45 v46 v31
  let v479 : BitVec 32 := Scalar.subi v47 c0_i32_237
  let c1_i32_238 : BitVec 32 := 1#32
  let v481 : BitVec 32 := Scalar.divsi v479 c1_i32_238
  let v482 : BitVec 32 := Scalar.muli v481 c1_i32_238
  let v483 : BitVec 32 := Scalar.addi c0_i32_237 v482
  let c1_i32_240 : BitVec 32 := 1#32
  let arg13 : BitVec 32 := Scf.iv v483 c1_i32_240 k0_t49
  let v857 : Index := Scalar.indexCast arg13
  let c0_389 : Index := 0#32
  let c0_390 : Index := 0#32
  ![3, v857.toNat, 0, 0]
@[reducible] def k0_t50_loop (i : grid0.Coords) : Scf.Loop 32 :=
  let c0_i32_256 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v533 : BitVec 32 := Scalar.subi v73 c0_i32_256
  let c1_i32_257 : BitVec 32 := 1#32
  let v535 : BitVec 32 := Scalar.divsi v533 c1_i32_257
  let v536 : BitVec 32 := Scalar.muli v535 c1_i32_257
  let v537 : BitVec 32 := Scalar.addi c0_i32_256 v536
  let c1_i32_258 : BitVec 32 := 1#32
  ⟨c0_i32_256, v537, c1_i32_258⟩
def k0_off101 (i : grid0.Coords) (k0_t50 : Fin (k0_t50_loop i).trips) : Fin 3 → Nat :=
  let c0_i32_256 : BitVec 32 := 0#32
  let c1_i32_258 : BitVec 32 := 1#32
  let arg13 : BitVec 32 := Scf.iv c0_i32_256 c1_i32_258 k0_t50
  let v834 : Index := Scalar.indexCast arg13
  let c256_379 : Index := 256#32
  let c0_380 : Index := 0#32
  ![v834.toNat, 256, 0]
@[reducible] def k0_t51_loop (i : grid0.Coords) : Scf.Loop 32 :=
  let c0_i32_256 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v533 : BitVec 32 := Scalar.subi v73 c0_i32_256
  let c1_i32_257 : BitVec 32 := 1#32
  let v535 : BitVec 32 := Scalar.divsi v533 c1_i32_257
  let v536 : BitVec 32 := Scalar.muli v535 c1_i32_257
  let v537 : BitVec 32 := Scalar.addi c0_i32_256 v536
  let v534 : BitVec 32 := Scalar.addi c0_i32_256 v533
  let c1_i32_259 : BitVec 32 := 1#32
  ⟨v537, v534, c1_i32_259⟩
def k0_off102 (i : grid0.Coords) (k0_t51 : Fin (k0_t51_loop i).trips) : Fin 3 → Nat :=
  let c0_i32_256 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v533 : BitVec 32 := Scalar.subi v73 c0_i32_256
  let c1_i32_257 : BitVec 32 := 1#32
  let v535 : BitVec 32 := Scalar.divsi v533 c1_i32_257
  let v536 : BitVec 32 := Scalar.muli v535 c1_i32_257
  let v537 : BitVec 32 := Scalar.addi c0_i32_256 v536
  let c1_i32_259 : BitVec 32 := 1#32
  let arg13 : BitVec 32 := Scf.iv v537 c1_i32_259 k0_t51
  let v834 : Index := Scalar.indexCast arg13
  let c256_379 : Index := 256#32
  let c0_380 : Index := 0#32
  ![v834.toNat, 256, 0]
@[reducible] def k0_t52_loop (i : grid0.Coords) : Scf.Loop 32 :=
  let c0_i32_263 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v545 : BitVec 32 := Scalar.subi v73 c0_i32_263
  let c1_i32_264 : BitVec 32 := 1#32
  let v547 : BitVec 32 := Scalar.divsi v545 c1_i32_264
  let v548 : BitVec 32 := Scalar.muli v547 c1_i32_264
  let v549 : BitVec 32 := Scalar.addi c0_i32_263 v548
  let c1_i32_265 : BitVec 32 := 1#32
  ⟨c0_i32_263, v549, c1_i32_265⟩
def k0_off103 (i : grid0.Coords) (k0_t52 : Fin (k0_t52_loop i).trips) : Fin 3 → Nat :=
  let c0_i32_263 : BitVec 32 := 0#32
  let c1_i32_265 : BitVec 32 := 1#32
  let arg13 : BitVec 32 := Scf.iv c0_i32_263 c1_i32_265 k0_t52
  let v834 : Index := Scalar.indexCast arg13
  let c256_379 : Index := 256#32
  let c0_380 : Index := 0#32
  ![v834.toNat, 256, 0]
@[reducible] def k0_t53_loop (i : grid0.Coords) : Scf.Loop 32 :=
  let c0_i32_263 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v545 : BitVec 32 := Scalar.subi v73 c0_i32_263
  let c1_i32_264 : BitVec 32 := 1#32
  let v547 : BitVec 32 := Scalar.divsi v545 c1_i32_264
  let v548 : BitVec 32 := Scalar.muli v547 c1_i32_264
  let v549 : BitVec 32 := Scalar.addi c0_i32_263 v548
  let v546 : BitVec 32 := Scalar.addi c0_i32_263 v545
  let c1_i32_266 : BitVec 32 := 1#32
  ⟨v549, v546, c1_i32_266⟩
def k0_off104 (i : grid0.Coords) (k0_t53 : Fin (k0_t53_loop i).trips) : Fin 3 → Nat :=
  let c0_i32_263 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v545 : BitVec 32 := Scalar.subi v73 c0_i32_263
  let c1_i32_264 : BitVec 32 := 1#32
  let v547 : BitVec 32 := Scalar.divsi v545 c1_i32_264
  let v548 : BitVec 32 := Scalar.muli v547 c1_i32_264
  let v549 : BitVec 32 := Scalar.addi c0_i32_263 v548
  let c1_i32_266 : BitVec 32 := 1#32
  let arg13 : BitVec 32 := Scf.iv v549 c1_i32_266 k0_t53
  let v834 : Index := Scalar.indexCast arg13
  let c256_379 : Index := 256#32
  let c0_380 : Index := 0#32
  ![v834.toNat, 256, 0]
@[reducible] def k0_t54_loop (i : grid0.Coords) : Scf.Loop 32 :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off105 (i : grid0.Coords) (k0_t54 : Fin (k0_t54_loop i).trips) : Fin 3 → Nat :=
  let c0_i32_379 : BitVec 32 := 0#32
  let c1_i32_381 : BitVec 32 := 1#32
  let arg13 : BitVec 32 := Scf.iv c0_i32_379 c1_i32_381 k0_t54
  let v841 : Index := Scalar.indexCast arg13
  let c256_383 : Index := 256#32
  let c0_384 : Index := 0#32
  ![v841.toNat, 256, 0]
def k0_off106 (i : grid0.Coords) (k0_t54 : Fin (k0_t54_loop i).trips) : Fin 3 → Nat :=
  let c0_i32_379 : BitVec 32 := 0#32
  let c1_i32_381 : BitVec 32 := 1#32
  let arg13 : BitVec 32 := Scf.iv c0_i32_379 c1_i32_381 k0_t54
  let v883 : Index := Scalar.indexCast arg13
  let c256_402 : Index := 256#32
  let c0_403 : Index := 0#32
  ![v883.toNat, 256, 0]
def k0_off107 (i : grid0.Coords) (k0_t54 : Fin (k0_t54_loop i).trips) : Fin 3 → Nat :=
  let c0_i32_379 : BitVec 32 := 0#32
  let c1_i32_381 : BitVec 32 := 1#32
  let arg13 : BitVec 32 := Scf.iv c0_i32_379 c1_i32_381 k0_t54
  let v909 : Index := Scalar.indexCast arg13
  let c256_412 : Index := 256#32
  let c256_413 : Index := 256#32
  ![v909.toNat, 256, 256]
@[reducible] def k0_t55_loop (i : grid0.Coords) : Scf.Loop 32 :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off108 (i : grid0.Coords) (k0_t55 : Fin (k0_t55_loop i).trips) : Fin 3 → Nat :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t55
  let v841 : Index := Scalar.indexCast arg13
  let c256_383 : Index := 256#32
  let c0_384 : Index := 0#32
  ![v841.toNat, 256, 0]
def k0_off109 (i : grid0.Coords) (k0_t55 : Fin (k0_t55_loop i).trips) : Fin 3 → Nat :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t55
  let v883 : Index := Scalar.indexCast arg13
  let c256_402 : Index := 256#32
  let c0_403 : Index := 0#32
  ![v883.toNat, 256, 0]
def k0_off110 (i : grid0.Coords) (k0_t55 : Fin (k0_t55_loop i).trips) : Fin 3 → Nat :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t55
  let v909 : Index := Scalar.indexCast arg13
  let c256_412 : Index := 256#32
  let c256_413 : Index := 256#32
  ![v909.toNat, 256, 256]
@[reducible] def k0_t56_loop (i : grid0.Coords) : Scf.Loop 32 :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off111 (i : grid0.Coords) (k0_t56 : Fin (k0_t56_loop i).trips) : Fin 3 → Nat :=
  let c0_i32_379 : BitVec 32 := 0#32
  let c1_i32_381 : BitVec 32 := 1#32
  let arg13 : BitVec 32 := Scf.iv c0_i32_379 c1_i32_381 k0_t56
  let v839 : Index := Scalar.indexCast arg13
  let c256_383 : Index := 256#32
  let c0_384 : Index := 0#32
  ![v839.toNat, 256, 0]
@[reducible] def k0_t57_loop (i : grid0.Coords) : Scf.Loop 32 :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off112 (i : grid0.Coords) (k0_t57 : Fin (k0_t57_loop i).trips) : Fin 3 → Nat :=
  let c0_i32_379 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v834 : BitVec 32 := Scalar.subi v73 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t57
  let v839 : Index := Scalar.indexCast arg13
  let c256_383 : Index := 256#32
  let c0_384 : Index := 0#32
  ![v839.toNat, 256, 0]
@[reducible] def k0_t58_loop (i : grid0.Coords) : Scf.Loop 32 :=
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_293 : BitVec 32 := 1#32
  ⟨c0_i32_291, v622, c1_i32_293⟩
def k0_mult17 (i : grid0.Coords) (k0_t58 : Fin (k0_t58_loop i).trips) : BitVec 32 :=
  let c0_i32_291 : BitVec 32 := 0#32
  let c1_i32_293 : BitVec 32 := 1#32
  let arg13 : BitVec 32 := Scf.iv c0_i32_291 c1_i32_293 k0_t58
  let c512_i32_379 : BitVec 32 := 512#32
  let v834 : BitVec 32 := Scalar.muli arg13 c512_i32_379
  v834
def k0_off113 (i : grid0.Coords) (k0_t58 : Fin (k0_t58_loop i).trips) : Fin 3 → Nat :=
  let c0_i32_291 : BitVec 32 := 0#32
  let c1_i32_293 : BitVec 32 := 1#32
  let arg13 : BitVec 32 := Scf.iv c0_i32_291 c1_i32_293 k0_t58
  let v836 : Index := Scalar.indexCast arg13
  let c256_380 : Index := 256#32
  let c0_381 : Index := 0#32
  ![v836.toNat, 256, 0]
def k0_off114 (i : grid0.Coords) (k0_t58 : Fin (k0_t58_loop i).trips) : Fin 3 → Nat :=
  let c0_382 : Index := 0#32
  let c0_i32_291 : BitVec 32 := 0#32
  let c1_i32_293 : BitVec 32 := 1#32
  let arg13 : BitVec 32 := Scf.iv c0_i32_291 c1_i32_293 k0_t58
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off115 (i : grid0.Coords) (k0_t58 : Fin (k0_t58_loop i).trips) : Fin 4 → Nat :=
  let c0_385 : Index := 0#32
  let c0_i32_291 : BitVec 32 := 0#32
  let c1_i32_293 : BitVec 32 := 1#32
  let arg13 : BitVec 32 := Scf.iv c0_i32_291 c1_i32_293 k0_t58
  let v845 : Index := Scalar.indexCast arg13
  let c0_386 : Index := 0#32
  let c0_387 : Index := 0#32
  ![0, v845.toNat, 0, 0]
def k0_off116 (i : grid0.Coords) (k0_t58 : Fin (k0_t58_loop i).trips) : Fin 4 → Nat :=
  let c1 : Index := 1#32
  let c0_i32_291 : BitVec 32 := 0#32
  let c1_i32_293 : BitVec 32 := 1#32
  let arg13 : BitVec 32 := Scf.iv c0_i32_291 c1_i32_293 k0_t58
  let v859 : Index := Scalar.indexCast arg13
  let c0_388 : Index := 0#32
  let c0_389 : Index := 0#32
  ![1, v859.toNat, 0, 0]
def k0_off117 (i : grid0.Coords) (k0_t58 : Fin (k0_t58_loop i).trips) : Fin 4 → Nat :=
  let c2 : Index := 2#32
  let c0_i32_291 : BitVec 32 := 0#32
  let c1_i32_293 : BitVec 32 := 1#32
  let arg13 : BitVec 32 := Scf.iv c0_i32_291 c1_i32_293 k0_t58
  let v873 : Index := Scalar.indexCast arg13
  let c0_390 : Index := 0#32
  let c0_391 : Index := 0#32
  ![2, v873.toNat, 0, 0]
def k0_off118 (i : grid0.Coords) (k0_t58 : Fin (k0_t58_loop i).trips) : Fin 4 → Nat :=
  let c3 : Index := 3#32
  let c0_i32_291 : BitVec 32 := 0#32
  let c1_i32_293 : BitVec 32 := 1#32
  let arg13 : BitVec 32 := Scf.iv c0_i32_291 c1_i32_293 k0_t58
  let v887 : Index := Scalar.indexCast arg13
  let c0_392 : Index := 0#32
  let c0_393 : Index := 0#32
  ![3, v887.toNat, 0, 0]
@[reducible] def k0_t59_loop (i : grid0.Coords) : Scf.Loop 32 :=
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let v619 : BitVec 32 := Scalar.addi c0_i32_291 v618
  let c1_i32_294 : BitVec 32 := 1#32
  ⟨v622, v619, c1_i32_294⟩
def k0_mult18 (i : grid0.Coords) (k0_t59 : Fin (k0_t59_loop i).trips) : BitVec 32 :=
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_294 : BitVec 32 := 1#32
  let arg13 : BitVec 32 := Scf.iv v622 c1_i32_294 k0_t59
  let c512_i32_379 : BitVec 32 := 512#32
  let v834 : BitVec 32 := Scalar.muli arg13 c512_i32_379
  v834
def k0_off119 (i : grid0.Coords) (k0_t59 : Fin (k0_t59_loop i).trips) : Fin 3 → Nat :=
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_294 : BitVec 32 := 1#32
  let arg13 : BitVec 32 := Scf.iv v622 c1_i32_294 k0_t59
  let v836 : Index := Scalar.indexCast arg13
  let c256_380 : Index := 256#32
  let c0_381 : Index := 0#32
  ![v836.toNat, 256, 0]
def k0_off120 (i : grid0.Coords) (k0_t59 : Fin (k0_t59_loop i).trips) : Fin 3 → Nat :=
  let c0_382 : Index := 0#32
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_294 : BitVec 32 := 1#32
  let arg13 : BitVec 32 := Scf.iv v622 c1_i32_294 k0_t59
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off121 (i : grid0.Coords) (k0_t59 : Fin (k0_t59_loop i).trips) : Fin 4 → Nat :=
  let c0_385 : Index := 0#32
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_294 : BitVec 32 := 1#32
  let arg13 : BitVec 32 := Scf.iv v622 c1_i32_294 k0_t59
  let v845 : Index := Scalar.indexCast arg13
  let c0_386 : Index := 0#32
  let c0_387 : Index := 0#32
  ![0, v845.toNat, 0, 0]
def k0_off122 (i : grid0.Coords) (k0_t59 : Fin (k0_t59_loop i).trips) : Fin 4 → Nat :=
  let c1 : Index := 1#32
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_294 : BitVec 32 := 1#32
  let arg13 : BitVec 32 := Scf.iv v622 c1_i32_294 k0_t59
  let v859 : Index := Scalar.indexCast arg13
  let c0_388 : Index := 0#32
  let c0_389 : Index := 0#32
  ![1, v859.toNat, 0, 0]
def k0_off123 (i : grid0.Coords) (k0_t59 : Fin (k0_t59_loop i).trips) : Fin 4 → Nat :=
  let c2 : Index := 2#32
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_294 : BitVec 32 := 1#32
  let arg13 : BitVec 32 := Scf.iv v622 c1_i32_294 k0_t59
  let v873 : Index := Scalar.indexCast arg13
  let c0_390 : Index := 0#32
  let c0_391 : Index := 0#32
  ![2, v873.toNat, 0, 0]
def k0_off124 (i : grid0.Coords) (k0_t59 : Fin (k0_t59_loop i).trips) : Fin 4 → Nat :=
  let c3 : Index := 3#32
  let c0_i32_291 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v618 : BitVec 32 := Scalar.subi v73 c0_i32_291
  let c1_i32_292 : BitVec 32 := 1#32
  let v620 : BitVec 32 := Scalar.divsi v618 c1_i32_292
  let v621 : BitVec 32 := Scalar.muli v620 c1_i32_292
  let v622 : BitVec 32 := Scalar.addi c0_i32_291 v621
  let c1_i32_294 : BitVec 32 := 1#32
  let arg13 : BitVec 32 := Scf.iv v622 c1_i32_294 k0_t59
  let v887 : Index := Scalar.indexCast arg13
  let c0_392 : Index := 0#32
  let c0_393 : Index := 0#32
  ![3, v887.toNat, 0, 0]
@[reducible] def k0_t60_loop (i : grid0.Coords) : Scf.Loop 32 :=
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let c1_i32_303 : BitVec 32 := 1#32
  ⟨c0_i32_301, v639, c1_i32_303⟩
def k0_mult19 (i : grid0.Coords) (k0_t60 : Fin (k0_t60_loop i).trips) : BitVec 32 :=
  let c0_i32_301 : BitVec 32 := 0#32
  let c1_i32_303 : BitVec 32 := 1#32
  let arg13 : BitVec 32 := Scf.iv c0_i32_301 c1_i32_303 k0_t60
  let c512_i32_379 : BitVec 32 := 512#32
  let v834 : BitVec 32 := Scalar.muli arg13 c512_i32_379
  v834
def k0_off125 (i : grid0.Coords) (k0_t60 : Fin (k0_t60_loop i).trips) : Fin 3 → Nat :=
  let c0_380 : Index := 0#32
  let c0_i32_301 : BitVec 32 := 0#32
  let c1_i32_303 : BitVec 32 := 1#32
  let arg13 : BitVec 32 := Scf.iv c0_i32_301 c1_i32_303 k0_t60
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off126 (i : grid0.Coords) (k0_t60 : Fin (k0_t60_loop i).trips) : Fin 4 → Nat :=
  let c0_382 : Index := 0#32
  let c0_i32_301 : BitVec 32 := 0#32
  let c1_i32_303 : BitVec 32 := 1#32
  let arg13 : BitVec 32 := Scf.iv c0_i32_301 c1_i32_303 k0_t60
  let v839 : Index := Scalar.indexCast arg13
  let c0_383 : Index := 0#32
  let c0_384 : Index := 0#32
  ![0, v839.toNat, 0, 0]
def k0_off127 (i : grid0.Coords) (k0_t60 : Fin (k0_t60_loop i).trips) : Fin 4 → Nat :=
  let c1 : Index := 1#32
  let c0_i32_301 : BitVec 32 := 0#32
  let c1_i32_303 : BitVec 32 := 1#32
  let arg13 : BitVec 32 := Scf.iv c0_i32_301 c1_i32_303 k0_t60
  let v845 : Index := Scalar.indexCast arg13
  let c0_385 : Index := 0#32
  let c0_386 : Index := 0#32
  ![1, v845.toNat, 0, 0]
def k0_off128 (i : grid0.Coords) (k0_t60 : Fin (k0_t60_loop i).trips) : Fin 4 → Nat :=
  let c2 : Index := 2#32
  let c0_i32_301 : BitVec 32 := 0#32
  let c1_i32_303 : BitVec 32 := 1#32
  let arg13 : BitVec 32 := Scf.iv c0_i32_301 c1_i32_303 k0_t60
  let v851 : Index := Scalar.indexCast arg13
  let c0_387 : Index := 0#32
  let c0_388 : Index := 0#32
  ![2, v851.toNat, 0, 0]
def k0_off129 (i : grid0.Coords) (k0_t60 : Fin (k0_t60_loop i).trips) : Fin 4 → Nat :=
  let c3 : Index := 3#32
  let c0_i32_301 : BitVec 32 := 0#32
  let c1_i32_303 : BitVec 32 := 1#32
  let arg13 : BitVec 32 := Scf.iv c0_i32_301 c1_i32_303 k0_t60
  let v857 : Index := Scalar.indexCast arg13
  let c0_389 : Index := 0#32
  let c0_390 : Index := 0#32
  ![3, v857.toNat, 0, 0]
@[reducible] def k0_t61_loop (i : grid0.Coords) : Scf.Loop 32 :=
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let v636 : BitVec 32 := Scalar.addi c0_i32_301 v635
  let c1_i32_304 : BitVec 32 := 1#32
  ⟨v639, v636, c1_i32_304⟩
def k0_mult20 (i : grid0.Coords) (k0_t61 : Fin (k0_t61_loop i).trips) : BitVec 32 :=
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let c1_i32_304 : BitVec 32 := 1#32
  let arg13 : BitVec 32 := Scf.iv v639 c1_i32_304 k0_t61
  let c512_i32_379 : BitVec 32 := 512#32
  let v834 : BitVec 32 := Scalar.muli arg13 c512_i32_379
  v834
def k0_off130 (i : grid0.Coords) (k0_t61 : Fin (k0_t61_loop i).trips) : Fin 3 → Nat :=
  let c0_380 : Index := 0#32
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let c1_i32_304 : BitVec 32 := 1#32
  let arg13 : BitVec 32 := Scf.iv v639 c1_i32_304 k0_t61
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off131 (i : grid0.Coords) (k0_t61 : Fin (k0_t61_loop i).trips) : Fin 4 → Nat :=
  let c0_382 : Index := 0#32
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let c1_i32_304 : BitVec 32 := 1#32
  let arg13 : BitVec 32 := Scf.iv v639 c1_i32_304 k0_t61
  let v839 : Index := Scalar.indexCast arg13
  let c0_383 : Index := 0#32
  let c0_384 : Index := 0#32
  ![0, v839.toNat, 0, 0]
def k0_off132 (i : grid0.Coords) (k0_t61 : Fin (k0_t61_loop i).trips) : Fin 4 → Nat :=
  let c1 : Index := 1#32
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let c1_i32_304 : BitVec 32 := 1#32
  let arg13 : BitVec 32 := Scf.iv v639 c1_i32_304 k0_t61
  let v845 : Index := Scalar.indexCast arg13
  let c0_385 : Index := 0#32
  let c0_386 : Index := 0#32
  ![1, v845.toNat, 0, 0]
def k0_off133 (i : grid0.Coords) (k0_t61 : Fin (k0_t61_loop i).trips) : Fin 4 → Nat :=
  let c2 : Index := 2#32
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let c1_i32_304 : BitVec 32 := 1#32
  let arg13 : BitVec 32 := Scf.iv v639 c1_i32_304 k0_t61
  let v851 : Index := Scalar.indexCast arg13
  let c0_387 : Index := 0#32
  let c0_388 : Index := 0#32
  ![2, v851.toNat, 0, 0]
def k0_off134 (i : grid0.Coords) (k0_t61 : Fin (k0_t61_loop i).trips) : Fin 4 → Nat :=
  let c3 : Index := 3#32
  let c0_i32_301 : BitVec 32 := 0#32
  let arg1 : BitVec 32 := BitVec.ofNat 32 (i 1).val
  let c512_i32_21 : BitVec 32 := 512#32
  let v52 : BitVec 32 := Scalar.muli arg1 c512_i32_21
  let c256_i32 : BitVec 32 := 256#32
  let v53 : BitVec 32 := Scalar.addi v52 c256_i32
  let c128_i32_22 : BitVec 32 := 128#32
  let v54 : BitVec 32 := Scalar.addi v53 c128_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v635 : BitVec 32 := Scalar.subi v73 c0_i32_301
  let c1_i32_302 : BitVec 32 := 1#32
  let v637 : BitVec 32 := Scalar.divsi v635 c1_i32_302
  let v638 : BitVec 32 := Scalar.muli v637 c1_i32_302
  let v639 : BitVec 32 := Scalar.addi c0_i32_301 v638
  let c1_i32_304 : BitVec 32 := 1#32
  let arg13 : BitVec 32 := Scf.iv v639 c1_i32_304 k0_t61
  let v857 : Index := Scalar.indexCast arg13
  let c0_389 : Index := 0#32
  let c0_390 : Index := 0#32
  ![3, v857.toNat, 0, 0]
@[reducible] def k0_t62_loop (i : grid0.Coords) : Scf.Loop 32 :=
  let c0_i32_320 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v689 : BitVec 32 := Scalar.subi v99 c0_i32_320
  let c1_i32_321 : BitVec 32 := 1#32
  let v691 : BitVec 32 := Scalar.divsi v689 c1_i32_321
  let v692 : BitVec 32 := Scalar.muli v691 c1_i32_321
  let v693 : BitVec 32 := Scalar.addi c0_i32_320 v692
  let c1_i32_322 : BitVec 32 := 1#32
  ⟨c0_i32_320, v693, c1_i32_322⟩
def k0_off135 (i : grid0.Coords) (k0_t62 : Fin (k0_t62_loop i).trips) : Fin 3 → Nat :=
  let c0_i32_320 : BitVec 32 := 0#32
  let c1_i32_322 : BitVec 32 := 1#32
  let arg13 : BitVec 32 := Scf.iv c0_i32_320 c1_i32_322 k0_t62
  let v834 : Index := Scalar.indexCast arg13
  let c384_379 : Index := 384#32
  let c0_380 : Index := 0#32
  ![v834.toNat, 384, 0]
@[reducible] def k0_t63_loop (i : grid0.Coords) : Scf.Loop 32 :=
  let c0_i32_320 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v689 : BitVec 32 := Scalar.subi v99 c0_i32_320
  let c1_i32_321 : BitVec 32 := 1#32
  let v691 : BitVec 32 := Scalar.divsi v689 c1_i32_321
  let v692 : BitVec 32 := Scalar.muli v691 c1_i32_321
  let v693 : BitVec 32 := Scalar.addi c0_i32_320 v692
  let v690 : BitVec 32 := Scalar.addi c0_i32_320 v689
  let c1_i32_323 : BitVec 32 := 1#32
  ⟨v693, v690, c1_i32_323⟩
def k0_off136 (i : grid0.Coords) (k0_t63 : Fin (k0_t63_loop i).trips) : Fin 3 → Nat :=
  let c0_i32_320 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v689 : BitVec 32 := Scalar.subi v99 c0_i32_320
  let c1_i32_321 : BitVec 32 := 1#32
  let v691 : BitVec 32 := Scalar.divsi v689 c1_i32_321
  let v692 : BitVec 32 := Scalar.muli v691 c1_i32_321
  let v693 : BitVec 32 := Scalar.addi c0_i32_320 v692
  let c1_i32_323 : BitVec 32 := 1#32
  let arg13 : BitVec 32 := Scf.iv v693 c1_i32_323 k0_t63
  let v834 : Index := Scalar.indexCast arg13
  let c384_379 : Index := 384#32
  let c0_380 : Index := 0#32
  ![v834.toNat, 384, 0]
@[reducible] def k0_t64_loop (i : grid0.Coords) : Scf.Loop 32 :=
  let c0_i32_327 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v701 : BitVec 32 := Scalar.subi v99 c0_i32_327
  let c1_i32_328 : BitVec 32 := 1#32
  let v703 : BitVec 32 := Scalar.divsi v701 c1_i32_328
  let v704 : BitVec 32 := Scalar.muli v703 c1_i32_328
  let v705 : BitVec 32 := Scalar.addi c0_i32_327 v704
  let c1_i32_329 : BitVec 32 := 1#32
  ⟨c0_i32_327, v705, c1_i32_329⟩
def k0_off137 (i : grid0.Coords) (k0_t64 : Fin (k0_t64_loop i).trips) : Fin 3 → Nat :=
  let c0_i32_327 : BitVec 32 := 0#32
  let c1_i32_329 : BitVec 32 := 1#32
  let arg13 : BitVec 32 := Scf.iv c0_i32_327 c1_i32_329 k0_t64
  let v834 : Index := Scalar.indexCast arg13
  let c384_379 : Index := 384#32
  let c0_380 : Index := 0#32
  ![v834.toNat, 384, 0]
@[reducible] def k0_t65_loop (i : grid0.Coords) : Scf.Loop 32 :=
  let c0_i32_327 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v701 : BitVec 32 := Scalar.subi v99 c0_i32_327
  let c1_i32_328 : BitVec 32 := 1#32
  let v703 : BitVec 32 := Scalar.divsi v701 c1_i32_328
  let v704 : BitVec 32 := Scalar.muli v703 c1_i32_328
  let v705 : BitVec 32 := Scalar.addi c0_i32_327 v704
  let v702 : BitVec 32 := Scalar.addi c0_i32_327 v701
  let c1_i32_330 : BitVec 32 := 1#32
  ⟨v705, v702, c1_i32_330⟩
def k0_off138 (i : grid0.Coords) (k0_t65 : Fin (k0_t65_loop i).trips) : Fin 3 → Nat :=
  let c0_i32_327 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v701 : BitVec 32 := Scalar.subi v99 c0_i32_327
  let c1_i32_328 : BitVec 32 := 1#32
  let v703 : BitVec 32 := Scalar.divsi v701 c1_i32_328
  let v704 : BitVec 32 := Scalar.muli v703 c1_i32_328
  let v705 : BitVec 32 := Scalar.addi c0_i32_327 v704
  let c1_i32_330 : BitVec 32 := 1#32
  let arg13 : BitVec 32 := Scf.iv v705 c1_i32_330 k0_t65
  let v834 : Index := Scalar.indexCast arg13
  let c384_379 : Index := 384#32
  let c0_380 : Index := 0#32
  ![v834.toNat, 384, 0]
@[reducible] def k0_t66_loop (i : grid0.Coords) : Scf.Loop 32 :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off139 (i : grid0.Coords) (k0_t66 : Fin (k0_t66_loop i).trips) : Fin 3 → Nat :=
  let c0_i32_379 : BitVec 32 := 0#32
  let c1_i32_381 : BitVec 32 := 1#32
  let arg13 : BitVec 32 := Scf.iv c0_i32_379 c1_i32_381 k0_t66
  let v841 : Index := Scalar.indexCast arg13
  let c384_383 : Index := 384#32
  let c0_384 : Index := 0#32
  ![v841.toNat, 384, 0]
def k0_off140 (i : grid0.Coords) (k0_t66 : Fin (k0_t66_loop i).trips) : Fin 3 → Nat :=
  let c0_i32_379 : BitVec 32 := 0#32
  let c1_i32_381 : BitVec 32 := 1#32
  let arg13 : BitVec 32 := Scf.iv c0_i32_379 c1_i32_381 k0_t66
  let v883 : Index := Scalar.indexCast arg13
  let c384_402 : Index := 384#32
  let c0_403 : Index := 0#32
  ![v883.toNat, 384, 0]
def k0_off141 (i : grid0.Coords) (k0_t66 : Fin (k0_t66_loop i).trips) : Fin 3 → Nat :=
  let c0_i32_379 : BitVec 32 := 0#32
  let c1_i32_381 : BitVec 32 := 1#32
  let arg13 : BitVec 32 := Scf.iv c0_i32_379 c1_i32_381 k0_t66
  let v909 : Index := Scalar.indexCast arg13
  let c384_412 : Index := 384#32
  let c256_413 : Index := 256#32
  ![v909.toNat, 384, 256]
@[reducible] def k0_t67_loop (i : grid0.Coords) : Scf.Loop 32 :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off142 (i : grid0.Coords) (k0_t67 : Fin (k0_t67_loop i).trips) : Fin 3 → Nat :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t67
  let v841 : Index := Scalar.indexCast arg13
  let c384_383 : Index := 384#32
  let c0_384 : Index := 0#32
  ![v841.toNat, 384, 0]
def k0_off143 (i : grid0.Coords) (k0_t67 : Fin (k0_t67_loop i).trips) : Fin 3 → Nat :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t67
  let v883 : Index := Scalar.indexCast arg13
  let c384_402 : Index := 384#32
  let c0_403 : Index := 0#32
  ![v883.toNat, 384, 0]
def k0_off144 (i : grid0.Coords) (k0_t67 : Fin (k0_t67_loop i).trips) : Fin 3 → Nat :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t67
  let v909 : Index := Scalar.indexCast arg13
  let c384_412 : Index := 384#32
  let c256_413 : Index := 256#32
  ![v909.toNat, 384, 256]
@[reducible] def k0_t68_loop (i : grid0.Coords) : Scf.Loop 32 :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_381 : BitVec 32 := 1#32
  ⟨c0_i32_379, v838, c1_i32_381⟩
def k0_off145 (i : grid0.Coords) (k0_t68 : Fin (k0_t68_loop i).trips) : Fin 3 → Nat :=
  let c0_i32_379 : BitVec 32 := 0#32
  let c1_i32_381 : BitVec 32 := 1#32
  let arg13 : BitVec 32 := Scf.iv c0_i32_379 c1_i32_381 k0_t68
  let v839 : Index := Scalar.indexCast arg13
  let c384_383 : Index := 384#32
  let c0_384 : Index := 0#32
  ![v839.toNat, 384, 0]
@[reducible] def k0_t69_loop (i : grid0.Coords) : Scf.Loop 32 :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let v835 : BitVec 32 := Scalar.addi c0_i32_379 v834
  let c1_i32_382 : BitVec 32 := 1#32
  ⟨v838, v835, c1_i32_382⟩
def k0_off146 (i : grid0.Coords) (k0_t69 : Fin (k0_t69_loop i).trips) : Fin 3 → Nat :=
  let c0_i32_379 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v834 : BitVec 32 := Scalar.subi v99 c0_i32_379
  let c1_i32_380 : BitVec 32 := 1#32
  let v836 : BitVec 32 := Scalar.divsi v834 c1_i32_380
  let v837 : BitVec 32 := Scalar.muli v836 c1_i32_380
  let v838 : BitVec 32 := Scalar.addi c0_i32_379 v837
  let c1_i32_382 : BitVec 32 := 1#32
  let arg13 : BitVec 32 := Scf.iv v838 c1_i32_382 k0_t69
  let v839 : Index := Scalar.indexCast arg13
  let c384_383 : Index := 384#32
  let c0_384 : Index := 0#32
  ![v839.toNat, 384, 0]
@[reducible] def k0_t70_loop (i : grid0.Coords) : Scf.Loop 32 :=
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_357 : BitVec 32 := 1#32
  ⟨c0_i32_355, v778, c1_i32_357⟩
def k0_mult21 (i : grid0.Coords) (k0_t70 : Fin (k0_t70_loop i).trips) : BitVec 32 :=
  let c0_i32_355 : BitVec 32 := 0#32
  let c1_i32_357 : BitVec 32 := 1#32
  let arg13 : BitVec 32 := Scf.iv c0_i32_355 c1_i32_357 k0_t70
  let c512_i32_379 : BitVec 32 := 512#32
  let v834 : BitVec 32 := Scalar.muli arg13 c512_i32_379
  v834
def k0_off147 (i : grid0.Coords) (k0_t70 : Fin (k0_t70_loop i).trips) : Fin 3 → Nat :=
  let c0_i32_355 : BitVec 32 := 0#32
  let c1_i32_357 : BitVec 32 := 1#32
  let arg13 : BitVec 32 := Scf.iv c0_i32_355 c1_i32_357 k0_t70
  let v836 : Index := Scalar.indexCast arg13
  let c384_380 : Index := 384#32
  let c0_381 : Index := 0#32
  ![v836.toNat, 384, 0]
def k0_off148 (i : grid0.Coords) (k0_t70 : Fin (k0_t70_loop i).trips) : Fin 3 → Nat :=
  let c0_382 : Index := 0#32
  let c0_i32_355 : BitVec 32 := 0#32
  let c1_i32_357 : BitVec 32 := 1#32
  let arg13 : BitVec 32 := Scf.iv c0_i32_355 c1_i32_357 k0_t70
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off149 (i : grid0.Coords) (k0_t70 : Fin (k0_t70_loop i).trips) : Fin 4 → Nat :=
  let c0_385 : Index := 0#32
  let c0_i32_355 : BitVec 32 := 0#32
  let c1_i32_357 : BitVec 32 := 1#32
  let arg13 : BitVec 32 := Scf.iv c0_i32_355 c1_i32_357 k0_t70
  let v845 : Index := Scalar.indexCast arg13
  let c0_386 : Index := 0#32
  let c0_387 : Index := 0#32
  ![0, v845.toNat, 0, 0]
def k0_off150 (i : grid0.Coords) (k0_t70 : Fin (k0_t70_loop i).trips) : Fin 4 → Nat :=
  let c1 : Index := 1#32
  let c0_i32_355 : BitVec 32 := 0#32
  let c1_i32_357 : BitVec 32 := 1#32
  let arg13 : BitVec 32 := Scf.iv c0_i32_355 c1_i32_357 k0_t70
  let v859 : Index := Scalar.indexCast arg13
  let c0_388 : Index := 0#32
  let c0_389 : Index := 0#32
  ![1, v859.toNat, 0, 0]
def k0_off151 (i : grid0.Coords) (k0_t70 : Fin (k0_t70_loop i).trips) : Fin 4 → Nat :=
  let c2 : Index := 2#32
  let c0_i32_355 : BitVec 32 := 0#32
  let c1_i32_357 : BitVec 32 := 1#32
  let arg13 : BitVec 32 := Scf.iv c0_i32_355 c1_i32_357 k0_t70
  let v873 : Index := Scalar.indexCast arg13
  let c0_390 : Index := 0#32
  let c0_391 : Index := 0#32
  ![2, v873.toNat, 0, 0]
def k0_off152 (i : grid0.Coords) (k0_t70 : Fin (k0_t70_loop i).trips) : Fin 4 → Nat :=
  let c3 : Index := 3#32
  let c0_i32_355 : BitVec 32 := 0#32
  let c1_i32_357 : BitVec 32 := 1#32
  let arg13 : BitVec 32 := Scf.iv c0_i32_355 c1_i32_357 k0_t70
  let v887 : Index := Scalar.indexCast arg13
  let c0_392 : Index := 0#32
  let c0_393 : Index := 0#32
  ![3, v887.toNat, 0, 0]
@[reducible] def k0_t71_loop (i : grid0.Coords) : Scf.Loop 32 :=
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let v775 : BitVec 32 := Scalar.addi c0_i32_355 v774
  let c1_i32_358 : BitVec 32 := 1#32
  ⟨v778, v775, c1_i32_358⟩
def k0_mult22 (i : grid0.Coords) (k0_t71 : Fin (k0_t71_loop i).trips) : BitVec 32 :=
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_358 : BitVec 32 := 1#32
  let arg13 : BitVec 32 := Scf.iv v778 c1_i32_358 k0_t71
  let c512_i32_379 : BitVec 32 := 512#32
  let v834 : BitVec 32 := Scalar.muli arg13 c512_i32_379
  v834
def k0_off153 (i : grid0.Coords) (k0_t71 : Fin (k0_t71_loop i).trips) : Fin 3 → Nat :=
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_358 : BitVec 32 := 1#32
  let arg13 : BitVec 32 := Scf.iv v778 c1_i32_358 k0_t71
  let v836 : Index := Scalar.indexCast arg13
  let c384_380 : Index := 384#32
  let c0_381 : Index := 0#32
  ![v836.toNat, 384, 0]
def k0_off154 (i : grid0.Coords) (k0_t71 : Fin (k0_t71_loop i).trips) : Fin 3 → Nat :=
  let c0_382 : Index := 0#32
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_358 : BitVec 32 := 1#32
  let arg13 : BitVec 32 := Scf.iv v778 c1_i32_358 k0_t71
  let c512_i32_379 : BitVec 32 := 512#32
  let v834 : BitVec 32 := Scalar.muli arg13 c512_i32_379
  let v835 : BitVec 32 := v834
  let v839 : Index := Scalar.indexCast v835
  let c0_383 : Index := 0#32
  ![0, v839.toNat, 0]
def k0_off155 (i : grid0.Coords) (k0_t71 : Fin (k0_t71_loop i).trips) : Fin 4 → Nat :=
  let c0_385 : Index := 0#32
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_358 : BitVec 32 := 1#32
  let arg13 : BitVec 32 := Scf.iv v778 c1_i32_358 k0_t71
  let v845 : Index := Scalar.indexCast arg13
  let c0_386 : Index := 0#32
  let c0_387 : Index := 0#32
  ![0, v845.toNat, 0, 0]
def k0_off156 (i : grid0.Coords) (k0_t71 : Fin (k0_t71_loop i).trips) : Fin 4 → Nat :=
  let c1 : Index := 1#32
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_358 : BitVec 32 := 1#32
  let arg13 : BitVec 32 := Scf.iv v778 c1_i32_358 k0_t71
  let v859 : Index := Scalar.indexCast arg13
  let c0_388 : Index := 0#32
  let c0_389 : Index := 0#32
  ![1, v859.toNat, 0, 0]
def k0_off157 (i : grid0.Coords) (k0_t71 : Fin (k0_t71_loop i).trips) : Fin 4 → Nat :=
  let c2 : Index := 2#32
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_358 : BitVec 32 := 1#32
  let arg13 : BitVec 32 := Scf.iv v778 c1_i32_358 k0_t71
  let v873 : Index := Scalar.indexCast arg13
  let c0_390 : Index := 0#32
  let c0_391 : Index := 0#32
  ![2, v873.toNat, 0, 0]
def k0_off158 (i : grid0.Coords) (k0_t71 : Fin (k0_t71_loop i).trips) : Fin 4 → Nat :=
  let c3 : Index := 3#32
  let c0_i32_355 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v774 : BitVec 32 := Scalar.subi v99 c0_i32_355
  let c1_i32_356 : BitVec 32 := 1#32
  let v776 : BitVec 32 := Scalar.divsi v774 c1_i32_356
  let v777 : BitVec 32 := Scalar.muli v776 c1_i32_356
  let v778 : BitVec 32 := Scalar.addi c0_i32_355 v777
  let c1_i32_358 : BitVec 32 := 1#32
  let arg13 : BitVec 32 := Scf.iv v778 c1_i32_358 k0_t71
  let v887 : Index := Scalar.indexCast arg13
  let c0_392 : Index := 0#32
  let c0_393 : Index := 0#32
  ![3, v887.toNat, 0, 0]
@[reducible] def k0_t72_loop (i : grid0.Coords) : Scf.Loop 32 :=
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let c1_i32_367 : BitVec 32 := 1#32
  ⟨c0_i32_365, v795, c1_i32_367⟩
def k0_mult23 (i : grid0.Coords) (k0_t72 : Fin (k0_t72_loop i).trips) : BitVec 32 :=
  let c0_i32_365 : BitVec 32 := 0#32
  let c1_i32_367 : BitVec 32 := 1#32
  let arg13 : BitVec 32 := Scf.iv c0_i32_365 c1_i32_367 k0_t72
  let c512_i32_379 : BitVec 32 := 512#32
  let v834 : BitVec 32 := Scalar.muli arg13 c512_i32_379
  v834
def k0_off159 (i : grid0.Coords) (k0_t72 : Fin (k0_t72_loop i).trips) : Fin 3 → Nat :=
  let c0_380 : Index := 0#32
  let c0_i32_365 : BitVec 32 := 0#32
  let c1_i32_367 : BitVec 32 := 1#32
  let arg13 : BitVec 32 := Scf.iv c0_i32_365 c1_i32_367 k0_t72
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off160 (i : grid0.Coords) (k0_t72 : Fin (k0_t72_loop i).trips) : Fin 4 → Nat :=
  let c0_382 : Index := 0#32
  let c0_i32_365 : BitVec 32 := 0#32
  let c1_i32_367 : BitVec 32 := 1#32
  let arg13 : BitVec 32 := Scf.iv c0_i32_365 c1_i32_367 k0_t72
  let v839 : Index := Scalar.indexCast arg13
  let c0_383 : Index := 0#32
  let c0_384 : Index := 0#32
  ![0, v839.toNat, 0, 0]
def k0_off161 (i : grid0.Coords) (k0_t72 : Fin (k0_t72_loop i).trips) : Fin 4 → Nat :=
  let c1 : Index := 1#32
  let c0_i32_365 : BitVec 32 := 0#32
  let c1_i32_367 : BitVec 32 := 1#32
  let arg13 : BitVec 32 := Scf.iv c0_i32_365 c1_i32_367 k0_t72
  let v845 : Index := Scalar.indexCast arg13
  let c0_385 : Index := 0#32
  let c0_386 : Index := 0#32
  ![1, v845.toNat, 0, 0]
def k0_off162 (i : grid0.Coords) (k0_t72 : Fin (k0_t72_loop i).trips) : Fin 4 → Nat :=
  let c2 : Index := 2#32
  let c0_i32_365 : BitVec 32 := 0#32
  let c1_i32_367 : BitVec 32 := 1#32
  let arg13 : BitVec 32 := Scf.iv c0_i32_365 c1_i32_367 k0_t72
  let v851 : Index := Scalar.indexCast arg13
  let c0_387 : Index := 0#32
  let c0_388 : Index := 0#32
  ![2, v851.toNat, 0, 0]
def k0_off163 (i : grid0.Coords) (k0_t72 : Fin (k0_t72_loop i).trips) : Fin 4 → Nat :=
  let c3 : Index := 3#32
  let c0_i32_365 : BitVec 32 := 0#32
  let c1_i32_367 : BitVec 32 := 1#32
  let arg13 : BitVec 32 := Scf.iv c0_i32_365 c1_i32_367 k0_t72
  let v857 : Index := Scalar.indexCast arg13
  let c0_389 : Index := 0#32
  let c0_390 : Index := 0#32
  ![3, v857.toNat, 0, 0]
@[reducible] def k0_t73_loop (i : grid0.Coords) : Scf.Loop 32 :=
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let v792 : BitVec 32 := Scalar.addi c0_i32_365 v791
  let c1_i32_368 : BitVec 32 := 1#32
  ⟨v795, v792, c1_i32_368⟩
def k0_mult24 (i : grid0.Coords) (k0_t73 : Fin (k0_t73_loop i).trips) : BitVec 32 :=
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let c1_i32_368 : BitVec 32 := 1#32
  let arg13 : BitVec 32 := Scf.iv v795 c1_i32_368 k0_t73
  let c512_i32_379 : BitVec 32 := 512#32
  let v834 : BitVec 32 := Scalar.muli arg13 c512_i32_379
  v834
def k0_off164 (i : grid0.Coords) (k0_t73 : Fin (k0_t73_loop i).trips) : Fin 3 → Nat :=
  let c0_380 : Index := 0#32
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let c1_i32_368 : BitVec 32 := 1#32
  let arg13 : BitVec 32 := Scf.iv v795 c1_i32_368 k0_t73
  let c512_i32_379 : BitVec 32 := 512#32
  let v834 : BitVec 32 := Scalar.muli arg13 c512_i32_379
  let v835 : BitVec 32 := v834
  let v836 : Index := Scalar.indexCast v835
  let c0_381 : Index := 0#32
  ![0, v836.toNat, 0]
def k0_off165 (i : grid0.Coords) (k0_t73 : Fin (k0_t73_loop i).trips) : Fin 4 → Nat :=
  let c0_382 : Index := 0#32
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let c1_i32_368 : BitVec 32 := 1#32
  let arg13 : BitVec 32 := Scf.iv v795 c1_i32_368 k0_t73
  let v839 : Index := Scalar.indexCast arg13
  let c0_383 : Index := 0#32
  let c0_384 : Index := 0#32
  ![0, v839.toNat, 0, 0]
def k0_off166 (i : grid0.Coords) (k0_t73 : Fin (k0_t73_loop i).trips) : Fin 4 → Nat :=
  let c1 : Index := 1#32
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let c1_i32_368 : BitVec 32 := 1#32
  let arg13 : BitVec 32 := Scf.iv v795 c1_i32_368 k0_t73
  let v845 : Index := Scalar.indexCast arg13
  let c0_385 : Index := 0#32
  let c0_386 : Index := 0#32
  ![1, v845.toNat, 0, 0]
def k0_off167 (i : grid0.Coords) (k0_t73 : Fin (k0_t73_loop i).trips) : Fin 4 → Nat :=
  let c2 : Index := 2#32
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let c1_i32_368 : BitVec 32 := 1#32
  let arg13 : BitVec 32 := Scf.iv v795 c1_i32_368 k0_t73
  let v851 : Index := Scalar.indexCast arg13
  let c0_387 : Index := 0#32
  let c0_388 : Index := 0#32
  ![2, v851.toNat, 0, 0]
def k0_off168 (i : grid0.Coords) (k0_t73 : Fin (k0_t73_loop i).trips) : Fin 4 → Nat :=
  let c3 : Index := 3#32
  let c0_i32_365 : BitVec 32 := 0#32
  let arg1 : BitVec 32 := BitVec.ofNat 32 (i 1).val
  let c512_i32_33 : BitVec 32 := 512#32
  let v78 : BitVec 32 := Scalar.muli arg1 c512_i32_33
  let c384_i32 : BitVec 32 := 384#32
  let v79 : BitVec 32 := Scalar.addi v78 c384_i32
  let c128_i32_34 : BitVec 32 := 128#32
  let v80 : BitVec 32 := Scalar.addi v79 c128_i32_34
  let c512_i32_35 : BitVec 32 := 512#32
  let v81 : BitVec 32 := Scalar.addi v80 c512_i32_35
  let c1_i32_36 : BitVec 32 := 1#32
  let v82 : BitVec 32 := Scalar.subi v81 c1_i32_36
  let c0_i32_38 : BitVec 32 := 0#32
  let v84 : BitVec 1 := Scalar.cmpi .sgt v82 c0_i32_38
  let v85 : BitVec 32 := Scalar.extui v84
  let c0_i32_39 : BitVec 32 := 0#32
  let v86 : BitVec 1 := Scalar.cmpi .slt v82 c0_i32_39
  let v87 : BitVec 32 := Scalar.extui v86
  let v88 : BitVec 32 := Scalar.subi v85 v87
  let c512_i32_37 : BitVec 32 := 512#32
  let c0_i32_40 : BitVec 32 := 0#32
  let v89 : BitVec 1 := Scalar.cmpi .sgt c512_i32_37 c0_i32_40
  let v90 : BitVec 32 := Scalar.extui v89
  let c0_i32_41 : BitVec 32 := 0#32
  let v91 : BitVec 1 := Scalar.cmpi .slt c512_i32_37 c0_i32_41
  let v92 : BitVec 32 := Scalar.extui v91
  let v93 : BitVec 32 := Scalar.subi v90 v92
  let v94 : BitVec 1 := Scalar.cmpi .ne v88 v93
  let v95 : BitVec 32 := Scalar.remsi v82 c512_i32_37
  let c0_i32_42 : BitVec 32 := 0#32
  let v96 : BitVec 1 := Scalar.cmpi .ne v95 c0_i32_42
  let v97 : BitVec 1 := Scalar.andi v94 v96
  let v83 : BitVec 32 := Scalar.divsi v82 c512_i32_37
  let c1_i32_43 : BitVec 32 := 1#32
  let v98 : BitVec 32 := Scalar.subi v83 c1_i32_43
  let v99 : BitVec 32 := Scalar.select v97 v98 v83
  let v791 : BitVec 32 := Scalar.subi v99 c0_i32_365
  let c1_i32_366 : BitVec 32 := 1#32
  let v793 : BitVec 32 := Scalar.divsi v791 c1_i32_366
  let v794 : BitVec 32 := Scalar.muli v793 c1_i32_366
  let v795 : BitVec 32 := Scalar.addi c0_i32_365 v794
  let c1_i32_368 : BitVec 32 := 1#32
  let arg13 : BitVec 32 := Scf.iv v795 c1_i32_368 k0_t73
  let v857 : Index := Scalar.indexCast arg13
  let c0_389 : Index := 0#32
  let c0_390 : Index := 0#32
  ![3, v857.toNat, 0, 0]
def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![arg0.toNat, c0_i32.toNat, c10_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c11_i32 : BitVec 32 := 11#32
  let c0_i32_0 : BitVec 32 := 0#32
  ![arg0.toNat, c0_i32.toNat, c11_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c26_i32 : BitVec 32 := 26#32
  let c0_i32_0 : BitVec 32 := 0#32
  ![arg0.toNat, c0_i32.toNat, c26_i32.toNat]

def cc0_transform_5 (i : grid0.Coords) : Fin 3 → Nat :=
  let arg0 : BitVec 32 := BitVec.ofNat 32 (i 0).val
  let arg1 : BitVec 32 := BitVec.ofNat 32 (i 1).val
  let c39_i32 : BitVec 32 := 39#32
  let c0_i32 : BitVec 32 := 0#32
  ![arg0.toNat, arg1.toNat, c39_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S8x4096x1024 : Shape := ⟨3, ![8, 4096, 1024]⟩
abbrev S1024x9160 : Shape := ⟨2, ![1024, 9160]⟩
abbrev S32768x1024 : Shape := ⟨2, ![32768, 1024]⟩
abbrev S1024x2304 : Shape := ⟨2, ![1024, 2304]⟩
abbrev S1024x768 : Shape := ⟨2, ![1024, 768]⟩
abbrev S1024x256 : Shape := ⟨2, ![1024, 256]⟩
abbrev S1024x64 : Shape := ⟨2, ![1024, 64]⟩
abbrev S1024x4 : Shape := ⟨2, ![1024, 4]⟩
abbrev S1024x896 : Shape := ⟨2, ![1024, 896]⟩
abbrev S1024x512 : Shape := ⟨2, ![1024, 512]⟩
abbrev S1024x4096 : Shape := ⟨2, ![1024, 4096]⟩
abbrev S1024x3x3x4x64 : Shape := ⟨5, ![1024, 3, 3, 4, 64]⟩
abbrev S1024x2x3x4x64 : Shape := ⟨5, ![1024, 2, 3, 4, 64]⟩
abbrev S1024x3x2x4x64 : Shape := ⟨5, ![1024, 3, 2, 4, 64]⟩
abbrev S1024x1536 : Shape := ⟨2, ![1024, 1536]⟩
abbrev S1024x1x3x4x64 : Shape := ⟨5, ![1024, 1, 3, 4, 64]⟩
abbrev S1024x3x4x64 : Shape := ⟨4, ![1024, 3, 4, 64]⟩
abbrev S_ : Shape := ⟨0, ![]⟩
abbrev S1024x448 : Shape := ⟨2, ![1024, 448]⟩
abbrev S1024x3840 : Shape := ⟨2, ![1024, 3840]⟩
abbrev S1024x120 : Shape := ⟨2, ![1024, 120]⟩
abbrev S1024x128 : Shape := ⟨2, ![1024, 128]⟩
abbrev S1024x5888 : Shape := ⟨2, ![1024, 5888]⟩
abbrev S1024x6144 : Shape := ⟨2, ![1024, 6144]⟩
abbrev S32768x3840 : Shape := ⟨2, ![32768, 3840]⟩
abbrev S2048x1024 : Shape := ⟨2, ![2048, 1024]⟩
abbrev S2048x768 : Shape := ⟨2, ![2048, 768]⟩

abbrev nBuf : Space → Nat
  | .hbm => 33
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x9160, .f32⟩
  | .hbm, ⟨2, _⟩ => ⟨S32768x1024, .f32⟩
  | .hbm, ⟨3, _⟩ => ⟨S1024x2304, .f32⟩
  | .hbm, ⟨4, _⟩ => ⟨S1024x768, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x896, .f32⟩
  | .hbm, ⟨9, _⟩ => ⟨S1024x256, .f32⟩
  | .hbm, ⟨10, _⟩ => ⟨S1024x512, .f32⟩
  | .hbm, ⟨11, _⟩ => ⟨S1024x4, .f32⟩
  | .hbm, ⟨12, _⟩ => ⟨S1024x4096, .f32⟩
  | .hbm, ⟨13, _⟩ => ⟨S1024x3x3x4x64, .f32⟩
  | .hbm, ⟨14, _⟩ => ⟨S1024x2x3x4x64, .f32⟩
  | .hbm, ⟨15, _⟩ => ⟨S1024x3x2x4x64, .f32⟩
  | .hbm, ⟨16, _⟩ => ⟨S1024x1536, .f32⟩
  | .hbm, ⟨17, _⟩ => ⟨S1024x1x3x4x64, .f32⟩
  | .hbm, ⟨18, _⟩ => ⟨S1024x3x4x64, .f32⟩
  | .hbm, ⟨19, _⟩ => ⟨S1024x768, .f32⟩
  | .hbm, ⟨20, _⟩ => ⟨S_, .f32⟩
  | .hbm, ⟨21, _⟩ => ⟨S1024x448, .f32⟩
  | .hbm, ⟨22, _⟩ => ⟨S1024x3840, .f32⟩
  | .hbm, ⟨23, _⟩ => ⟨S_, .f32⟩
  | .hbm, ⟨24, _⟩ => ⟨S1024x120, .f32⟩
  | .hbm, ⟨25, _⟩ => ⟨S1024x128, .f32⟩
  | .hbm, ⟨26, _⟩ => ⟨S1024x5888, .f32⟩
  | .hbm, ⟨27, _⟩ => ⟨S_, .f32⟩
  | .hbm, ⟨28, _⟩ => ⟨S1024x256, .f32⟩
  | .hbm, ⟨29, _⟩ => ⟨S1024x6144, .f32⟩
  | .hbm, ⟨30, _⟩ => ⟨S1024x3840, .bf16⟩
  | .hbm, ⟨31, _⟩ => ⟨S1024x6144, .bf16⟩
  | .hbm, ⟨32, _⟩ => ⟨S32768x3840, .bf16⟩
  | .local _ .vmem, ⟨0, _⟩ => ⟨S2048x1024, .f32⟩
  | .local _ .vmem, ⟨1, _⟩ => ⟨S2048x1024, .f32⟩
  | .local _ .vmem, ⟨2, _⟩ => ⟨S1024x768, .bf16⟩
  | .local _ .vmem, ⟨3, _⟩ => ⟨S1024x768, .bf16⟩
  | .local _ .vmem, ⟨4, _⟩ => ⟨S2048x768, .bf16⟩
  | .local _ .vmem, ⟨5, _⟩ => ⟨S2048x768, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x4096x1024 : Shape := ⟨3, ![8, 4096, 1024]⟩
abbrev S1024x9160 : Shape := ⟨2, ![1024, 9160]⟩
abbrev S32768x1024 : Shape := ⟨2, ![32768, 1024]⟩
abbrev S32768x9160 : Shape := ⟨2, ![32768, 9160]⟩
abbrev S32768x2304 : Shape := ⟨2, ![32768, 2304]⟩
abbrev S32768x3x3x256 : Shape := ⟨4, ![32768, 3, 3, 256]⟩
abbrev S32768x1x1x256 : Shape := ⟨4, ![32768, 1, 1, 256]⟩
abbrev S32768x256 : Shape := ⟨2, ![32768, 256]⟩
abbrev S32768x1088 : Shape := ⟨2, ![32768, 1088]⟩
abbrev S_ : Shape := ⟨0, ![]⟩
abbrev S32768x448 : Shape := ⟨2, ![32768, 448]⟩
abbrev S32768x3840 : Shape := ⟨2, ![32768, 3840]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x9160, .f32⟩
  | .hbm, ⟨2, _⟩ => ⟨S32768x1024, .f32⟩
  | .hbm, ⟨3, _⟩ => ⟨S32768x9160, .f32⟩
  | .hbm, ⟨4, _⟩ => ⟨S32768x2304, .f32⟩
  | .hbm, ⟨5, _⟩ => ⟨S32768x3x3x256, .f32⟩
  | .hbm, ⟨6, _⟩ => ⟨S32768x1x1x256, .f32⟩
  | .hbm, ⟨7, _⟩ => ⟨S32768x256, .f32⟩
  | .hbm, ⟨8, _⟩ => ⟨S32768x1x1x256, .f32⟩
  | .hbm, ⟨9, _⟩ => ⟨S32768x256, .f32⟩
  | .hbm, ⟨10, _⟩ => ⟨S32768x1x1x256, .f32⟩
  | .hbm, ⟨11, _⟩ => ⟨S32768x256, .f32⟩
  | .hbm, ⟨12, _⟩ => ⟨S32768x1x1x256, .f32⟩
  | .hbm, ⟨13, _⟩ => ⟨S32768x256, .f32⟩
  | .hbm, ⟨14, _⟩ => ⟨S32768x1x1x256, .f32⟩
  | .hbm, ⟨15, _⟩ => ⟨S32768x256, .f32⟩
  | .hbm, ⟨16, _⟩ => ⟨S32768x1x1x256, .f32⟩
  | .hbm, ⟨17, _⟩ => ⟨S32768x256, .f32⟩
  | .hbm, ⟨18, _⟩ => ⟨S32768x1x1x256, .f32⟩
  | .hbm, ⟨19, _⟩ => ⟨S32768x256, .f32⟩
  | .hbm, ⟨20, _⟩ => ⟨S32768x1x1x256, .f32⟩
  | .hbm, ⟨21, _⟩ => ⟨S32768x256, .f32⟩
  | .hbm, ⟨22, _⟩ => ⟨S32768x1x1x256, .f32⟩
  | .hbm, ⟨23, _⟩ => ⟨S32768x256, .f32⟩
  | .hbm, ⟨24, _⟩ => ⟨S32768x1088, .f32⟩
  | .hbm, ⟨25, _⟩ => ⟨S_, .f32⟩
  | .hbm, ⟨26, _⟩ => ⟨S32768x448, .f32⟩
  | .hbm, ⟨27, _⟩ => ⟨S32768x3840, .f32⟩
  | .hbm, ⟨28, _⟩ => ⟨S32768x3840, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x9160 : Shape := ⟨2, ![1024, 9160]⟩
abbrev S32768x1024 : Shape := ⟨2, ![32768, 1024]⟩
abbrev S1024x2304 : Shape := ⟨2, ![1024, 2304]⟩
abbrev S1024x768 : Shape := ⟨2, ![1024, 768]⟩
abbrev S1024x256 : Shape := ⟨2, ![1024, 256]⟩
abbrev S1024x64 : Shape := ⟨2, ![1024, 64]⟩
abbrev S1024x4 : Shape := ⟨2, ![1024, 4]⟩
abbrev S1024x896 : Shape := ⟨2, ![1024, 896]⟩
abbrev S1024x512 : Shape := ⟨2, ![1024, 512]⟩
abbrev S1024x4096 : Shape := ⟨2, ![1024, 4096]⟩
abbrev S1024x3x3x4x64 : Shape := ⟨5, ![1024, 3, 3, 4, 64]⟩
abbrev S1024x2x3x4x64 : Shape := ⟨5, ![1024, 2, 3, 4, 64]⟩
abbrev S1024x3x2x4x64 : Shape := ⟨5, ![1024, 3, 2, 4, 64]⟩
abbrev S1024x1536 : Shape := ⟨2, ![1024, 1536]⟩
abbrev S1024x1x3x4x64 : Shape := ⟨5, ![1024, 1, 3, 4, 64]⟩
abbrev S1024x3x4x64 : Shape := ⟨4, ![1024, 3, 4, 64]⟩
abbrev S_ : Shape := ⟨0, ![]⟩
abbrev S1024x448 : Shape := ⟨2, ![1024, 448]⟩
abbrev S1024x3840 : Shape := ⟨2, ![1024, 3840]⟩
abbrev S1024x120 : Shape := ⟨2, ![1024, 120]⟩
abbrev S1024x128 : Shape := ⟨2, ![1024, 128]⟩
abbrev S1024x5888 : Shape := ⟨2, ![1024, 5888]⟩
abbrev S1024x6144 : Shape := ⟨2, ![1024, 6144]⟩
abbrev S32768x6144 : Shape := ⟨2, ![32768, 6144]⟩
abbrev S2048x1024 : Shape := ⟨2, ![2048, 1024]⟩
abbrev S2048x768 : Shape := ⟨2, ![2048, 768]⟩

abbrev nBuf : Space → Nat
  | .hbm => 33
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x9160, .f32⟩
  | .hbm, ⟨2, _⟩ => ⟨S32768x1024, .f32⟩
  | .hbm, ⟨3, _⟩ => ⟨S1024x2304, .f32⟩
  | .hbm, ⟨4, _⟩ => ⟨S1024x768, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x896, .f32⟩
  | .hbm, ⟨9, _⟩ => ⟨S1024x256, .f32⟩
  | .hbm, ⟨10, _⟩ => ⟨S1024x512, .f32⟩
  | .hbm, ⟨11, _⟩ => ⟨S1024x4, .f32⟩
  | .hbm, ⟨12, _⟩ => ⟨S1024x4096, .f32⟩
  | .hbm, ⟨13, _⟩ => ⟨S1024x3x3x4x64, .f32⟩
  | .hbm, ⟨14, _⟩ => ⟨S1024x2x3x4x64, .f32⟩
  | .hbm, ⟨15, _⟩ => ⟨S1024x3x2x4x64, .f32⟩
  | .hbm, ⟨16, _⟩ => ⟨S1024x1536, .f32⟩
  | .hbm, ⟨17, _⟩ => ⟨S1024x1x3x4x64, .f32⟩
  | .hbm, ⟨18, _⟩ => ⟨S1024x3x4x64, .f32⟩
  | .hbm, ⟨19, _⟩ => ⟨S1024x768, .f32⟩
  | .hbm, ⟨20, _⟩ => ⟨S_, .f32⟩
  | .hbm, ⟨21, _⟩ => ⟨S1024x448, .f32⟩
  | .hbm, ⟨22, _⟩ => ⟨S1024x3840, .f32⟩
  | .hbm, ⟨23, _⟩ => ⟨S_, .f32⟩
  | .hbm, ⟨24, _⟩ => ⟨S1024x120, .f32⟩
  | .hbm, ⟨25, _⟩ => ⟨S1024x128, .f32⟩
  | .hbm, ⟨26, _⟩ => ⟨S1024x5888, .f32⟩
  | .hbm, ⟨27, _⟩ => ⟨S_, .f32⟩
  | .hbm, ⟨28, _⟩ => ⟨S1024x256, .f32⟩
  | .hbm, ⟨29, _⟩ => ⟨S1024x6144, .f32⟩
  | .hbm, ⟨30, _⟩ => ⟨S1024x3840, .bf16⟩
  | .hbm, ⟨31, _⟩ => ⟨S1024x6144, .bf16⟩
  | .hbm, ⟨32, _⟩ => ⟨S32768x6144, .f32⟩
  | .local _ .vmem, ⟨0, _⟩ => ⟨S2048x1024, .f32⟩
  | .local _ .vmem, ⟨1, _⟩ => ⟨S2048x1024, .f32⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8x4096x1024 : Shape := ⟨3, ![8, 4096, 1024]⟩
abbrev S1024x9160 : Shape := ⟨2, ![1024, 9160]⟩
abbrev S32768x1024 : Shape := ⟨2, ![32768, 1024]⟩
abbrev S32768x9160 : Shape := ⟨2, ![32768, 9160]⟩
abbrev S32768x4 : Shape := ⟨2, ![32768, 4]⟩
abbrev S32768x896 : Shape := ⟨2, ![32768, 896]⟩
abbrev S32768x256 : Shape := ⟨2, ![32768, 256]⟩
abbrev S32768x512 : Shape := ⟨2, ![32768, 512]⟩
abbrev S32768x4096 : Shape := ⟨2, ![32768, 4096]⟩
abbrev S_ : Shape := ⟨0, ![]⟩
abbrev S32768x120 : Shape := ⟨2, ![32768, 120]⟩
abbrev S32768x6144 : Shape := ⟨2, ![32768, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x9160, .f32⟩
  | .hbm, ⟨2, _⟩ => ⟨S32768x1024, .f32⟩
  | .hbm, ⟨3, _⟩ => ⟨S32768x9160, .f32⟩
  | .hbm, ⟨4, _⟩ => ⟨S32768x4, .f32⟩
  | .hbm, ⟨5, _⟩ => ⟨S32768x896, .f32⟩
  | .hbm, ⟨6, _⟩ => ⟨S32768x256, .f32⟩
  | .hbm, ⟨7, _⟩ => ⟨S32768x512, .f32⟩
  | .hbm, ⟨8, _⟩ => ⟨S32768x4, .f32⟩
  | .hbm, ⟨9, _⟩ => ⟨S32768x4096, .f32⟩
  | .hbm, ⟨10, _⟩ => ⟨S_, .f32⟩
  | .hbm, ⟨11, _⟩ => ⟨S32768x120, .f32⟩
  | .hbm, ⟨12, _⟩ => ⟨S_, .f32⟩
  | .hbm, ⟨13, _⟩ => ⟨S32768x256, .f32⟩
  | .hbm, ⟨14, _⟩ => ⟨S32768x6144, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S32768x1024 : Shape := ⟨2, ![32768, 1024]⟩
abbrev S32768x6144 : Shape := ⟨2, ![32768, 6144]⟩
abbrev S32768x256 : Shape := ⟨2, ![32768, 256]⟩
abbrev S4x256x1024 : Shape := ⟨3, ![4, 256, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x1024 : Shape := ⟨2, ![1, 1024]⟩
abbrev S2x1024 : Shape := ⟨2, ![2, 1024]⟩
abbrev S8x1024 : Shape := ⟨2, ![8, 1024]⟩
abbrev S1x128 : Shape := ⟨2, ![1, 128]⟩
abbrev S32768x128 : Shape := ⟨2, ![32768, 128]⟩
abbrev S512x1024 : Shape := ⟨2, ![512, 1024]⟩
abbrev S512x4096 : Shape := ⟨2, ![512, 4096]⟩
abbrev S512x256 : Shape := ⟨2, ![512, 256]⟩
abbrev S512x128 : Shape := ⟨2, ![512, 128]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 33
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x6144, .f32⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x256, .bf16⟩
  | .hbm, ⟨6, _⟩ => ⟨S4x256x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x36, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S36, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x1024, .f32⟩
  | .hbm, ⟨23, _⟩ => ⟨S1x1024, .f32⟩
  | .hbm, ⟨24, _⟩ => ⟨S2x1024, .f32⟩
  | .hbm, ⟨25, _⟩ => ⟨S_, .i32⟩
  | .hbm, ⟨26, _⟩ => ⟨S_, .f32⟩
  | .hbm, ⟨27, _⟩ => ⟨S8x1024, .f32⟩
  | .hbm, ⟨28, _⟩ => ⟨S4x256x1024, .bf16⟩
  | .hbm, ⟨29, _⟩ => ⟨S1024x1024, .bf16⟩
  | .hbm, ⟨30, _⟩ => ⟨S1x128, .f32⟩
  | .hbm, ⟨31, _⟩ => ⟨S32768x1024, .f32⟩
  | .hbm, ⟨32, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4x256x1024, .bf16⟩
  | .local _ .vmem, ⟨13, _⟩ => ⟨S1024x1024, .bf16⟩
  | .local _ .vmem, ⟨14, _⟩ => ⟨S8x1024, .f32⟩
  | .local _ .vmem, ⟨15, _⟩ => ⟨S1024x128, .f32⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_call2_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S32768x1024 : Shape := ⟨2, ![32768, 1024]⟩
abbrev S32768x6144 : Shape := ⟨2, ![32768, 6144]⟩
abbrev S32768x256 : Shape := ⟨2, ![32768, 256]⟩
abbrev S4x256x1024 : Shape := ⟨3, ![4, 256, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32768x4096 : Shape := ⟨2, ![32768, 4096]⟩
abbrev S_ : Shape := ⟨0, ![]⟩
abbrev S1x256x1024 : Shape := ⟨3, ![1, 256, 1024]⟩
abbrev S256x1024 : Shape := ⟨2, ![256, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x6144, .f32⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x256, .bf16⟩
  | .hbm, ⟨6, _⟩ => ⟨S4x256x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S32768x4096, .f32⟩
  | .hbm, ⟨15, _⟩ => ⟨S32768x4096, .f32⟩
  | .hbm, ⟨16, _⟩ => ⟨S32768x4096, .f32⟩
  | .hbm, ⟨17, _⟩ => ⟨S_, .f32⟩
  | .hbm, ⟨18, _⟩ => ⟨S32768x4096, .f32⟩
  | .hbm, ⟨19, _⟩ => ⟨S32768x4096, .f32⟩
  | .hbm, ⟨20, _⟩ => ⟨S_, .f32⟩
  | .hbm, ⟨21, _⟩ => ⟨S32768x4096, .f32⟩
  | .hbm, ⟨22, _⟩ => ⟨S32768x4096, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x256, .f32⟩
  | .hbm, ⟨27, _⟩ => ⟨S1x256x1024, .f32⟩
  | .hbm, ⟨28, _⟩ => ⟨S256x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x256, .f32⟩
  | .hbm, ⟨34, _⟩ => ⟨S1x256x1024, .f32⟩
  | .hbm, ⟨35, _⟩ => ⟨S256x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x256, .f32⟩
  | .hbm, ⟨41, _⟩ => ⟨S1x256x1024, .f32⟩
  | .hbm, ⟨42, _⟩ => ⟨S256x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x256, .f32⟩
  | .hbm, ⟨48, _⟩ => ⟨S1x256x1024, .f32⟩
  | .hbm, ⟨49, _⟩ => ⟨S256x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1024, .f32⟩
  | .hbm, ⟨74, _⟩ => ⟨S32768x1024, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S1x1024, .f32⟩
  | .hbm, ⟨82, _⟩ => ⟨S32768x1024, .f32⟩
  | .hbm, ⟨83, _⟩ => ⟨S32768x1024, .f32⟩
  | .hbm, ⟨84, _⟩ => ⟨S1x1024, .f32⟩
  | .hbm, ⟨85, _⟩ => ⟨S32768x1024, .f32⟩
  | .hbm, ⟨86, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel6.lean ====
abbrev S32768x1024 : Shape := ⟨2, ![32768, 1024]⟩
abbrev S32768x6144 : Shape := ⟨2, ![32768, 6144]⟩
abbrev S32768x256 : Shape := ⟨2, ![32768, 256]⟩
abbrev S4x256x1024 : Shape := ⟨3, ![4, 256, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x1024 : Shape := ⟨2, ![1, 1024]⟩
abbrev S2x1024 : Shape := ⟨2, ![2, 1024]⟩
abbrev S8x1024 : Shape := ⟨2, ![8, 1024]⟩
abbrev S1x128 : Shape := ⟨2, ![1, 128]⟩
abbrev S32768x128 : Shape := ⟨2, ![32768, 128]⟩
abbrev S512x1024 : Shape := ⟨2, ![512, 1024]⟩
abbrev S512x4096 : Shape := ⟨2, ![512, 4096]⟩
abbrev S512x256 : Shape := ⟨2, ![512, 256]⟩
abbrev S512x128 : Shape := ⟨2, ![512, 128]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 33
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x6144, .f32⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x256, .bf16⟩
  | .hbm, ⟨6, _⟩ => ⟨S4x256x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x36, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S36, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x1024, .f32⟩
  | .hbm, ⟨23, _⟩ => ⟨S1x1024, .f32⟩
  | .hbm, ⟨24, _⟩ => ⟨S2x1024, .f32⟩
  | .hbm, ⟨25, _⟩ => ⟨S_, .i32⟩
  | .hbm, ⟨26, _⟩ => ⟨S_, .f32⟩
  | .hbm, ⟨27, _⟩ => ⟨S8x1024, .f32⟩
  | .hbm, ⟨28, _⟩ => ⟨S4x256x1024, .bf16⟩
  | .hbm, ⟨29, _⟩ => ⟨S1024x1024, .bf16⟩
  | .hbm, ⟨30, _⟩ => ⟨S1x128, .f32⟩
  | .hbm, ⟨31, _⟩ => ⟨S32768x1024, .f32⟩
  | .hbm, ⟨32, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4x256x1024, .bf16⟩
  | .local _ .vmem, ⟨13, _⟩ => ⟨S1024x1024, .bf16⟩
  | .local _ .vmem, ⟨14, _⟩ => ⟨S8x1024, .f32⟩
  | .local _ .vmem, ⟨15, _⟩ => ⟨S1024x128, .f32⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_call2_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S32768x1024 : Shape := ⟨2, ![32768, 1024]⟩
abbrev S32768x6144 : Shape := ⟨2, ![32768, 6144]⟩
abbrev S32768x256 : Shape := ⟨2, ![32768, 256]⟩
abbrev S4x256x1024 : Shape := ⟨3, ![4, 256, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32768x4096 : Shape := ⟨2, ![32768, 4096]⟩
abbrev S_ : Shape := ⟨0, ![]⟩
abbrev S1x256x1024 : Shape := ⟨3, ![1, 256, 1024]⟩
abbrev S256x1024 : Shape := ⟨2, ![256, 1024]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S32768x4x8 : Shape := ⟨3, ![32768, 4, 8]⟩
abbrev S32768x2 : Shape := ⟨2, ![32768, 2]⟩
abbrev S32768x8 : Shape := ⟨2, ![32768, 8]⟩
abbrev S32768x124 : Shape := ⟨2, ![32768, 124]⟩
abbrev S32768x128 : Shape := ⟨2, ![32768, 128]⟩

abbrev nBuf : Space → Nat
  | .hbm => 164
  | .vmem => 0
  | .smem => 0
  | _ => 0

abbrev hbmTy0_0 (i : Nat) : BufTy := match i % 128 with
  | 0 => ⟨S32768x1024, .f32⟩
  | 1 => ⟨S32768x6144, .f32⟩
  | 2 => ⟨S32768x256, .bf16⟩
  | 3 => ⟨S32768x256, .bf16⟩
  | 4 => ⟨S32768x256, .bf16⟩
  | 5 => ⟨S32768x256, .bf16⟩
  | 6 => ⟨S4x256x1024, .f32⟩
  | 7 => ⟨S1024x1024, .f32⟩
  | 8 => ⟨S1024, .f32⟩
  | 9 => ⟨S1024, .f32⟩
  | 10 => ⟨S1024x4, .f32⟩
  | 11 => ⟨S4, .f32⟩
  | 12 => ⟨S1024x32, .f32⟩
  | 13 => ⟨S32, .f32⟩
  | 14 => ⟨S32768x4096, .f32⟩
  | 15 => ⟨S32768x4096, .f32⟩
  | 16 => ⟨S32768x4096, .f32⟩
  | 17 => ⟨S_, .f32⟩
  | 18 => ⟨S32768x4096, .f32⟩
  | 19 => ⟨S32768x4096, .f32⟩
  | 20 => ⟨S_, .f32⟩
  | 21 => ⟨S32768x4096, .f32⟩
  | 22 => ⟨S32768x4096, .f32⟩
  | 23 => ⟨S_, .f32⟩
  | 24 => ⟨S32768x1024, .f32⟩
  | 25 => ⟨S32768x1024, .f32⟩
  | 26 => ⟨S32768x256, .f32⟩
  | 27 => ⟨S1x256x1024, .f32⟩
  | 28 => ⟨S256x1024, .f32⟩
  | 29 => ⟨S32768x1024, .f32⟩
  | 30 => ⟨S32768x1024, .f32⟩
  | 31 => ⟨S32768x1024, .f32⟩
  | 32 => ⟨S32768x1024, .f32⟩
  | 33 => ⟨S32768x256, .f32⟩
  | 34 => ⟨S1x256x1024, .f32⟩
  | 35 => ⟨S256x1024, .f32⟩
  | 36 => ⟨S32768x1024, .f32⟩
  | 37 => ⟨S32768x1024, .f32⟩
  | 38 => ⟨S32768x1024, .f32⟩
  | 39 => ⟨S32768x1024, .f32⟩
  | 40 => ⟨S32768x256, .f32⟩
  | 41 => ⟨S1x256x1024, .f32⟩
  | 42 => ⟨S256x1024, .f32⟩
  | 43 => ⟨S32768x1024, .f32⟩
  | 44 => ⟨S32768x1024, .f32⟩
  | 45 => ⟨S32768x1024, .f32⟩
  | 46 => ⟨S32768x1024, .f32⟩
  | 47 => ⟨S32768x256, .f32⟩
  | 48 => ⟨S1x256x1024, .f32⟩
  | 49 => ⟨S256x1024, .f32⟩
  | 50 => ⟨S32768x1024, .f32⟩
  | 51 => ⟨S32768x1024, .f32⟩
  | 52 => ⟨S32768x1024, .f32⟩
  | 53 => ⟨S_, .f32⟩
  | 54 => ⟨S32768x1024, .f32⟩
  | 55 => ⟨S32768x1024, .f32⟩
  | 56 => ⟨S32768x1024, .f32⟩
  | 57 => ⟨S32768x1024, .f32⟩
  | 58 => ⟨S_, .f32⟩
  | 59 => ⟨S32768, .f32⟩
  | 60 => ⟨S32768x1, .f32⟩
  | 61 => ⟨S_, .f32⟩
  | 62 => ⟨S32768x1, .f32⟩
  | 63 => ⟨S32768x1, .f32⟩
  | 64 => ⟨S32768x1024, .f32⟩
  | 65 => ⟨S32768x1024, .f32⟩
  | 66 => ⟨S32768x1024, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S32768x1024, .f32⟩
  | 74 => ⟨S32768x1024, .f32⟩
  | 75 => ⟨S_, .f32⟩
  | 76 => ⟨S32768x1, .f32⟩
  | 77 => ⟨S32768x1, .f32⟩
  | 78 => ⟨S32768x1, .f32⟩
  | 79 => ⟨S32768x1024, .f32⟩
  | 80 => ⟨S32768x1024, .f32⟩
  | 81 => ⟨S1x1024, .f32⟩
  | 82 => ⟨S32768x1024, .f32⟩
  | 83 => ⟨S32768x1024, .f32⟩
  | 84 => ⟨S1x1024, .f32⟩
  | 85 => ⟨S32768x1024, .f32⟩
  | 86 => ⟨S32768x1024, .f32⟩
  | 87 => ⟨S32768x4, .f32⟩
  | 88 => ⟨S1x4, .f32⟩
  | 89 => ⟨S32768x4, .f32⟩
  | 90 => ⟨S32768x4, .f32⟩
  | 91 => ⟨S_, .f32⟩
  | 92 => ⟨S32768, .f32⟩
  | 93 => ⟨S_, .f32⟩
  | 94 => ⟨S32768, .f32⟩
  | 95 => ⟨S32768, .f32⟩
  | 96 => ⟨S32768x1, .f32⟩
  | 97 => ⟨S32768x4, .f32⟩
  | 98 => ⟨S32768x4, .f32⟩
  | 99 => ⟨S32768x4, .f32⟩
  | 100 => ⟨S_, .f32⟩
  | 101 => ⟨S32768, .f32⟩
  | 102 => ⟨S32768x1, .f32⟩
  | 103 => ⟨S32768x4, .f32⟩
  | 104 => ⟨S32768x4, .f32⟩
  | 105 => ⟨S32768x1, .f32⟩
  | 106 => ⟨S32768x1, .i32⟩
  | 107 => ⟨S32768x32, .f32⟩
  | 108 => ⟨S1x32, .f32⟩
  | 109 => ⟨S32768x32, .f32⟩
  | 110 => ⟨S32768x32, .f32⟩
  | 111 => ⟨S32768x4x8, .f32⟩
  | 112 => ⟨S32768, .i32⟩
  | 113 => ⟨S32768, .i32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S_, .i32⟩
  | 122 => ⟨S32768, .i32⟩
  | 123 => ⟨S32768, .i1⟩
  | 124 => ⟨S_, .i32⟩
  | 125 => ⟨S32768, .i32⟩
  | 126 => ⟨S32768, .i32⟩
  | 127 => ⟨S32768, .i32⟩
  | _ => ⟨S32768x1024, .f32⟩

abbrev hbmTy0_1 (i : Nat) : BufTy := match i % 128 with
  | 0 => ⟨S32768x1, .i32⟩
  | 1 => ⟨S32768x1, .i32⟩
  | 2 => ⟨S32768x2, .i32⟩
  | 3 => ⟨S32768x8, .f32⟩
  | 4 => ⟨S_, .f32⟩
  | 5 => ⟨S32768, .f32⟩
  | 6 => ⟨S_, .f32⟩
  | 7 => ⟨S32768, .f32⟩
  | 8 => ⟨S32768, .f32⟩
  | 9 => ⟨S32768x1, .f32⟩
  | 10 => ⟨S32768x8, .f32⟩
  | 11 => ⟨S32768x8, .f32⟩
  | 12 => ⟨S32768x8, .f32⟩
  | 13 => ⟨S_, .f32⟩
  | 14 => ⟨S32768, .f32⟩
  | 15 => ⟨S32768x1, .f32⟩
  | 16 => ⟨S32768x8, .f32⟩
  | 17 => ⟨S32768x8, .f32⟩
  | 18 => ⟨S32768x2, .f32⟩
  | 19 => ⟨S32768x2, .i32⟩
  | 20 => ⟨S32768x2, .f32⟩
  | 21 => ⟨S32768x2, .f32⟩
  | 22 => ⟨S_, .f32⟩
  | 23 => ⟨S32768, .f32⟩
  | 24 => ⟨S32768x1, .f32⟩
  | 25 => ⟨S32768x2, .f32⟩
  | 26 => ⟨S32768x2, .f32⟩
  | 27 => ⟨S_, .i32⟩
  | 28 => ⟨S32768x1, .i32⟩
  | 29 => ⟨S32768x1, .i32⟩
  | 30 => ⟨S32768x2, .i32⟩
  | 31 => ⟨S32768x2, .i32⟩
  | 32 => ⟨S32768x2, .f32⟩
  | 33 => ⟨S_, .f32⟩
  | 34 => ⟨S32768x124, .f32⟩
  | 35 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_values : Ref sig .tc := ⟨.hbm, 105, rfl⟩
abbrev main_indices : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c : Ref sig .tc := ⟨.hbm, 114, rfl⟩
abbrev main_v86 : Ref sig .tc := ⟨.hbm, 115, rfl⟩
abbrev main_v87 : Ref sig .tc := ⟨.hbm, 116, rfl⟩
abbrev main_c_11 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_12 : Ref sig .tc := ⟨.hbm, 121, rfl⟩
abbrev main_v91 : Ref sig .tc := ⟨.hbm, 122, rfl⟩
abbrev main_v92 : Ref sig .tc := ⟨.hbm, 123, rfl⟩
abbrev main_c_13 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_14 : Ref sig .tc := ⟨.hbm, 132, rfl⟩
abbrev main_v100 : Ref sig .tc := ⟨.hbm, 133, rfl⟩
abbrev main_cst_15 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_16 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_values_17 : Ref sig .tc := ⟨.hbm, 146, rfl⟩
abbrev main_indices_18 : Ref sig .tc := ⟨.hbm, 147, rfl⟩
abbrev main_v111 : Ref sig .tc := ⟨.hbm, 148, rfl⟩
abbrev main_v112 : Ref sig .tc := ⟨.hbm, 149, rfl⟩
abbrev main_cst_19 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_20 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_21 : Ref sig .tc := ⟨.hbm, 161, rfl⟩
abbrev main_v122 : Ref sig .tc := ⟨.hbm, 162, rfl⟩
abbrev main_v123 : Ref sig .tc := ⟨.hbm, 163, rfl⟩

abbrev nD : Nat := 1
abbrev τ : Topo := Topo.v7x

variable {F : FTy → Type} [FloatOps F]
-- ==== Kernel5.lean ====
abbrev S160 : Shape := ⟨1, ![160]⟩
abbrev S1 : Shape := ⟨1, ![1]⟩
abbrev S81920x1024 : Shape := ⟨2, ![81920, 1024]⟩
abbrev S2x32x1024x512 : Shape := ⟨4, ![2, 32, 1024, 512]⟩
abbrev S2x32x512x1024 : Shape := ⟨4, ![2, 32, 512, 1024]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 10
  | .smem => 2
  | _ => 0

abbrev bufTy : (tb : Table) → Fin (tcTables nBuf tb) → BufTy
  | .hbm, ⟨0, _⟩ => ⟨S81920x1024, .bf16⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S81920x1024, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .smem, ⟨0, _⟩ => ⟨S160, .i32⟩
  | .local _ .smem, ⟨1, _⟩ => ⟨S1, .i32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S160 : Shape := ⟨1, ![160]⟩
abbrev S1 : Shape := ⟨1, ![1]⟩
abbrev S81920x1024 : Shape := ⟨2, ![81920, 1024]⟩
abbrev S2x32x1024x512 : Shape := ⟨4, ![2, 32, 1024, 512]⟩
abbrev S2x32x512x1024 : Shape := ⟨4, ![2, 32, 512, 1024]⟩
abbrev S160x512x1024 : Shape := ⟨3, ![160, 512, 1024]⟩
abbrev S1x32x1024x512 : Shape := ⟨4, ![1, 32, 1024, 512]⟩
abbrev S32x1024x512 : Shape := ⟨3, ![32, 1024, 512]⟩
abbrev S_ : Shape := ⟨0, ![]⟩
abbrev S160x1 : Shape := ⟨2, ![160, 1]⟩
abbrev S160x1024x512 : Shape := ⟨3, ![160, 1024, 512]⟩
abbrev S160x512x512 : Shape := ⟨3, ![160, 512, 512]⟩
abbrev S1x32x512x1024 : Shape := ⟨4, ![1, 32, 512, 1024]⟩
abbrev S32x512x1024 : Shape := ⟨3, ![32, 512, 1024]⟩
abbrev S160x1x1 : Shape := ⟨3, ![160, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x1024, .bf16⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S81920x1024, .f32⟩
  | .hbm, ⟨7, _⟩ => ⟨S160x512x1024, .f32⟩
  | .hbm, ⟨8, _⟩ => ⟨S1x32x1024x512, .f32⟩
  | .hbm, ⟨9, _⟩ => ⟨S32x1024x512, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x1024x512, .f32⟩
  | .hbm, ⟨19, _⟩ => ⟨S160x512x512, .f32⟩
  | .hbm, ⟨20, _⟩ => ⟨S1x32x1024x512, .f32⟩
  | .hbm, ⟨21, _⟩ => ⟨S32x1024x512, .f32⟩
  | .hbm, ⟨22, _⟩ => ⟨S_, .i32⟩
  | .hbm, ⟨23, _⟩ => ⟨S160, .i32⟩
  | .hbm, ⟨24, _⟩ => ⟨S160, .i1⟩
  | .hbm, ⟨25, _⟩ => ⟨S_, .i32⟩
  | .hbm, ⟨26, _⟩ => ⟨S160, .i32⟩
  | .hbm, ⟨27, _⟩ => ⟨S160, .i32⟩
  | .hbm, ⟨28, _⟩ => ⟨S160, .i32⟩
  | .hbm, ⟨29, _⟩ => ⟨S160x1, .i32⟩
  | .hbm, ⟨30, _⟩ => ⟨S160x1024x512, .f32⟩
  | .hbm, ⟨31, _⟩ => ⟨S160x512x512, .f32⟩
  | .hbm, ⟨32, _⟩ => ⟨S160x512x512, .f32⟩
  | .hbm, ⟨33, _⟩ => ⟨S160x512x512, .f32⟩
  | .hbm, ⟨34, _⟩ => ⟨S_, .f32⟩
  | .hbm, ⟨35, _⟩ => ⟨S160x512x512, .f32⟩
  | .hbm, ⟨36, _⟩ => ⟨S160x512x512, .f32⟩
  | .hbm, ⟨37, _⟩ => ⟨S_, .f32⟩
  | .hbm, ⟨38, _⟩ => ⟨S160x512x512, .f32⟩
  | .hbm, ⟨39, _⟩ => ⟨S160x512x512, .f32⟩
  | .hbm, ⟨40, _⟩ => ⟨S160x512x512, .f32⟩
  | .hbm, ⟨41, _⟩ => ⟨S160x512x512, .f32⟩
  | .hbm, ⟨42, _⟩ => ⟨S1x32x512x1024, .f32⟩
  | .hbm, ⟨43, _⟩ => ⟨S32x512x1024, .f32⟩
  | .hbm, ⟨44, _⟩ => ⟨S_, .i32⟩
  | .hbm, ⟨45, _⟩ => ⟨S160, .i32⟩
  | .hbm, ⟨46, _⟩ => ⟨S160, .i1⟩
  | .hbm, ⟨47, _⟩ => ⟨S_, .i32⟩
  | .hbm, ⟨48, _⟩ => ⟨S160, .i32⟩
  | .hbm, ⟨49, _⟩ => ⟨S160, .i32⟩
  | .hbm, ⟨50, _⟩ => ⟨S160, .i32⟩
  | .hbm, ⟨51, _⟩ => ⟨S160x1, .i32⟩
  | .hbm, ⟨52, _⟩ => ⟨S160x512x1024, .f32⟩
  | .hbm, ⟨53, _⟩ => ⟨S160x512x1024, .f32⟩
  | .hbm, ⟨54, _⟩ => ⟨S160, .i32⟩
  | .hbm, ⟨55, _⟩ => ⟨S160x1x1, .i32⟩
  | .hbm, ⟨56, _⟩ => ⟨S_, .i32⟩
  | .hbm, ⟨57, _⟩ => ⟨S160x1x1, .i32⟩
  | .hbm, ⟨58, _⟩ => ⟨S160x1x1, .i1⟩
  | .hbm, ⟨59, _⟩ => ⟨S_, .f32⟩
  | .hbm, ⟨60, _⟩ => ⟨S_, .f32⟩
  | .hbm, ⟨61, _⟩ => ⟨S160x512x1024, .i1⟩
  | .hbm, ⟨62, _⟩ => ⟨S160x512x1024, .f32⟩
  | .hbm, ⟨63, _⟩ => ⟨S160x512x1024, .f32⟩
  | .hbm, ⟨64, _⟩ => ⟨S81920x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Proof.Body.lean ====
/-
  The sparse attention's kernel body, run once over any float instance: the threshold loop's invariant (one trip of the
  31 carries the four row groups' bases; it reads the keys and stores nothing), then the body's triple on whole staging
  buffers, its output block a function of what the buffers hold.
-/
module

public import proofs.«01_k».proof.Proof.Gen.KernelIdeal.Loops
public import proofs.«01_k».proof.Proof.Gen.KernelIdeal.Frame

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four row groups' threshold bases. -/
abbrev Bases : Type := IVec S128x1 32 × IVec S128x1 32 × IVec S128x1 32 × IVec S128x1 32

variable (𝒱 : Variants) (c : Dev nD) (bd : Option 𝒱.V) (i : grid0.Coords)
  (arg2 : Memref sig .tc .vmem S1x512x256 .bf16) (harg2 : arg2.IsWhole)
  (arg3 : Memref sig .tc .vmem S1x4096x256 .bf16) (harg3 : arg3.IsWhole)
  (arg4 : Memref sig .tc .vmem S1x4096x256 .bf16) (harg4 : arg4.IsWhole)
  (arg5 : Memref sig .tc .vmem S1x512x256 .bf16) (harg5 : arg5.IsWhole)
  (arg6 : Memref sig .tc .vmem S1x4096x128 .bf16) (harg6 : arg6.IsWhole)
  (arg7 : Memref sig .tc .vmem S1x512x128 .f32) (harg7 : arg7.IsWhole)
  (arg8 : Memref sig .tc .vmem S256x256 .bf16) (harg8 : arg8.IsWhole)
  (arg9 : Memref sig .tc .vmem S1x512x256 .bf16) (harg9 : arg9.IsWhole)
  (arg10 : Memref sig .tc .vmem S8x512x512 .f32) (harg10 : arg10.IsWhole)
  (arg11 : Memref sig .tc .vmem S8x512x512 .f32) (harg11 : arg11.IsWhole)
  (arg12 : Memref sig .tc .vmem S4x8x128x512 .f32) (harg12 : arg12.IsWhole)

section Bits

variable (v21 v47 v73 v99 : BitVec 32) (v162 : IVec S128x1 32) (v172 v173 : FVec F S128x1 .f32)
  (X : BufTy.Contents (Elt F) arg10.view.ty)

/-- One trip of the threshold loop on the keys `X`: the bases it yields. -/
@[irreducible] def bitTrip (k : Fin k0_t17_loop.trips) :
    { R : IVec S128x1 32 → IVec S128x1 32 → IVec S128x1 32 → IVec S128x1 32 → Bases //
      ∀ (E : Set ℕ) (a0 a1 a2 a3 : IVec S128x1 32),
        (iprop((arg10.view.loc (c : Thread nD τ) ↦[arg10.view.set]{fullShare} X)) : sProp 𝕄)
        ⊢ wp frame (wpE (defs₀ (F := F)) 𝒱 (c : Thread nD τ) bd) E
          (k0_t17_body (F := F) i arg2 harg2 arg3 harg3 arg4 harg4 arg5 harg5 arg6 harg6 arg7 harg7 arg8 harg8 arg9 harg9 arg10 harg10 arg11 harg11 arg12 harg12 v21 v47 v73 v99 v162 v172 v173 k (a0, a1, a2, a3))
          (fun y => iprop(⌜y = R a0 a1 a2 a3⌝ ∗ (arg10.view.loc (c : Thread nD τ) ↦[arg10.view.set]{fullShare} X))) } := by
  refine ⟨?_, fun E a0 a1 a2 a3 => ?run⟩
  case run =>
    unfold k0_t17_body
    iintro HR_arg10
    sl_exec
    sl_step
    sl_close

/-- The bases before trip `k`. -/
def bitSt (init : Bases) : ℕ → Bases
  | 0 => init
  | k + 1 => if h : k < k0_t17_loop.trips then
      (bitTrip 𝒱 c bd i arg2 harg2 arg3 harg3 arg4 harg4 arg5 harg5 arg6 harg6 arg7 harg7 arg8 harg8 arg9 harg9 arg10 harg10 arg11 harg11 arg12 harg12 v21 v47 v73 v99 v162 v172 v173 X ⟨k, h⟩).1
        (bitSt init k).1 (bitSt init k).2.1 (bitSt init k).2.2.1 (bitSt init k).2.2.2
    else bitSt init k

theorem bitSt_succ (init : Bases) (k : Fin k0_t17_loop.trips) :
    bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init (k.val + 1)
      = (bitTrip 𝒱 c bd i arg2 harg2 arg3 harg3 arg4 harg4 arg5 harg5 arg6 harg6 arg7 harg7 arg8 harg8 arg9 harg9 arg10 harg10 arg11 harg11 arg12 harg12 v21 v47 v73 v99 v162 v172 v173 X k).1
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).1
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).2.1
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).2.2.1
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).2.2.2 := by
  rw [bitSt.eq_2]; exact dif_pos k.isLt

/-- The threshold loop's invariant: the keys as they were, the bases those before trip `k`. -/
@[sl_loop] def loopInvBits (E : Set ℕ) (init : Bases) :
    LoopInvTy_k0_t17 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v21 v47 v73 v99 v162 v172 v173 init where
  inv k acc := iprop((arg10.view.loc (c : Thread nD τ) ↦[arg10.view.set]{fullShare} X)
    ∗ ⌜acc = bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k⌝)
  step k acc := by
    iintro ⟨HR_arg10, %h_acc⟩
    subst h_acc
    iapply (wp_wand_r Idealize.ShloMosaic.frame (wpE (defs₀ (F := F)) 𝒱 (c : Thread nD τ) bd) E)
    isplitl [HR_arg10]
    · iapply ((bitTrip 𝒱 c bd i arg2 harg2 arg3 harg3 arg4 harg4 arg5 harg5 arg6 harg6 arg7 harg7 arg8 harg8 arg9 harg9 arg10 harg10 arg11 harg11 arg12 harg12 v21 v47 v73 v99 v162 v172 v173 X k).2 E
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).1
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).2.1
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).2.2.1
        (bitSt 𝒱 c bd i arg2 harg2 arg3 harg3 arg4 harg4 arg5 harg5 arg6 harg6 arg7 harg7 arg8 harg8 arg9 harg9 arg10 harg10 arg11 harg11 arg12 harg12 v21 v47 v73 v99 v162 v172 v173 X init k).2.2.2)
      iexact HR_arg10
    · iintro %yld ⟨%h_res, HR_arg10⟩
      isplitl [HR_arg10]; · iexact HR_arg10
      rw [bitSt_succ]
      ipureintro; rw [h_res]

end Bits

/-- The first row group: the selection's branches on whether a row of the group has more keys at its threshold than it needs; what it
    leaves in the selection's buffer. -/
def condRun1 (v21 : BitVec 32) (v25 : FVec F S128x1 .f32) (v209_0 : IVec S128x1 32) (v227 : FVec F S128x128 .f32) (b : BitVec 1) {ρ : Type} (k : Prog (TpuEff nD τ sig (Elt F) Λ₀ .tc) ρ)
    (T : BufTy.Contents (Elt F) arg8.view.ty) (X : BufTy.Contents (Elt F) arg10.view.ty) (G : BufTy.Contents (Elt F) arg11.view.ty) :
    { W : BufTy.Contents (Elt F) arg11.view.ty // ∀ (E : Set ℕ) (K : ρ → sProp 𝕄),
        (iprop((arg8.view.loc (c : Thread nD τ) ↦[arg8.view.set]{fullShare} T)
          ∗ (arg10.view.loc (c : Thread nD τ) ↦[arg10.view.set]{fullShare} X)
          ∗ (arg11.view.loc (c : Thread nD τ) ↦[arg11.view.set]{fullShare} G)
          ∗ (((arg8.view.loc (c : Thread nD τ) ↦[arg8.view.set]{fullShare} T)
            ∗ (arg10.view.loc (c : Thread nD τ) ↦[arg10.view.set]{fullShare} X)
            ∗ (arg11.view.loc (c : Thread nD τ) ↦[arg11.view.set]{fullShare} W)) -∗ wp frame (wpE (defs₀ (F := F)) 𝒱 (c : Thread nD τ) bd) E k K)) : sProp 𝕄)
        ⊢ wp frame (wpE (defs₀ (F := F)) 𝒱 (c : Thread nD τ) bd) E
          (if b = 1#1 then do
            let v834 : BitVec 32 := Scalar.subi v21 0#32
            let v836 : BitVec 32 := Scalar.divsi v834 1#32
            let v837 : BitVec 32 := Scalar.muli v836 1#32
            let v838 : BitVec 32 := Scalar.addi 0#32 v837
            let v839 : FVec F S128x1 .f32 ← Scf.Loop.for (k0_t30_loop i) (k0_t30_ok i) v25 (k0_t30_body i arg2 harg2 arg3 harg3 arg4 harg4 arg5 harg5 arg6 harg6 arg7 harg7 arg8 harg8 arg9 harg9 arg10 harg10 arg11 harg11 arg12 harg12 v21 v25 v209_0 v227)
            let v840 : FVec F S128x1 .f32 ← Scf.Loop.for (k0_t31_loop i) (k0_t31_ok i) v839 (k0_t31_body i arg2 harg2 arg3 harg3 arg4 harg4 arg5 harg5 arg6 harg6 arg7 harg7 arg8 harg8 arg9 harg9 arg10 harg10 arg11 harg11 arg12 harg12 v21 v25 v209_0 v227 v838)
            k
          else do
            Scf.Loop.for (k0_t32_loop i) (k0_t32_ok i) ⟨⟩ (k0_t32_body i arg2 harg2 arg3 harg3 arg4 harg4 arg5 harg5 arg6 harg6 arg7 harg7 arg8 harg8 arg9 harg9 arg10 harg10 arg11 harg11 arg12 harg12 v21 v25 v209_0)
            Scf.Loop.for (k0_t33_loop i) (k0_t33_ok i) ⟨⟩ (k0_t33_body i arg2 harg2 arg3 harg3 arg4 harg4 arg5 harg5 arg6 harg6 arg7 harg7 arg8 harg8 arg9 harg9 arg10 harg10 arg11 harg11 arg12 harg12 v21 v25 v209_0)
            k)
          K } := by
  refine ⟨if b = 1#1 then ?_ else ?_, fun E K => ?run⟩
  case run =>
    iintro ⟨H8, H10, H11, Hk⟩
    by_cases hb : b = 1#1
    · rw [if_pos hb, if_pos hb]
      sl_exec
      iapply Hk
      isplitl [H8]; · iexact H8
      isplitl [H10]; · iexact H10
      iexact H11
    · rw [if_neg hb, if_neg hb]
      sl_exec
      iapply Hk
      isplitl [H8]; · iexact H8
      isplitl [H10]; · iexact H10
      iexact H11

/-- The second row group: the selection's branches on whether a row of the group has more keys at its threshold than it needs; what it
    leaves in the selection's buffer. -/
def condRun2 (v47 : BitVec 32) (v51 : FVec F S128x1 .f32) (v375 : FVec F S128x1 .f32) (v376 : FVec F S128x128 .f32) (w : BitVec 32) (v377 : BitVec 32) (v383 : FVec F S128x128 .f32) (b : BitVec 1) {ρ : Type} (k : Prog (TpuEff nD τ sig (Elt F) Λ₀ .tc) ρ)
    (T : BufTy.Contents (Elt F) arg8.view.ty) (X : BufTy.Contents (Elt F) arg10.view.ty) (G : BufTy.Contents (Elt F) arg11.view.ty) :
    { W : BufTy.Contents (Elt F) arg11.view.ty // ∀ (E : Set ℕ) (K : ρ → sProp 𝕄),
        (iprop((arg8.view.loc (c : Thread nD τ) ↦[arg8.view.set]{fullShare} T)
          ∗ (arg10.view.loc (c : Thread nD τ) ↦[arg10.view.set]{fullShare} X)
          ∗ (arg11.view.loc (c : Thread nD τ) ↦[arg11.view.set]{fullShare} G)
          ∗ (((arg8.view.loc (c : Thread nD τ) ↦[arg8.view.set]{fullShare} T)
            ∗ (arg10.view.loc (c : Thread nD τ) ↦[arg10.view.set]{fullShare} X)
            ∗ (arg11.view.loc (c : Thread nD τ) ↦[arg11.view.set]{fullShare} W)) -∗ wp frame (wpE (defs₀ (F := F)) 𝒱 (c : Thread nD τ) bd) E k K)) : sProp 𝕄)
        ⊢ wp frame (wpE (defs₀ (F := F)) 𝒱 (c : Thread nD τ) bd) E
          (if b = 1#1 then do
            let v834 : BitVec 32 := Scalar.subi v47 0#32
            let v836 : BitVec 32 := Scalar.divsi v834 1#32
            let v837 : BitVec 32 := Scalar.muli v836 1#32
            let v838 : BitVec 32 := Scalar.addi 0#32 v837
            let v839 : FVec F S128x1 .f32 ← Scf.Loop.for (k0_t42_loop i) (k0_t42_ok i) v51 (k0_t42_body i arg2 harg2 arg3 harg3 arg4 harg4 arg5 harg5 arg6 harg6 arg7 harg7 arg8 harg8 arg9 harg9 arg10 harg10 arg11 harg11 arg12 harg12 v47 v51 v375 v376 w v377 v383)
            let v840 : FVec F S128x1 .f32 ← Scf.Loop.for (k0_t43_loop i) (k0_t43_ok i) v839 (k0_t43_body i arg2 harg2 arg3 harg3 arg4 harg4 arg5 harg5 arg6 harg6 arg7 harg7 arg8 harg8 arg9 harg9 arg10 harg10 arg11 harg11 arg12 harg12 v47 v51 v375 v376 w v377 v383 v838)
            k
          else do
            Scf.Loop.for (k0_t44_loop i) (k0_t44_ok i) ⟨⟩ (k0_t44_body i arg2 harg2 arg3 harg3 arg4 harg4 arg5 harg5 arg6 harg6 arg7 harg7 arg8 harg8 arg9 harg9 arg10 harg10 arg11 harg11 arg12 harg12 v47 v51 v375 v376 w v377)
            Scf.Loop.for (k0_t45_loop i) (k0_t45_ok i) ⟨⟩ (k0_t45_body i arg2 harg2 arg3 harg3 arg4 harg4 arg5 harg5 arg6 harg6 arg7 harg7 arg8 harg8 arg9 harg9 arg10 harg10 arg11 harg11 arg12 harg12 v47 v51 v375 v376 w v377)
            k)
          K } := by
  refine ⟨if b = 1#1 then ?_ else ?_, fun E K => ?run⟩
  case run =>
    iintro ⟨H8, H10, H11, Hk⟩
    by_cases hb : b = 1#1
    · rw [if_pos hb, if_pos hb]
      sl_exec
      iapply Hk
      isplitl [H8]; · iexact H8
      isplitl [H10]; · iexact H10
      iexact H11
    · rw [if_neg hb, if_neg hb]
      sl_exec
      iapply Hk
      isplitl [H8]; · iexact H8
      isplitl [H10]; · iexact H10
      iexact H11

/-- The third row group: the selection's branches on whether a row of the group has more keys at its threshold than it needs; what it
    leaves in the selection's buffer. -/
def condRun3 (v73 : BitVec 32) (v77 : FVec F S128x1 .f32) (v531 : FVec F S128x1 .f32) (v543 : FVec F S128x1 .f32) (v544 : FVec F S128x128 .f32) (w : BitVec 32) (b : BitVec 1) {ρ : Type} (k : Prog (TpuEff nD τ sig (Elt F) Λ₀ .tc) ρ)
    (T : BufTy.Contents (Elt F) arg8.view.ty) (X : BufTy.Contents (Elt F) arg10.view.ty) (G : BufTy.Contents (Elt F) arg11.view.ty) :
    { W : BufTy.Contents (Elt F) arg11.view.ty // ∀ (E : Set ℕ) (K : ρ → sProp 𝕄),
        (iprop((arg8.view.loc (c : Thread nD τ) ↦[arg8.view.set]{fullShare} T)
          ∗ (arg10.view.loc (c : Thread nD τ) ↦[arg10.view.set]{fullShare} X)
          ∗ (arg11.view.loc (c : Thread nD τ) ↦[arg11.view.set]{fullShare} G)
          ∗ (((arg8.view.loc (c : Thread nD τ) ↦[arg8.view.set]{fullShare} T)
            ∗ (arg10.view.loc (c : Thread nD τ) ↦[arg10.view.set]{fullShare} X)
            ∗ (arg11.view.loc (c : Thread nD τ) ↦[arg11.view.set]{fullShare} W)) -∗ wp frame (wpE (defs₀ (F := F)) 𝒱 (c : Thread nD τ) bd) E k K)) : sProp 𝕄)
        ⊢ wp frame (wpE (defs₀ (F := F)) 𝒱 (c : Thread nD τ) bd) E
          (if b = 1#1 then do
            let v834 : BitVec 32 := Scalar.subi v73 0#32
            let v836 : BitVec 32 := Scalar.divsi v834 1#32
            let v837 : BitVec 32 := Scalar.muli v836 1#32
            let v838 : BitVec 32 := Scalar.addi 0#32 v837
            let v839 : FVec F S128x1 .f32 ← Scf.Loop.for (k0_t54_loop i) (k0_t54_ok i) v77 (k0_t54_body i arg2 harg2 arg3 harg3 arg4 harg4 arg5 harg5 arg6 harg6 arg7 harg7 arg8 harg8 arg9 harg9 arg10 harg10 arg11 harg11 arg12 harg12 v73 v77 v531 v543 v544 w)
            let v840 : FVec F S128x1 .f32 ← Scf.Loop.for (k0_t55_loop i) (k0_t55_ok i) v839 (k0_t55_body i arg2 harg2 arg3 harg3 arg4 harg4 arg5 harg5 arg6 harg6 arg7 harg7 arg8 harg8 arg9 harg9 arg10 harg10 arg11 harg11 arg12 harg12 v73 v77 v531 v543 v544 w v838)
            k
          else do
            Scf.Loop.for (k0_t56_loop i) (k0_t56_ok i) ⟨⟩ (k0_t56_body i arg2 harg2 arg3 harg3 arg4 harg4 arg5 harg5 arg6 harg6 arg7 harg7 arg8 harg8 arg9 harg9 arg10 harg10 arg11 harg11 arg12 harg12 v73 v77 v531 v543 v544 w)
            Scf.Loop.for (k0_t57_loop i) (k0_t57_ok i) ⟨⟩ (k0_t57_body i arg2 harg2 arg3 harg3 arg4 harg4 arg5 harg5 arg6 harg6 arg7 harg7 arg8 harg8 arg9 harg9 arg10 harg10 arg11 harg11 arg12 harg12 v73 v77 v531 v543 v544 w)
            k)
          K } := by
  refine ⟨if b = 1#1 then ?_ else ?_, fun E K => ?run⟩
  case run =>
    iintro ⟨H8, H10, H11, Hk⟩
    by_cases hb : b = 1#1
    · rw [if_pos hb, if_pos hb]
      sl_exec
      iapply Hk
      isplitl [H8]; · iexact H8
      isplitl [H10]; · iexact H10
      iexact H11
    · rw [if_neg hb, if_neg hb]
      sl_exec
      iapply Hk
      isplitl [H8]; · iexact H8
      isplitl [H10]; · iexact H10
      iexact H11

/-- The fourth row group: the selection's branches on whether a row of the group has more keys at its threshold than it needs; what it
    leaves in the selection's buffer. -/
def condRun4 (v99 : BitVec 32) (v103 : FVec F S128x1 .f32) (v687 : FVec F S128x1 .f32) (v699 : FVec F S128x1 .f32) (v713 : F .f32) (b : BitVec 1) {ρ : Type} (k : Prog (TpuEff nD τ sig (Elt F) Λ₀ .tc) ρ)
    (T : BufTy.Contents (Elt F) arg8.view.ty) (X : BufTy.Contents (Elt F) arg10.view.ty) (G : BufTy.Contents (Elt F) arg11.view.ty) :
    { W : BufTy.Contents (Elt F) arg11.view.ty // ∀ (E : Set ℕ) (K : ρ → sProp 𝕄),
        (iprop((arg8.view.loc (c : Thread nD τ) ↦[arg8.view.set]{fullShare} T)
          ∗ (arg10.view.loc (c : Thread nD τ) ↦[arg10.view.set]{fullShare} X)
          ∗ (arg11.view.loc (c : Thread nD τ) ↦[arg11.view.set]{fullShare} G)
          ∗ (((arg8.view.loc (c : Thread nD τ) ↦[arg8.view.set]{fullShare} T)
            ∗ (arg10.view.loc (c : Thread nD τ) ↦[arg10.view.set]{fullShare} X)
            ∗ (arg11.view.loc (c : Thread nD τ) ↦[arg11.view.set]{fullShare} W)) -∗ wp frame (wpE (defs₀ (F := F)) 𝒱 (c : Thread nD τ) bd) E k K)) : sProp 𝕄)
        ⊢ wp frame (wpE (defs₀ (F := F)) 𝒱 (c : Thread nD τ) bd) E
          (if b = 1#1 then do
            let v834 : BitVec 32 := Scalar.subi v99 0#32
            let v836 : BitVec 32 := Scalar.divsi v834 1#32
            let v837 : BitVec 32 := Scalar.muli v836 1#32
            let v838 : BitVec 32 := Scalar.addi 0#32 v837
            let v839 : FVec F S128x1 .f32 ← Scf.Loop.for (k0_t66_loop i) (k0_t66_ok i) v103 (k0_t66_body i arg2 harg2 arg3 harg3 arg4 harg4 arg5 harg5 arg6 harg6 arg7 harg7 arg8 harg8 arg9 harg9 arg10 harg10 arg11 harg11 arg12 harg12 v99 v103 v687 v699 v713)
            let v840 : FVec F S128x1 .f32 ← Scf.Loop.for (k0_t67_loop i) (k0_t67_ok i) v839 (k0_t67_body i arg2 harg2 arg3 harg3 arg4 harg4 arg5 harg5 arg6 harg6 arg7 harg7 arg8 harg8 arg9 harg9 arg10 harg10 arg11 harg11 arg12 harg12 v99 v103 v687 v699 v713 v838)
            k
          else do
            Scf.Loop.for (k0_t68_loop i) (k0_t68_ok i) ⟨⟩ (k0_t68_body i arg2 harg2 arg3 harg3 arg4 harg4 arg5 harg5 arg6 harg6 arg7 harg7 arg8 harg8 arg9 harg9 arg10 harg10 arg11 harg11 arg12 harg12 v99 v103 v687 v699 v713)
            Scf.Loop.for (k0_t69_loop i) (k0_t69_ok i) ⟨⟩ (k0_t69_body i arg2 harg2 arg3 harg3 arg4 harg4 arg5 harg5 arg6 harg6 arg7 harg7 arg8 harg8 arg9 harg9 arg10 harg10 arg11 harg11 arg12 harg12 v99 v103 v687 v699 v713)
            k)
          K } := by
  refine ⟨if b = 1#1 then ?_ else ?_, fun E K => ?run⟩
  case run =>
    iintro ⟨H8, H10, H11, Hk⟩
    by_cases hb : b = 1#1
    · rw [if_pos hb, if_pos hb]
      sl_exec
      iapply Hk
      isplitl [H8]; · iexact H8
      isplitl [H10]; · iexact H10
      iexact H11
    · rw [if_neg hb, if_neg hb]
      sl_exec
      iapply Hk
      isplitl [H8]; · iexact H8
      isplitl [H10]; · iexact H10
      iexact H11

-- (the run's proof term is large: checking it walks past the default budget)
set_option maxHeartbeats 4000000 in
/-- The body's triple: on whole staging buffers at their contents and the scratch and the output at any, the body ends
    with the inputs as they were and the output block written as the witness says. -/
def bodyRun (x2 : Vec F S1x512x256 .bf16) (x3 x4 : Vec F S1x4096x256 .bf16) (x5 : Vec F S1x512x256 .bf16)
    (x6 : Vec F S1x4096x128 .bf16) (x7 : Vec F S1x512x128 .f32) (x8 : Vec F S256x256 .bf16)
    (f9 : BufTy.Contents (Elt F) arg9.view.ty) (f10 : BufTy.Contents (Elt F) arg10.view.ty)
    (f11 : BufTy.Contents (Elt F) arg11.view.ty) (f12 : BufTy.Contents (Elt F) arg12.view.ty) :
    { out : BufTy.Contents (Elt F) arg9.view.ty //
      ∀ (E : Set ℕ) (K : PUnit → sProp 𝕄),
        iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare x8
          ∗ (arg9.view.loc (c : Thread nD τ) ↦[arg9.view.set]{fullShare} f9)
          ∗ (arg10.view.loc (c : Thread nD τ) ↦[arg10.view.set]{fullShare} f10)
          ∗ (arg11.view.loc (c : Thread nD τ) ↦[arg11.view.set]{fullShare} f11)
          ∗ (arg12.view.loc (c : Thread nD τ) ↦[arg12.view.set]{fullShare} f12)
          ∗ (iprop(owns (c : Thread nD τ) arg2 fullShare x2 ∗ owns (c : Thread nD τ) arg3 fullShare x3 ∗ owns (c : Thread nD τ) arg4 fullShare x4
              ∗ owns (c : Thread nD τ) arg5 fullShare x5 ∗ owns (c : Thread nD τ) arg6 fullShare x6 ∗ owns (c : Thread nD τ) arg7 fullShare x7
              ∗ owns (c : Thread nD τ) arg8 fullShare x8
              ∗ (arg9.view.loc (c : Thread nD τ) ↦[arg9.view.set]{fullShare} out)
              ∗ (∃ d, owns (c : Thread nD τ) arg10 fullShare d) ∗ (∃ d, owns (c : Thread nD τ) arg11 fullShare d)
              ∗ (∃ d, owns (c : Thread nD τ) arg12 fullShare d)) -∗ K ⟨⟩))
          ⊢ wp frame (wpE (defs₀ (F := F)) 𝒱 (c : Thread nD τ) bd) E (cc0_mixer_b i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_mixer_b_eq_skeleton]; unfold cc0_mixer_b_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, H12, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec
    iapply ((condRun1 𝒱 c bd i arg2 harg2 arg3 harg3 arg4 harg4 arg5 harg5 arg6 harg6 arg7 harg7 arg8 harg8 arg9 harg9 arg10 harg10 arg11 harg11 arg12 harg12 _ _ _ _ _ _ _ _ _).2 E _)
    isplitl [H8]; · iexact H8
    isplitl [H10]; · iexact H10
    isplitl [H11]; · iexact H11
    iintro ⟨H8, H10, H11⟩
    sl_exec
    iapply ((condRun2 𝒱 c bd i arg2 harg2 arg3 harg3 arg4 harg4 arg5 harg5 arg6 harg6 arg7 harg7 arg8 harg8 arg9 harg9 arg10 harg10 arg11 harg11 arg12 harg12 _ _ _ _ _ _ _ _ _ _ _ _).2 E _)
    isplitl [H8]; · iexact H8
    isplitl [H10]; · iexact H10
    isplitl [H11]; · iexact H11
    iintro ⟨H8, H10, H11⟩
    sl_exec
    iapply ((condRun3 𝒱 c bd i arg2 harg2 arg3 harg3 arg4 harg4 arg5 harg5 arg6 harg6 arg7 harg7 arg8 harg8 arg9 harg9 arg10 harg10 arg11 harg11 arg12 harg12 _ _ _ _ _ _ _ _ _ _ _).2 E _)
    isplitl [H8]; · iexact H8
    isplitl [H10]; · iexact H10
    isplitl [H11]; · iexact H11
    iintro ⟨H8, H10, H11⟩
    sl_exec
    iapply ((condRun4 𝒱 c bd i arg2 harg2 arg3 harg3 arg4 harg4 arg5 harg5 arg6 harg6 arg7 harg7 arg8 harg8 arg9 harg9 arg10 harg10 arg11 harg11 arg12 harg12 _ _ _ _ _ _ _ _ _ _).2 E _)
    isplitl [H8]; · iexact H8
    isplitl [H10]; · iexact H10
    isplitl [H11]; · iexact H11
    iintro ⟨H8, H10, H11⟩
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.Mix

end
-- ==== Proof.Launch.lean ====
module

public import proofs.«01_k».proof.Proof.Body
public import proofs.«01_k».proof.Proof.Gen.KernelIdeal.Frame
public import Idealize.ShloMosaic.Lib.Claim

@[expose] public section

set_option maxRecDepth 16384

/-! The launch: the body's run at every grid point put into the pipeline, once for any values. The output block's
    contents are left open; every input array ends as it began and every counter ends at zero. -/

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs at a point -/

/-- Window 0's staging buffer at point `t`. -/
abbrev stg0 (t : Fin cfg0.N) : Memref sig .tc .vmem S1x512x256 .bf16 := win0_0.stage (cfg0.slots t 0)
/-- Window 1's staging buffer at point `t`. -/
abbrev stg1 (t : Fin cfg0.N) : Memref sig .tc .vmem S1x4096x256 .bf16 := win0_1.stage (cfg0.slots t 1)
/-- Window 2's staging buffer at point `t`. -/
abbrev stg2 (t : Fin cfg0.N) : Memref sig .tc .vmem S1x4096x256 .bf16 := win0_2.stage (cfg0.slots t 2)
/-- Window 3's staging buffer at point `t`. -/
abbrev stg3 (t : Fin cfg0.N) : Memref sig .tc .vmem S1x512x256 .bf16 := win0_3.stage (cfg0.slots t 3)
/-- Window 4's staging buffer at point `t`. -/
abbrev stg4 (t : Fin cfg0.N) : Memref sig .tc .vmem S1x4096x128 .bf16 := win0_4.stage (cfg0.slots t 4)
/-- Window 5's staging buffer at point `t`. -/
abbrev stg5 (t : Fin cfg0.N) : Memref sig .tc .vmem S1x512x128 .f32 := win0_5.stage (cfg0.slots t 5)
/-- Window 6's staging buffer at point `t`. -/
abbrev stg6 (t : Fin cfg0.N) : Memref sig .tc .vmem S256x256 .bf16 := win0_6.stage (cfg0.slots t 6)
/-- Window 7's staging buffer at point `t`. -/
abbrev stg7 (t : Fin cfg0.N) : Memref sig .tc .vmem S1x512x256 .bf16 := win0_7.stage (cfg0.slots t 7)
/-- Scratch buffer 0, whole. -/
abbrev scr0 : Memref sig .tc .vmem S8x512x512 .f32 := Memref.whole cc0_scratch0
/-- Scratch buffer 1, whole. -/
abbrev scr1 : Memref sig .tc .vmem S8x512x512 .f32 := Memref.whole cc0_scratch1
/-- Scratch buffer 2, whole. -/
abbrev scr2 : Memref sig .tc .vmem S4x8x128x512 .f32 := Memref.whole cc0_scratch2

/-- The pipeline's invariant: the three scratch buffers at some contents, and the generator register. -/
theorem inv_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-! ## The proof data -/

/-- Only the output window's contents are left open. -/
def open0 : Fin 8 → Bool := fun w => w.val == 7

/-- The proof data: each input's buffer at its block after the body, the output's left open. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

/-- The arrays are as the region finds them. -/
theorem data_A (c : Dev nD) (w : Fin cfg0.W) : (data m 0 c).A w = V m c (Pipeline.arrRef spec0 w) := by
  dsimp only [data]

theorem data_after0 (c : Dev nD) (t : Fin cfg0.N) : (data m 0 c).after 0 t = iblk m c 0 t := by dsimp only [data]
theorem data_before0 (c : Dev nD) (t : Fin cfg0.N) (d) : (data m 0 c).before 0 t d = iblk m c 0 t :=
  before0_0_of m (data m 0 c) (data_A m c 0) (data_after0 m c) t d
theorem data_after1 (c : Dev nD) (t : Fin cfg0.N) : (data m 0 c).after 1 t = iblk m c 1 t := by dsimp only [data]
theorem data_before1 (c : Dev nD) (t : Fin cfg0.N) (d) : (data m 0 c).before 1 t d = iblk m c 1 t :=
  before0_1_of m (data m 0 c) (data_A m c 1) (data_after1 m c) t d
theorem data_after2 (c : Dev nD) (t : Fin cfg0.N) : (data m 0 c).after 2 t = iblk m c 2 t := by dsimp only [data]
theorem data_before2 (c : Dev nD) (t : Fin cfg0.N) (d) : (data m 0 c).before 2 t d = iblk m c 2 t :=
  before0_2_of m (data m 0 c) (data_A m c 2) (data_after2 m c) t d
theorem data_after3 (c : Dev nD) (t : Fin cfg0.N) : (data m 0 c).after 3 t = iblk m c 3 t := by dsimp only [data]
theorem data_before3 (c : Dev nD) (t : Fin cfg0.N) (d) : (data m 0 c).before 3 t d = iblk m c 3 t :=
  before0_3_of m (data m 0 c) (data_A m c 3) (data_after3 m c) t d
theorem data_after4 (c : Dev nD) (t : Fin cfg0.N) : (data m 0 c).after 4 t = iblk m c 4 t := by dsimp only [data]
theorem data_before4 (c : Dev nD) (t : Fin cfg0.N) (d) : (data m 0 c).before 4 t d = iblk m c 4 t :=
  before0_4_of m (data m 0 c) (data_A m c 4) (data_after4 m c) t d
theorem data_after5 (c : Dev nD) (t : Fin cfg0.N) : (data m 0 c).after 5 t = iblk m c 5 t := by dsimp only [data]
theorem data_before5 (c : Dev nD) (t : Fin cfg0.N) (d) : (data m 0 c).before 5 t d = iblk m c 5 t :=
  before0_5_of m (data m 0 c) (data_A m c 5) (data_after5 m c) t d
theorem data_after6 (c : Dev nD) (t : Fin cfg0.N) : (data m 0 c).after 6 t = iblk m c 6 t := by dsimp only [data]
theorem data_before6 (c : Dev nD) (t : Fin cfg0.N) (d) : (data m 0 c).before 6 t d = iblk m c 6 t :=
  before0_6_of m (data m 0 c) (data_A m c 6) (data_after6 m c) t d

/-! ## The body obligation -/

/-- What the body is given at point `t`, window by window, -/
def bodyPre (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare d))

/-- and what it gives back. -/
def bodyPost (c : Dev nD) (t : Fin cfg0.N) : sProp 𝕄 :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t)
    ∗ owns (c : Thread nD τ) (stg5 t) fullShare ((data m 0 c).after 5 t)
    ∗ owns (c : Thread nD τ) (stg6 t) fullShare ((data m 0 c).after 6 t)
    ∗ (∃ d, owns (c : Thread nD τ) (stg7 t) fullShare d))

/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [data_before0, data_before1, data_before2, data_before3, data_before4, data_before5, data_before6]
  rw [show (data m 0 c).Φ t.succ = (data m 0 c).Φ t.castSucc from rfl,
    show (data m 0 c).owesAt () t.succ = (data m 0 c).owesAt () t.castSucc from rfl,
    data_after0, data_after1, data_after2, data_after3, data_after4, data_after5, data_after6]
  rw [show (data m 0 c).Φ t.castSucc = Pipeline.ΦA spec0 c from rfl, inv_eq]
  have hrun := fun g7 g0 g1 g2 => (bodyRun (F := F) Variants.none c none (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) scr0 (Memref.isWhole_whole _) scr1 (Memref.isWhole_whole _) scr2 (Memref.isWhole_whole _) (iblk m c 0 t) (iblk m c 1 t) (iblk m c 2 t) (iblk m c 3 t) (iblk m c 4 t) (iblk m c 5 t) (iblk m c 6 t) g7 g0 g1 g2).2 Set.univ
  unfold owns at hrun ⊢
  iintro ⟨⟨⟨⟨%e0, %g0, %hg0, HS0⟩, ⟨%e1, %g1, %hg1, HS1⟩, ⟨%e2, %g2, %hg2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, %g7, %hg7, H7⟩⟩
  iapply (hrun g7 g0 g1 g2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _, _; isplitr; swap; · iexact H7
  ipureintro; rfl

/-- The body table's row at point `t`'s buffers is the body there. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (data (F := F) m 0 c) (defs₀ (F := F)) Variants.none () Set.univ open0 := fun t => by
  rw [bigSep_W0, bigSep_W0, row_eq]
  exact triple_restated (sound_body m c t) rfl .rfl fun _ => .rfl

/-! ## The run -/

set_option backward.isDefEq.respectTransparency.types false in
/-- THE RUN, once for any values: every execution terminates, the arrays end as the pipeline leaves them, every counter
    ends at zero. -/
theorem run_main : θ_run defs (onTc (τ := τ) (main (F := F))) (s₀ m ρ)
    (fun r => (Pipeline.RDat.FramePost (cfgs 0) (fun c => (data m 0 c).toRForget open0) (V m)) r ∧ r.2.sem = fun _ => 0) :=
  Pipeline.θ_run_frame_forget_shared (Q' := _) cfgs (data m) (0 : Fin 1) launch₀0 defs₀ Variants.none open0 m ρ main
    (hbody := fun c => (obligation m c).loose) (hq := fun _ _ _ => rfl)
    (howed := fun _ _ => rfl) (V := V m) (hmain := hmain m Variants.none) (hA := data_A m) (hΦ := fun _ _ => rfl)

/-- The run, of the arguments: both arrays end unchanged and every counter at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(Pipeline.RDat.FramePost.arr_in h.1 c 4 rfl).trans ((data_A m c 4).trans (V_main_arg0 m c)),
     (Pipeline.RDat.FramePost.arr_in h.1 c 5 rfl).trans ((data_A m c 5).trans (V_main_arg1 m c))⟩, h.2⟩) (run_main m ρ)

end Cert.Mix

end
-- ==== Proof.Read.lean ====
/-
  Reading the layout operations of the host programs at a rank-two index, in terms of the coordinates: a slice, one piece of a
  concatenation along the columns, the rows of a [8, 4096, 1024] array laid out as [32768, 1024], a zero block, and an
  [M, K] × [K, N] product at the ideal values.
-/
module

public import Idealize.ShloMosaic.Lib.MatmulPlain
public import Idealize.ShloMosaic.Lib.ValueIdx
public import Idealize.ShloMosaic.Lib.Pipeline.Value

@[expose] public section

noncomputable section

namespace Cert.Read

open Idealize.ShloMosaic Idealize.ShloMosaic.ValueIdx

variable {α : Type}

/-- A rank-two index is told by its coordinates' values. -/
theorem ix2_ext {a b : ℕ} {r r' : Fin a} {c c' : Fin b} (hr : r.val = r'.val) (hc : c.val = c'.val) :
    (ix2 r c : (⟨2, ![a, b]⟩ : Shape).Idx) = ix2 r' c' := by
  rw [Fin.ext hr, Fin.ext hc]

/-- A slice of a matrix at (r, c): the matrix at the offsets further. -/
theorem slice2 {a b p q : ℕ} (o0 o1 : ℕ) (x : (⟨2, ![a, b]⟩ : Shape).Idx → α)
    (h : (⟨2, ![a, b]⟩ : Shape).Slices ![o0, o1] ⟨2, ![p, q]⟩) (r : Fin p) (c : Fin q) (r' : Fin a) (c' : Fin b)
    (hr : r'.val = o0 + r.val) (hc : c'.val = o1 + c.val) :
    extractStridedSlice ⟨2, ![p, q]⟩ ![o0, o1] x h (ix2 r c) = x (ix2 r' c') :=
  extractStridedSlice_apply _ x h _ _ fun e => by
    match e with
    | ⟨0, _⟩ => exact hr
    | ⟨1, _⟩ => exact hc

/-- Matrices set side by side, read in the columns of piece `k`, which start at `pre`. -/
theorem cat2 {a b q : ℕ} (xs : List ((s : Shape) × (s.Idx → α)))
    (h : Shape.Concatenates (xs.map (·.1)) ⟨2, ![a, b]⟩ 1) (r : Fin a) (c : Fin b) (k : ℕ)
    (x : (⟨2, ![a, q]⟩ : Shape).Idx → α) (hx : xs[k]? = some ⟨⟨2, ![a, q]⟩, x⟩) (pre : ℕ)
    (hpre : (((xs.take k).map (·.1)).map fun s => if h : s.rank = 2 then s.size ((1 : Fin 2).cast h.symm) else 0).sum = pre)
    (c' : Fin q) (hc : pre + c'.val = c.val) :
    concatenate ⟨2, ![a, b]⟩ 1 xs h (ix2 r c) = x (ix2 r c') :=
  have ⟨hk, hx⟩ := List.getElem?_eq_some_iff.1 hx
  concatenate_apply_piece (t := ⟨2, ![a, b]⟩) 1 xs h (ix2 r c) k hk ⟨2, ![a, q]⟩ x hx rfl pre hpre (ix2 r c')
    (fun e he => by
      match e with
      | ⟨0, _⟩ => rfl
      | ⟨1, _⟩ => exact absurd rfl he) hc

/-- A block of the zero constant holds zero. -/
theorem zeros {T : Shape} (h : (⟨0, ![]⟩ : Shape).BroadcastsInDim T ![]) (j : T.Idx) :
    broadcastInDim T ![] h (constant ⟨0, ![]⟩ .f32 0x00000000#32 : FVec Ideal ⟨0, ![]⟩ .f32) j = 0 :=
  Ideal.ofBits_zero_f32

/-- The kernel's product of two matrices, into a block of zeros, at (r, c). -/
theorem matmul2 {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (r : Fin M) (c : Fin N) :
    matmul d none x w (constant ⟨2, ![M, N]⟩ .f32 0x00000000#32) (ix2 r c) = ∑ k : Fin K, x (ix2 r k) * w (ix2 k c) := by
  subst hd
  refine (Ideal.matmul_plain_apply none x w _ r c).trans ?_
  show Ideal.ofBits .f32 0x00000000#32 + _ = _
  rw [Ideal.ofBits_zero_f32, zero_add]

/-- The host's product of two matrices at (r, c). -/
theorem dot2 {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (r : Fin M) (c : Fin N) :
    Host.dotGeneral d none x w (ix2 r c) = ∑ k : Fin K, x (ix2 r k) * w (ix2 k c) := by
  rw [← matmul2 d hd x w r c]
  simp only [Host.dotGeneral, matmul]
  rw [Ideal.dotGeneral_apply, Ideal.matmul_constant_zero_apply]

/-- The key and value columns of the attention weights, [k/v, group, head, 64] laid out as [group, k/v, head, 64]. -/
theorem groupColumns (w : (⟨2, ![1024, 2304]⟩ : Shape).Idx → α)
    (h₁ : (⟨2, ![1024, 2304]⟩ : Shape).ShapeCasts ⟨5, ![1024, 3, 3, 4, 64]⟩)
    (h₂ : (⟨5, ![1024, 3, 3, 4, 64]⟩ : Shape).Slices ![0, 1, 0, 0, 0] ⟨5, ![1024, 2, 3, 4, 64]⟩)
    (h₃ : (⟨5, ![1024, 2, 3, 4, 64]⟩ : Shape).Transposes [0, 2, 1, 3, 4] ⟨5, ![1024, 3, 2, 4, 64]⟩)
    (h₄ : (⟨5, ![1024, 3, 2, 4, 64]⟩ : Shape).ShapeCasts ⟨2, ![1024, 1536]⟩) (k : Fin 1024) (c : Fin 1536) (c' : Fin 2304)
    (hc : c'.val = (c.val / 256 % 2 + 1) * 768 + c.val / 512 * 256 + c.val % 256) :
    shapeCast ⟨2, ![1024, 1536]⟩ (transpose ⟨5, ![1024, 3, 2, 4, 64]⟩ [0, 2, 1, 3, 4]
      (extractStridedSlice ⟨5, ![1024, 2, 3, 4, 64]⟩ ![0, 1, 0, 0, 0] (shapeCast ⟨5, ![1024, 3, 3, 4, 64]⟩ w h₁) h₂) h₃) h₄ (ix2 k c)
      = w (ix2 k c') := by
  have hk := k.isLt
  have hcl := c.isLt
  rw [shapeCast_apply _ h₄ (ix2 k c) (ix5 k ⟨c.val / 512, by omega⟩ ⟨c.val / 256 % 2, by omega⟩ ⟨c.val / 64 % 4, by omega⟩ ⟨c.val % 64, by omega⟩)
      (by rw [Shape.rowMajor_val_five, Shape.rowMajor_val_two]
          show (((k.val * 3 + c.val / 512) * 2 + c.val / 256 % 2) * 4 + c.val / 64 % 4) * 64 + c.val % 64 = k.val * 1536 + c.val
          omega),
    transpose_apply _ _ h₃ _ (ix5 k ⟨c.val / 256 % 2, by omega⟩ ⟨c.val / 512, by omega⟩ ⟨c.val / 64 % 4, by omega⟩ ⟨c.val % 64, by omega⟩)
      (fun b => by match b with | ⟨0, _⟩ => rfl | ⟨1, _⟩ => rfl | ⟨2, _⟩ => rfl | ⟨3, _⟩ => rfl | ⟨4, _⟩ => rfl),
    extractStridedSlice_apply _ _ h₂ _ (ix5 k ⟨c.val / 256 % 2 + 1, by omega⟩ ⟨c.val / 512, by omega⟩ ⟨c.val / 64 % 4, by omega⟩ ⟨c.val % 64, by omega⟩)
      (fun b => by
        match b with
        | ⟨0, _⟩ => exact (Nat.zero_add _).symm
        | ⟨1, _⟩ => exact Nat.add_comm _ 1
        | ⟨2, _⟩ => exact (Nat.zero_add _).symm
        | ⟨3, _⟩ => exact (Nat.zero_add _).symm
        | ⟨4, _⟩ => exact (Nat.zero_add _).symm)]
  refine shapeCast_apply w h₁ _ (ix2 k c') ?_
  rw [Shape.rowMajor_val_five, Shape.rowMajor_val_two]
  show k.val * 2304 + c'.val = (((k.val * 3 + (c.val / 256 % 2 + 1)) * 3 + c.val / 512) * 4 + c.val / 64 % 4) * 64 + c.val % 64
  omega

/-- The query columns keep their order. -/
theorem queryColumns (w : (⟨2, ![1024, 2304]⟩ : Shape).Idx → α)
    (h₁ : (⟨2, ![1024, 2304]⟩ : Shape).ShapeCasts ⟨5, ![1024, 3, 3, 4, 64]⟩)
    (h₂ : (⟨5, ![1024, 3, 3, 4, 64]⟩ : Shape).Slices ![0, 0, 0, 0, 0] ⟨5, ![1024, 1, 3, 4, 64]⟩)
    (h₃ : (⟨5, ![1024, 1, 3, 4, 64]⟩ : Shape).ShapeCasts ⟨4, ![1024, 3, 4, 64]⟩)
    (h₄ : (⟨4, ![1024, 3, 4, 64]⟩ : Shape).ShapeCasts ⟨2, ![1024, 768]⟩) (k : Fin 1024) (c : Fin 768) (c' : Fin 2304)
    (hc : c'.val = c.val) :
    shapeCast ⟨2, ![1024, 768]⟩ (shapeCast ⟨4, ![1024, 3, 4, 64]⟩ (extractStridedSlice ⟨5, ![1024, 1, 3, 4, 64]⟩ ![0, 0, 0, 0, 0]
      (shapeCast ⟨5, ![1024, 3, 3, 4, 64]⟩ w h₁) h₂) h₃) h₄ (ix2 k c) = w (ix2 k c') := by
  have hk := k.isLt
  have hcl := c.isLt
  rw [shapeCast_apply _ h₄ (ix2 k c) (ix4 k ⟨c.val / 256, by omega⟩ ⟨c.val / 64 % 4, by omega⟩ ⟨c.val % 64, by omega⟩)
      (by rw [Shape.rowMajor_val_four, Shape.rowMajor_val_two]
          show ((k.val * 3 + c.val / 256) * 4 + c.val / 64 % 4) * 64 + c.val % 64 = k.val * 768 + c.val
          omega),
    shapeCast_apply _ h₃ _ (ix5 k ⟨0, Nat.one_pos⟩ ⟨c.val / 256, by omega⟩ ⟨c.val / 64 % 4, by omega⟩ ⟨c.val % 64, by omega⟩)
      (by rw [Shape.rowMajor_val_four, Shape.rowMajor_val_five]
          show (((k.val * 1 + 0) * 3 + c.val / 256) * 4 + c.val / 64 % 4) * 64 + c.val % 64
            = ((k.val * 3 + c.val / 256) * 4 + c.val / 64 % 4) * 64 + c.val % 64
          omega),
    extractStridedSlice_apply _ _ h₂ _ (ix5 k ⟨0, by omega⟩ ⟨c.val / 256, by omega⟩ ⟨c.val / 64 % 4, by omega⟩ ⟨c.val % 64, by omega⟩)
      (fun b => by
        match b with
        | ⟨0, _⟩ => exact (Nat.zero_add _).symm
        | ⟨1, _⟩ => rfl
        | ⟨2, _⟩ => exact (Nat.zero_add _).symm
        | ⟨3, _⟩ => exact (Nat.zero_add _).symm
        | ⟨4, _⟩ => exact (Nat.zero_add _).symm)]
  refine shapeCast_apply w h₁ _ (ix2 k c') ?_
  rw [Shape.rowMajor_val_five, Shape.rowMajor_val_two]
  show k.val * 2304 + c'.val = (((k.val * 3 + 0) * 3 + c.val / 256) * 4 + c.val / 64 % 4) * 64 + c.val % 64
  omega

/-- Part `a` (query, key, value) of group `b` of the attention columns. -/
theorem partColumns (a b : ℕ) (p : (⟨2, ![32768, 2304]⟩ : Shape).Idx → α)
    (h₁ : (⟨2, ![32768, 2304]⟩ : Shape).ShapeCasts ⟨4, ![32768, 3, 3, 256]⟩)
    (h₂ : (⟨4, ![32768, 3, 3, 256]⟩ : Shape).Slices ![0, a, b, 0] ⟨4, ![32768, 1, 1, 256]⟩)
    (h₃ : (⟨4, ![32768, 1, 1, 256]⟩ : Shape).ShapeCasts ⟨2, ![32768, 256]⟩) (r : Fin 32768) (c : Fin 256) (c' : Fin 2304)
    (ha : a < 3) (hb : b < 3) (hc : c'.val = a * 768 + b * 256 + c.val) :
    shapeCast ⟨2, ![32768, 256]⟩ (extractStridedSlice ⟨4, ![32768, 1, 1, 256]⟩ ![0, a, b, 0]
      (shapeCast ⟨4, ![32768, 3, 3, 256]⟩ p h₁) h₂) h₃ (ix2 r c) = p (ix2 r c') := by
  rw [shapeCast_apply _ h₃ (ix2 r c) (ix4 r ⟨0, Nat.one_pos⟩ ⟨0, Nat.one_pos⟩ c)
      (by rw [Shape.rowMajor_val_four, Shape.rowMajor_val_two]
          show ((r.val * 1 + 0) * 1 + 0) * 256 + c.val = r.val * 256 + c.val
          omega),
    extractStridedSlice_apply _ _ h₂ _ (ix4 r ⟨a, ha⟩ ⟨b, hb⟩ c)
      (fun e => by
        match e with
        | ⟨0, _⟩ => exact (Nat.zero_add _).symm
        | ⟨1, _⟩ => rfl
        | ⟨2, _⟩ => rfl
        | ⟨3, _⟩ => exact (Nat.zero_add _).symm)]
  refine shapeCast_apply p h₁ _ (ix2 r c') ?_
  rw [Shape.rowMajor_val_four, Shape.rowMajor_val_two]
  show r.val * 2304 + c'.val = ((r.val * 3 + a) * 3 + b) * 256 + c.val
  omega

end Cert.Read

end
-- ==== Proof.ProjB.lean ====
/-
  The in-projection call that yields the attention and state-space columns: its result is the product of the hidden state's rows with
  the weight's columns in the order the call gathers them, which is what the reference's projection gives column by column.
-/
module

public import proofs.«01_k».proof.Defs
public import proofs.«01_k».proof.Proof.Read
public import proofs.«01_k».proof.Proof.Gen.Kernel2Ideal.Value
public import proofs.«01_k».proof.Proof.Gen.Reference2Ideal.Run
public import Idealize.ShloMosaic.Lib.Claim

@[expose] public section

noncomputable section

open Idealize.ShloMosaic Idealize.ShloMosaic.TcCoe Idealize.SL.Sem Idealize.ShloMosaic.ValueIdx

namespace Cert.ProjB

open Cert.Kernel2Ideal Cert.Kernel2Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The operands of the call: the rows of the hidden state, and the gathered columns of the weight. -/
def rows (c : Dev nD) : FVec Ideal ⟨2, ![32768, 1024]⟩ .f32 := V m c main_v0
def cols (c : Dev nD) : FVec Ideal ⟨2, ![1024, 3840]⟩ .bf16 := V m c main_v25

/-- Their product, what the call is shown to leave. -/
def prodV (c : Dev nD) : FVec Ideal ⟨2, ![32768, 3840]⟩ .bf16 := fun i =>
  (∑ k : Fin 1024, rows m c (ix2 (i 0) k) * cols m c (ix2 k (i 1)) : EReal)
/-- The same as contents of the result array. -/
abbrev prod (c : Dev nD) : Buf (Elt Ideal) ((c : Thread nD τ).loc main_v27) := prodV m c

/-- Which block of each array point `t` takes. -/
theorem blocks : ∀ t : Fin cfg0.N, win0_0.index t 0 = t.val / 5 ∧ win0_0.index t 1 = 0 ∧ win0_1.index t 0 = 0
    ∧ win0_1.index t 1 = t.val % 5 ∧ win0_2.index t 0 = t.val / 5 ∧ win0_2.index t 1 = t.val % 5 :=
  (by decide +kernel : ∀ t : Fin grid0.N, win0_0.index t 0 = t.val / 5 ∧ win0_0.index t 1 = 0 ∧ win0_1.index t 0 = 0
    ∧ win0_1.index t 1 = t.val % 5 ∧ win0_2.index t 0 = t.val / 5 ∧ win0_2.index t 1 = t.val % 5)

theorem N80 : cfg0.N = 80 := by decide +kernel

theorem out_eq (x : Vec Ideal S2048x1024 .f32) (w : Vec Ideal S1024x768 .bf16) (r : Fin 2048) (q : Fin 768) :
    out0_2 x w (ix2 r q) = (∑ k : Fin 1024, x (ix2 r k) * w (ix2 k q) : EReal) := by
  unfold out0_2
  rw [View.canon_unit_zero hz, View.ld_unit_zero hz, View.ld_unit_zero hz]
  unfold k0_pay1
  rw [shapeCast_self, shapeCast_self]
  exact Cert.Read.matmul2 (φ₁ := .bf16) (φ₂ := .bf16) _ rfl (truncf .bf16 x bitsLt_bf16_f32) w r q

/-- The block of rows point `t` reads. -/
theorem rows_eq (c : Dev nD) (t : Fin cfg0.N) (r : Fin 2048) (k : Fin 1024) (r' : Fin 32768) (hr : r'.val = t.val / 5 * 2048 + r.val) :
    (iblk m c 0 t : Vec Ideal S2048x1024 .f32) (ix2 r k) = rows m c (ix2 r' k) := by
  obtain ⟨h0, h1, -⟩ := blocks t
  unfold iblk
  rw [View.read_apply]
  refine congrArg (V m c main_v0) (funext fun a => Fin.ext ?_)
  match a with
  | ⟨0, _⟩ => show win0_0.index t 0 * 2048 + 1 * r.val = r'.val; rw [h0, hr]; omega
  | ⟨1, _⟩ => show win0_0.index t 1 * 1024 + 1 * k.val = k.val; rw [h1]; omega

/-- The block of columns point `t` reads. -/
theorem cols_eq (c : Dev nD) (t : Fin cfg0.N) (k : Fin 1024) (q : Fin 768) (q' : Fin 3840) (hq : q'.val = t.val % 5 * 768 + q.val) :
    (iblk m c 1 t : Vec Ideal S1024x768 .bf16) (ix2 k q) = cols m c (ix2 k q') := by
  obtain ⟨-, -, h0, h1, -⟩ := blocks t
  unfold iblk
  rw [View.read_apply]
  refine congrArg (V m c main_v25) (funext fun a => Fin.ext ?_)
  match a with
  | ⟨0, _⟩ => show win0_1.index t 0 * 1024 + 1 * k.val = k.val; rw [h0]; omega
  | ⟨1, _⟩ => show win0_1.index t 1 * 768 + 1 * q.val = q'.val; rw [h1, hq]; omega

/-- What point `t` leaves is the product of its rows and columns. -/
theorem point_eq (c : Dev nD) (t : Fin cfg0.N) (r : Fin 2048) (q : Fin 768) (r' : Fin 32768) (q' : Fin 3840)
    (hr : r'.val = t.val / 5 * 2048 + r.val) (hq : q'.val = t.val % 5 * 768 + q.val) :
    out0_2 (iblk m c 0 t) (iblk m c 1 t) (ix2 r q) = prodV m c (ix2 r' q') :=
  (out_eq (iblk m c 0 t) (iblk m c 1 t) r q).trans
    (Finset.sum_congr rfl fun k _ => congrArg₂ (fun a b : EReal => a * b) (rows_eq m c t r k r' hr) (cols_eq m c t k q q' hq))

theorem flushed_eq (c : Dev nD) (t : Fin cfg0.N) :
    (dats m 0 c).flushed 2 t = ((cfg0.win 2).blk t).view.read (Elt Ideal) (prod m c) := by
  rw [Value.flushed2]
  have ht := t.isLt
  have hN := N80
  obtain ⟨-, -, -, -, h0, h1⟩ := blocks t
  funext j
  have hj0 : (j 0).val < 2048 := (j 0).isLt
  have hj1 : (j 1).val < 768 := (j 1).isLt
  rw [View.read_apply]
  refine (congrArg (out0_2 (iblk m c 0 t) (iblk m c 1 t)) (eq_ix2 (n0 := 2048) (n1 := 768) j)).trans
    ((point_eq m c t (j 0) (j 1) ⟨t.val / 5 * 2048 + (j 0).val, by omega⟩ ⟨t.val % 5 * 768 + (j 1).val, by omega⟩ rfl rfl).trans ?_)
  refine congrArg (prodV m c) (funext fun a => Fin.ext ?_)
  match a with
  | ⟨0, _⟩ => show t.val / 5 * 2048 + (j 0).val = win0_2.index t 0 * 2048 + 1 * (j 0).val; rw [h0]; omega
  | ⟨1, _⟩ => show t.val % 5 * 768 + (j 1).val = win0_2.index t 1 * 768 + 1 * (j 1).val; rw [h1]; omega

theorem final (c : Dev nD) : (dats m 0 c).arrAt 2 cfg0.N = prod m c :=
  (dats m 0 c).arrAt_eq_of_cover 2 (prod m c) (fun t _ => flushed_eq m c t) fun i => by
    have h0 : (i 0 : Nat) < 32768 := (i 0).isLt
    have h1 : (i 1 : Nat) < 3840 := (i 1).isLt
    have hN := N80
    obtain ⟨t, ht⟩ : ∃ t : Fin cfg0.N, t.val = (i 0 : Nat) / 2048 * 5 + (i 1 : Nat) / 768 := ⟨⟨_, by omega⟩, rfl⟩
    obtain ⟨-, -, -, -, h20, h21⟩ := blocks t
    refine ⟨t, flush0_2 _, ?_⟩
    show i ∈ ((View.whole main_v27).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [h20, ht]; omega
    | ⟨1, _⟩ =>
      show win0_2.index t 1 * 768 ≤ (i 1 : Nat) ∧ (i 1 : Nat) < win0_2.index t 1 * 768 + 768
      rw [h21, ht]; omega

/-! ## The operands read -/

/-- The rows are the hidden state's. -/
theorem rows_term (c : Dev nD) : rows m c = shapeCast S32768x1024 (m ((c : Thread nD τ).loc main_arg0)) shapeCasts_S8x4096x1024_S32768x1024 := by
  unfold rows
  show StableHlo.after hostOps0 _ _ = _
  after_results <;> rfl

set_option maxHeartbeats 2000000 in
/-- The columns as the host gathers them from the weight. -/
theorem cols_term (c : Dev nD) (w : FVec Ideal S1024x9160 .f32) (hw : m ((c : Thread nD τ).loc main_arg1) = w) :
    cols m c = truncf .bf16 (concatenate S1024x3840 1
      [⟨S1024x1536, shapeCast S1024x1536 (transpose S1024x3x2x4x64 [0, 2, 1, 3, 4] (extractStridedSlice S1024x2x3x4x64 ![0, 1, 0, 0, 0]
          (shapeCast S1024x3x3x4x64 (extractStridedSlice S1024x2304 ![0, 0] w slices_S1024x9160_S1024x2304_0_0) shapeCasts_S1024x2304_S1024x3x3x4x64)
          slices_S1024x3x3x4x64_S1024x2x3x4x64_0_1_0_0_0) transposes_S1024x2x3x4x64_S1024x3x2x4x64_0_2_1_3_4) shapeCasts_S1024x3x2x4x64_S1024x1536⟩,
       ⟨S1024x768, shapeCast S1024x768 (shapeCast S1024x3x4x64 (extractStridedSlice S1024x1x3x4x64 ![0, 0, 0, 0, 0]
          (shapeCast S1024x3x3x4x64 (extractStridedSlice S1024x2304 ![0, 0] w slices_S1024x9160_S1024x2304_0_0) shapeCasts_S1024x2304_S1024x3x3x4x64)
          slices_S1024x3x3x4x64_S1024x1x3x4x64_0_0_0_0_0) shapeCasts_S1024x1x3x4x64_S1024x3x4x64) shapeCasts_S1024x3x4x64_S1024x768⟩,
       ⟨S1024x768, extractStridedSlice S1024x768 ![0, 2304] w slices_S1024x9160_S1024x768_0_2304⟩,
       ⟨S1024x256, extractStridedSlice S1024x256 ![0, 3072] w slices_S1024x9160_S1024x256_0_3072⟩,
       ⟨S1024x64, extractStridedSlice S1024x64 ![0, 3328] w slices_S1024x9160_S1024x64_0_3328⟩,
       ⟨S1024x448, broadcastInDim S1024x448 ![] bcast_S_S1024x448 (constant S_ .f32 0x00000000#32 : FVec Ideal S_ .f32)⟩]
      concatenates_S1024x1536_S1024x768_S1024x768_S1024x256_S1024x64_S1024x448_S1024x3840_d1 : FVec Ideal S1024x3840 .f32) bitsLt_bf16_f32 := by
  subst hw
  unfold cols
  show StableHlo.after hostOps0 _ _ = _
  after_results <;> rfl

/-- Column `q` of the call's result is column `source q` of the projection, for `q` below 3392: the keys and values group by
    group, the queries, then columns 2304 to 3391 in their order. -/
def source (q : ℕ) : ℕ :=
  if q < 1536 then (q / 256 % 2 + 1) * 768 + q / 512 * 256 + q % 256 else if q < 2304 then q - 1536 else q

theorem source_lt {q : ℕ} (h : q < 3392) : source q < 9160 := by
  unfold source; split_ifs <;> omega

theorem cols_read (c : Dev nD) (w : FVec Ideal S1024x9160 .f32) (hw : m ((c : Thread nD τ).loc main_arg1) = w)
    (k : Fin 1024) (q : Fin 3840) (h : q.val < 3392) : cols m c (ix2 k q) = w (ix2 k ⟨source q.val, source_lt h⟩) := by
  rw [cols_term m c w hw]
  rw [truncf_apply]
  by_cases h₁ : q.val < 1536
  · have hs : source q.val = (q.val / 256 % 2 + 1) * 768 + q.val / 512 * 256 + q.val % 256 := by unfold source; rw [if_pos h₁]
    refine (Cert.Read.cat2 _ _ k q 0 _ rfl 0 rfl (⟨q.val, h₁⟩ : Fin 1536) (Nat.zero_add _)).trans ?_
    refine (Cert.Read.groupColumns _ _ _ _ _ k ⟨q.val, h₁⟩ ⟨source q.val, by omega⟩ hs).trans ?_
    exact Cert.Read.slice2 0 0 w _ k _ k _ (Nat.zero_add _).symm (Nat.zero_add _).symm
  by_cases h₂ : q.val < 2304
  · have hs : source q.val = q.val - 1536 := by unfold source; rw [if_neg h₁, if_pos h₂]
    refine (Cert.Read.cat2 _ _ k q 1 _ rfl 1536 rfl (⟨q.val - 1536, by omega⟩ : Fin 768) (by simp only; omega)).trans ?_
    refine (Cert.Read.queryColumns _ _ _ _ _ k ⟨q.val - 1536, by omega⟩ ⟨source q.val, by omega⟩ hs).trans ?_
    exact Cert.Read.slice2 0 0 w _ k _ k _ (Nat.zero_add _).symm (Nat.zero_add _).symm
  have hs : source q.val = q.val := by unfold source; rw [if_neg h₁, if_neg h₂]
  by_cases h₃ : q.val < 3072
  · refine (Cert.Read.cat2 _ _ k q 2 _ rfl 2304 rfl (⟨q.val - 2304, by omega⟩ : Fin 768) (by simp only; omega)).trans ?_
    exact Cert.Read.slice2 0 2304 w _ k _ k _ (Nat.zero_add _).symm (by simp only [hs]; omega)
  by_cases h₄ : q.val < 3328
  · refine (Cert.Read.cat2 _ _ k q 3 _ rfl 3072 rfl (⟨q.val - 3072, by omega⟩ : Fin 256) (by simp only; omega)).trans ?_
    exact Cert.Read.slice2 0 3072 w _ k _ k _ (Nat.zero_add _).symm (by simp only [hs]; omega)
  · refine (Cert.Read.cat2 _ _ k q 4 _ rfl 3328 rfl (⟨q.val - 3328, by omega⟩ : Fin 64) (by simp only; omega)).trans ?_
    exact Cert.Read.slice2 0 3328 w _ k _ k _ (Nat.zero_add _).symm (by simp only [hs]; omega)

theorem cols_zero (c : Dev nD) (k : Fin 1024) (q : Fin 3840) (h : ¬ q.val < 3392) : cols m c (ix2 k q) = (0 : EReal) := by
  rw [cols_term m c _ rfl]
  rw [truncf_apply]
  have hq := q.isLt
  refine (Cert.Read.cat2 _ _ k q 5 _ rfl 3392 rfl (⟨q.val - 3392, by omega⟩ : Fin 448) (by simp only; omega)).trans ?_
  exact Cert.Read.zeros _ _

end Cert.ProjB

namespace Cert.ProjB

open Cert.Reference2Ideal Cert.Reference2Ideal.Gen Cert.Reference2Ideal.Value

set_option maxHeartbeats 2000000 in
set_option maxRecDepth 8000 in
/-- The reference's columns side by side, read: column `source q` of the projection `p`, zero from column 3392 on. -/
theorem reference_read (m : (ℓ : Loc nD τ sig) → Buf (Elt Ideal) ℓ) (c : Dev nD) (p : FVec Ideal S32768x9160 .f32)
    (hp : Host.dotGeneral (φ₁ := .f32) (φ₂ := .f32) dot_S32768x1024_S1024x9160_S32768x9160_1_0_0_1_n_n none
      (shapeCast S32768x1024 (m ((c.tc : Thread nD τ).loc main_arg0) : FVec Ideal S8x4096x1024 .f32) shapeCasts_S8x4096x1024_S32768x1024)
      (m ((c.tc : Thread nD τ).loc main_arg1)) = p) (r : Fin 32768) (q : Fin 3840) :
    res_main_v25 m c (ix2 r q) = if h : q.val < 3392 then p (ix2 r ⟨source q.val, source_lt h⟩) else (0 : EReal) := by
  unfold res_main_v25
  rw [hp, truncf_apply]
  have hq := q.isLt
  split_ifs with h
  · have part : ∀ (a b : ℕ) (ha : a < 3) (hb : b < 3) (h₂ : S32768x3x3x256.Slices ![0, a, b, 0] S32768x1x1x256) (e : Fin 256)
        (he : source q.val = a * 768 + b * 256 + e.val),
        shapeCast S32768x256 (extractStridedSlice S32768x1x1x256 ![0, a, b, 0] (shapeCast S32768x3x3x256
          (extractStridedSlice S32768x2304 ![0, 0] p slices_S32768x9160_S32768x2304_0_0) shapeCasts_S32768x2304_S32768x3x3x256) h₂)
          shapeCasts_S32768x1x1x256_S32768x256 (ix2 r e) = p (ix2 r ⟨source q.val, source_lt h⟩) := fun a b ha hb h₂ e he =>
      (Cert.Read.partColumns a b _ _ h₂ _ r e ⟨source q.val, by omega⟩ ha hb he).trans
        (Cert.Read.slice2 0 0 p _ r _ r _ (Nat.zero_add _).symm (Nat.zero_add _).symm)
    by_cases h₁ : q.val < 1536
    · have hs : source q.val = (q.val / 256 % 2 + 1) * 768 + q.val / 512 * 256 + q.val % 256 := by unfold source; rw [if_pos h₁]
      by_cases g₀ : q.val < 256
      · exact (Cert.Read.cat2 _ _ r q 0 _ rfl 0 rfl (⟨q.val, g₀⟩ : Fin 256) (Nat.zero_add _)).trans
          (part 1 0 (by decide) (by decide) _ _ (by rw [hs]; simp only; omega))
      by_cases g₁ : q.val < 512
      · exact (Cert.Read.cat2 _ _ r q 1 _ rfl 256 rfl (⟨q.val - 256, by omega⟩ : Fin 256) (by simp only; omega)).trans
          (part 2 0 (by decide) (by decide) _ _ (by rw [hs]; simp only; omega))
      by_cases g₂ : q.val < 768
      · exact (Cert.Read.cat2 _ _ r q 2 _ rfl 512 rfl (⟨q.val - 512, by omega⟩ : Fin 256) (by simp only; omega)).trans
          (part 1 1 (by decide) (by decide) _ _ (by rw [hs]; simp only; omega))
      by_cases g₃ : q.val < 1024
      · exact (Cert.Read.cat2 _ _ r q 3 _ rfl 768 rfl (⟨q.val - 768, by omega⟩ : Fin 256) (by simp only; omega)).trans
          (part 2 1 (by decide) (by decide) _ _ (by rw [hs]; simp only; omega))
      by_cases g₄ : q.val < 1280
      · exact (Cert.Read.cat2 _ _ r q 4 _ rfl 1024 rfl (⟨q.val - 1024, by omega⟩ : Fin 256) (by simp only; omega)).trans
          (part 1 2 (by decide) (by decide) _ _ (by rw [hs]; simp only; omega))
      · exact (Cert.Read.cat2 _ _ r q 5 _ rfl 1280 rfl (⟨q.val - 1280, by omega⟩ : Fin 256) (by simp only; omega)).trans
          (part 2 2 (by decide) (by decide) _ _ (by rw [hs]; simp only; omega))
    by_cases h₂ : q.val < 2304
    · have hs : source q.val = q.val - 1536 := by unfold source; rw [if_neg h₁, if_pos h₂]
      by_cases g₀ : q.val < 1792
      · exact (Cert.Read.cat2 _ _ r q 6 _ rfl 1536 rfl (⟨q.val - 1536, by omega⟩ : Fin 256) (by simp only; omega)).trans
          (part 0 0 (by decide) (by decide) _ _ (by rw [hs]; simp only; omega))
      by_cases g₁ : q.val < 2048
      · exact (Cert.Read.cat2 _ _ r q 7 _ rfl 1792 rfl (⟨q.val - 1792, by omega⟩ : Fin 256) (by simp only; omega)).trans
          (part 0 1 (by decide) (by decide) _ _ (by rw [hs]; simp only; omega))
      · exact (Cert.Read.cat2 _ _ r q 8 _ rfl 2048 rfl (⟨q.val - 2048, by omega⟩ : Fin 256) (by simp only; omega)).trans
          (part 0 2 (by decide) (by decide) _ _ (by rw [hs]; simp only; omega))
    · have hs : source q.val = q.val := by unfold source; rw [if_neg h₁, if_neg h₂]
      refine (Cert.Read.cat2 _ _ r q 9 _ rfl 2304 rfl (⟨q.val - 2304, by omega⟩ : Fin 1088) (by simp only; omega)).trans ?_
      exact Cert.Read.slice2 0 2304 p _ r _ r _ (Nat.zero_add _).symm (by simp only [hs]; omega)
  · refine (Cert.Read.cat2 _ _ r q 10 _ rfl 3392 rfl (⟨q.val - 3392, by omega⟩ : Fin 448) (by simp only; omega)).trans ?_
    exact Cert.Read.zeros _ _

end Cert.ProjB

namespace Cert.ProjB

/-- The call's result is the reference's: at (r, q) both are the product of row r of the hidden state with column `source q` of
    the weight, and zero from column 3392 on. -/
theorem value_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h₀ : m' ((c.tc : Thread Reference2Ideal.nD Reference2Ideal.τ).loc Reference2Ideal.main_arg0)
      = m ((c.tc : Thread Kernel2Ideal.nD Kernel2Ideal.τ).loc Kernel2Ideal.main_arg0))
    (h₁ : m' ((c.tc : Thread Reference2Ideal.nD Reference2Ideal.τ).loc Reference2Ideal.main_arg1)
      = m ((c.tc : Thread Kernel2Ideal.nD Kernel2Ideal.τ).loc Kernel2Ideal.main_arg1)) :
    (Reference2Ideal.Value.res_main_v25 m' c : FVec Ideal ⟨2, ![32768, 3840]⟩ .bf16) = prodV m c := by
  funext j
  rw [eq_ix2 j]
  refine (reference_read m' c _ rfl (j 0) (j 1)).trans ?_
  show _ = (∑ k : Fin 1024, rows m c (ix2 (j 0) k) * cols m c (ix2 k (j 1)) : EReal)
  split_ifs with h
  · refine (Cert.Read.dot2 (φ₁ := .f32) (φ₂ := .f32) _ rfl _ _ (j 0) _).trans ?_
    refine Finset.sum_congr rfl fun k _ => congrArg₂ (fun a b : EReal => a * b) ?_ ?_
    · rw [rows_term, h₀]; rfl
    · rw [cols_read m c _ rfl k (j 1) h, h₁]
  · refine (Finset.sum_eq_zero fun k _ => ?_).symm
    rw [cols_zero m c k (j 1) h]
    exact mul_zero _

theorem algebraic : Cert.algebraic_Kernel2Ideal_Reference2Ideal := by
  intro m ρ m' ρ' _ hagree
  refine ⟨fun c => prod m c, ?_, ?_⟩
  · refine (θ_run Kernel2Ideal.defs _ _).mono (fun _ h c => ⟨(h c).1.trans (final m c), (h c).2⟩)
      (Kernel2Ideal.Value.run_blocks (F := Ideal) m ρ)
  · refine (θ_run Reference2Ideal.defs _ _).mono (fun _ h c => ⟨(h c).1.trans ?_, (h c).2⟩) (Reference2Ideal.Value.run (F := Ideal) m' ρ')
    exact value_eq m m' c (hagree c).1 (hagree c).2

end Cert.ProjB

end
-- ==== Proof.ProjF.lean ====
/-
  The in-projection call that yields the gate, channel and state-space input columns: its result is the product of the hidden state's
  rows with the weight's columns in the order the call gathers them, which is what the reference's projection gives column by column.
-/
module

public import proofs.«01_k».proof.Defs
public import proofs.«01_k».proof.Proof.Read
public import proofs.«01_k».proof.Proof.Gen.Kernel3Ideal.Value
public import proofs.«01_k».proof.Proof.Gen.Reference3Ideal.Run
public import Idealize.ShloMosaic.Lib.Claim

@[expose] public section

noncomputable section

open Idealize.ShloMosaic Idealize.ShloMosaic.TcCoe Idealize.SL.Sem Idealize.ShloMosaic.ValueIdx

namespace Cert.ProjF

open Cert.Kernel3Ideal Cert.Kernel3Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The operands of the call: the rows of the hidden state, and the gathered columns of the weight. -/
def rows (c : Dev nD) : FVec Ideal ⟨2, ![32768, 1024]⟩ .f32 := V m c main_v0
def cols (c : Dev nD) : FVec Ideal ⟨2, ![1024, 6144]⟩ .bf16 := V m c main_v26

/-- Their product, what the call is shown to leave. -/
def prodV (c : Dev nD) : FVec Ideal ⟨2, ![32768, 6144]⟩ .f32 := fun i =>
  (∑ k : Fin 1024, rows m c (ix2 (i 0) k) * cols m c (ix2 k (i 1)) : EReal)
/-- The same as contents of the result array. -/
abbrev prod (c : Dev nD) : Buf (Elt Ideal) ((c : Thread nD τ).loc main_v27) := prodV m c

/-- Which block of each array point `t` takes. -/
theorem blocks : ∀ t : Fin cfg0.N, win0_0.index t 0 = t.val / 8 ∧ win0_0.index t 1 = 0 ∧ win0_1.index t 0 = 0
    ∧ win0_1.index t 1 = t.val % 8 ∧ win0_2.index t 0 = t.val / 8 ∧ win0_2.index t 1 = t.val % 8 :=
  (by decide +kernel : ∀ t : Fin grid0.N, win0_0.index t 0 = t.val / 8 ∧ win0_0.index t 1 = 0 ∧ win0_1.index t 0 = 0
    ∧ win0_1.index t 1 = t.val % 8 ∧ win0_2.index t 0 = t.val / 8 ∧ win0_2.index t 1 = t.val % 8)

theorem N128 : cfg0.N = 128 := by decide +kernel

theorem out_eq (x : Vec Ideal S2048x1024 .f32) (w : Vec Ideal S1024x768 .bf16) (r : Fin 2048) (q : Fin 768) :
    out0_2 x w (ix2 r q) = (∑ k : Fin 1024, x (ix2 r k) * w (ix2 k q) : EReal) := by
  unfold out0_2
  rw [View.canon_unit_zero hz, View.ld_unit_zero hz, View.ld_unit_zero hz]
  unfold k0_pay1
  rw [shapeCast_self, shapeCast_self]
  exact Cert.Read.matmul2 (φ₁ := .bf16) (φ₂ := .bf16) _ rfl (truncf .bf16 x bitsLt_bf16_f32) w r q

/-- The block of rows point `t` reads. -/
theorem rows_eq (c : Dev nD) (t : Fin cfg0.N) (r : Fin 2048) (k : Fin 1024) (r' : Fin 32768) (hr : r'.val = t.val / 8 * 2048 + r.val) :
    (iblk m c 0 t : Vec Ideal S2048x1024 .f32) (ix2 r k) = rows m c (ix2 r' k) := by
  obtain ⟨h0, h1, -⟩ := blocks t
  unfold iblk
  rw [View.read_apply]
  refine congrArg (V m c main_v0) (funext fun a => Fin.ext ?_)
  match a with
  | ⟨0, _⟩ => show win0_0.index t 0 * 2048 + 1 * r.val = r'.val; rw [h0, hr]; omega
  | ⟨1, _⟩ => show win0_0.index t 1 * 1024 + 1 * k.val = k.val; rw [h1]; omega

/-- The block of columns point `t` reads. -/
theorem cols_eq (c : Dev nD) (t : Fin cfg0.N) (k : Fin 1024) (q : Fin 768) (q' : Fin 6144) (hq : q'.val = t.val % 8 * 768 + q.val) :
    (iblk m c 1 t : Vec Ideal S1024x768 .bf16) (ix2 k q) = cols m c (ix2 k q') := by
  obtain ⟨-, -, h0, h1, -⟩ := blocks t
  unfold iblk
  rw [View.read_apply]
  refine congrArg (V m c main_v26) (funext fun a => Fin.ext ?_)
  match a with
  | ⟨0, _⟩ => show win0_1.index t 0 * 1024 + 1 * k.val = k.val; rw [h0]; omega
  | ⟨1, _⟩ => show win0_1.index t 1 * 768 + 1 * q.val = q'.val; rw [h1, hq]; omega

/-- What point `t` leaves is the product of its rows and columns. -/
theorem point_eq (c : Dev nD) (t : Fin cfg0.N) (r : Fin 2048) (q : Fin 768) (r' : Fin 32768) (q' : Fin 6144)
    (hr : r'.val = t.val / 8 * 2048 + r.val) (hq : q'.val = t.val % 8 * 768 + q.val) :
    out0_2 (iblk m c 0 t) (iblk m c 1 t) (ix2 r q) = prodV m c (ix2 r' q') :=
  (out_eq (iblk m c 0 t) (iblk m c 1 t) r q).trans
    (Finset.sum_congr rfl fun k _ => congrArg₂ (fun a b : EReal => a * b) (rows_eq m c t r k r' hr) (cols_eq m c t k q q' hq))

theorem flushed_eq (c : Dev nD) (t : Fin cfg0.N) :
    (dats m 0 c).flushed 2 t = ((cfg0.win 2).blk t).view.read (Elt Ideal) (prod m c) := by
  rw [Value.flushed2]
  have ht := t.isLt
  have hN := N128
  obtain ⟨-, -, -, -, h0, h1⟩ := blocks t
  funext j
  have hj0 : (j 0).val < 2048 := (j 0).isLt
  have hj1 : (j 1).val < 768 := (j 1).isLt
  rw [View.read_apply]
  refine (congrArg (out0_2 (iblk m c 0 t) (iblk m c 1 t)) (eq_ix2 (n0 := 2048) (n1 := 768) j)).trans
    ((point_eq m c t (j 0) (j 1) ⟨t.val / 8 * 2048 + (j 0).val, by omega⟩ ⟨t.val % 8 * 768 + (j 1).val, by omega⟩ rfl rfl).trans ?_)
  refine congrArg (prodV m c) (funext fun a => Fin.ext ?_)
  match a with
  | ⟨0, _⟩ => show t.val / 8 * 2048 + (j 0).val = win0_2.index t 0 * 2048 + 1 * (j 0).val; rw [h0]; omega
  | ⟨1, _⟩ => show t.val % 8 * 768 + (j 1).val = win0_2.index t 1 * 768 + 1 * (j 1).val; rw [h1]; omega

theorem final (c : Dev nD) : (dats m 0 c).arrAt 2 cfg0.N = prod m c :=
  (dats m 0 c).arrAt_eq_of_cover 2 (prod m c) (fun t _ => flushed_eq m c t) fun i => by
    have h0 : (i 0 : Nat) < 32768 := (i 0).isLt
    have h1 : (i 1 : Nat) < 6144 := (i 1).isLt
    have hN := N128
    obtain ⟨t, ht⟩ : ∃ t : Fin cfg0.N, t.val = (i 0 : Nat) / 2048 * 8 + (i 1 : Nat) / 768 := ⟨⟨_, by omega⟩, rfl⟩
    obtain ⟨-, -, -, -, h20, h21⟩ := blocks t
    refine ⟨t, flush0_2 _, ?_⟩
    show i ∈ ((View.whole main_v27).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [h20, ht]; omega
    | ⟨1, _⟩ =>
      show win0_2.index t 1 * 768 ≤ (i 1 : Nat) ∧ (i 1 : Nat) < win0_2.index t 1 * 768 + 768
      rw [h21, ht]; omega

/-! ## The operands read -/

/-- The rows are the hidden state's. -/
theorem rows_term (c : Dev nD) : rows m c = shapeCast S32768x1024 (m ((c : Thread nD τ).loc main_arg0)) shapeCasts_S8x4096x1024_S32768x1024 := by
  unfold rows
  show StableHlo.after hostOps0 _ _ = _
  after_results <;> rfl

set_option maxHeartbeats 2000000 in
/-- The columns as the host gathers them from the weight. -/
theorem cols_term (c : Dev nD) (w : FVec Ideal S1024x9160 .f32) (hw : m ((c : Thread nD τ).loc main_arg1) = w) :
    cols m c = truncf .bf16 (concatenate S1024x6144 1
      [⟨S1024x5888, concatenate S1024x5888 1
        [⟨S1024x4096, extractStridedSlice S1024x4096 ![0, 5064] w slices_S1024x9160_S1024x4096_0_5064⟩,
         ⟨S1024x896, extractStridedSlice S1024x896 ![0, 3396] w slices_S1024x9160_S1024x896_0_3396⟩,
         ⟨S1024x128, concatenate S1024x128 1
          [⟨S1024x4, extractStridedSlice S1024x4 ![0, 3392] w slices_S1024x9160_S1024x4_0_3392⟩,
           ⟨S1024x4, extractStridedSlice S1024x4 ![0, 5060] w slices_S1024x9160_S1024x4_0_5060⟩,
           ⟨S1024x120, broadcastInDim S1024x120 ![] bcast_S_S1024x120 (constant S_ .f32 0x00000000#32 : FVec Ideal S_ .f32)⟩]
          concatenates_S1024x4_S1024x4_S1024x120_S1024x128_d1⟩,
         ⟨S1024x512, extractStridedSlice S1024x512 ![0, 4548] w slices_S1024x9160_S1024x512_0_4548⟩,
         ⟨S1024x256, extractStridedSlice S1024x256 ![0, 4292] w slices_S1024x9160_S1024x256_0_4292⟩]
        concatenates_S1024x4096_S1024x896_S1024x128_S1024x512_S1024x256_S1024x5888_d1⟩,
       ⟨S1024x256, broadcastInDim S1024x256 ![] bcast_S_S1024x256 (constant S_ .f32 0x00000000#32 : FVec Ideal S_ .f32)⟩]
      concatenates_S1024x5888_S1024x256_S1024x6144_d1 : FVec Ideal S1024x6144 .f32) bitsLt_bf16_f32 := by
  subst hw
  unfold cols
  show StableHlo.after hostOps0 _ _ = _
  after_results <;> rfl

/-- Column `q` of the call's result is column `source q` of the projection: the gates, the channel mixer's input, the indexer's
    weights, the state space's steps, its convolved input and its gate; none where the layout leaves a gap. -/
def source (q : ℕ) : Option (Fin 9160) :=
  if h : q < 4096 then some ⟨q + 5064, by omega⟩
  else if h : q < 4992 then some ⟨q - 4096 + 3396, by omega⟩
  else if h : q < 4996 then some ⟨q - 4992 + 3392, by omega⟩
  else if h : q < 5000 then some ⟨q - 4996 + 5060, by omega⟩
  else if q < 5120 then none
  else if h : q < 5632 then some ⟨q - 5120 + 4548, by omega⟩
  else if h : q < 5888 then some ⟨q - 5632 + 4292, by omega⟩
  else none

/-- Row `r` of a matrix at column `source q`, zero where there is none. -/
def pick {a : ℕ} (x : (⟨2, ![a, 9160]⟩ : Shape).Idx → EReal) (r : Fin a) (q : ℕ) : EReal :=
  (source q).elim 0 fun s => x (ix2 r s)

theorem cols_read (c : Dev nD) (w : FVec Ideal S1024x9160 .f32) (hw : m ((c : Thread nD τ).loc main_arg1) = w)
    (k : Fin 1024) (q : Fin 6144) : cols m c (ix2 k q) = pick w k q.val := by
  rw [cols_term m c w hw, truncf_apply]
  have hq := q.isLt
  unfold pick source
  by_cases h₇ : q.val < 5888
  · refine (Cert.Read.cat2 _ _ k q 0 _ rfl 0 rfl (⟨q.val, h₇⟩ : Fin 5888) (Nat.zero_add _)).trans ?_
    split_ifs with h₁ h₂ h₃ h₄ h₅ h₆
    · refine (Cert.Read.cat2 _ _ k _ 0 _ rfl 0 rfl (⟨q.val, h₁⟩ : Fin 4096) (by simp only; omega)).trans ?_
      exact Cert.Read.slice2 0 5064 w _ k _ k _ (Nat.zero_add _).symm (Nat.add_comm _ _)
    · refine (Cert.Read.cat2 _ _ k _ 1 _ rfl 4096 rfl (⟨q.val - 4096, by omega⟩ : Fin 896) (by simp only; omega)).trans ?_
      exact Cert.Read.slice2 0 3396 w _ k _ k _ (Nat.zero_add _).symm (Nat.add_comm _ _)
    · refine (Cert.Read.cat2 _ _ k _ 2 _ rfl 4992 rfl (⟨q.val - 4992, by omega⟩ : Fin 128) (by simp only; omega)).trans ?_
      refine (Cert.Read.cat2 _ _ k _ 0 _ rfl 0 rfl (⟨q.val - 4992, by omega⟩ : Fin 4) (by simp only; omega)).trans ?_
      exact Cert.Read.slice2 0 3392 w _ k _ k _ (Nat.zero_add _).symm (Nat.add_comm _ _)
    · refine (Cert.Read.cat2 _ _ k _ 2 _ rfl 4992 rfl (⟨q.val - 4992, by omega⟩ : Fin 128) (by simp only; omega)).trans ?_
      refine (Cert.Read.cat2 _ _ k _ 1 _ rfl 4 rfl (⟨q.val - 4996, by omega⟩ : Fin 4) (by simp only; omega)).trans ?_
      exact Cert.Read.slice2 0 5060 w _ k _ k _ (Nat.zero_add _).symm (Nat.add_comm _ _)
    · refine (Cert.Read.cat2 _ _ k _ 2 _ rfl 4992 rfl (⟨q.val - 4992, by omega⟩ : Fin 128) (by simp only; omega)).trans ?_
      refine (Cert.Read.cat2 _ _ k _ 2 _ rfl 8 rfl (⟨q.val - 5000, by omega⟩ : Fin 120) (by simp only; omega)).trans ?_
      exact Cert.Read.zeros _ _
    · refine (Cert.Read.cat2 _ _ k _ 3 _ rfl 5120 rfl (⟨q.val - 5120, by omega⟩ : Fin 512) (by simp only; omega)).trans ?_
      exact Cert.Read.slice2 0 4548 w _ k _ k _ (Nat.zero_add _).symm (Nat.add_comm _ _)
    · refine (Cert.Read.cat2 _ _ k _ 4 _ rfl 5632 rfl (⟨q.val - 5632, by omega⟩ : Fin 256) (by simp only; omega)).trans ?_
      exact Cert.Read.slice2 0 4292 w _ k _ k _ (Nat.zero_add _).symm (Nat.add_comm _ _)
  · refine (Cert.Read.cat2 _ _ k q 1 _ rfl 5888 rfl (⟨q.val - 5888, by omega⟩ : Fin 256) (by simp only; omega)).trans ?_
    refine (Cert.Read.zeros _ _).trans ?_
    rw [dif_neg (by omega), dif_neg (by omega), dif_neg (by omega), dif_neg (by omega), if_neg (by omega), dif_neg (by omega), dif_neg h₇]
    rfl

end Cert.ProjF

namespace Cert.ProjF

open Cert.Reference3Ideal Cert.Reference3Ideal.Gen

set_option maxHeartbeats 2000000 in
/-- The reference's columns side by side, read: column `source q` of the projection `p`, zero where there is none. -/
theorem reference_read (p : FVec Ideal S32768x9160 .f32) (r : Fin 32768) (q : Fin 6144) :
    concatenate S32768x6144 1
      [⟨S32768x4096, extractStridedSlice S32768x4096 ![0, 5064] p slices_S32768x9160_S32768x4096_0_5064⟩,
       ⟨S32768x896, extractStridedSlice S32768x896 ![0, 3396] p slices_S32768x9160_S32768x896_0_3396⟩,
       ⟨S32768x4, extractStridedSlice S32768x4 ![0, 3392] p slices_S32768x9160_S32768x4_0_3392⟩,
       ⟨S32768x4, extractStridedSlice S32768x4 ![0, 5060] p slices_S32768x9160_S32768x4_0_5060⟩,
       ⟨S32768x120, broadcastInDim S32768x120 ![] bcast_S_S32768x120 (constant S_ .f32 0x00000000#32 : FVec Ideal S_ .f32)⟩,
       ⟨S32768x512, extractStridedSlice S32768x512 ![0, 4548] p slices_S32768x9160_S32768x512_0_4548⟩,
       ⟨S32768x256, extractStridedSlice S32768x256 ![0, 4292] p slices_S32768x9160_S32768x256_0_4292⟩,
       ⟨S32768x256, broadcastInDim S32768x256 ![] bcast_S_S32768x256 (constant S_ .f32 0x00000000#32 : FVec Ideal S_ .f32)⟩]
      concatenates_S32768x4096_S32768x896_S32768x4_S32768x4_S32768x120_S32768x512_S32768x256_S32768x256_S32768x6144_d1 (ix2 r q)
      = pick p r q.val := by
  have hq := q.isLt
  unfold pick source
  split_ifs with h₁ h₂ h₃ h₄ h₅ h₆ h₇
  · refine (Cert.Read.cat2 _ _ r q 0 _ rfl 0 rfl (⟨q.val, h₁⟩ : Fin 4096) (Nat.zero_add _)).trans ?_
    exact Cert.Read.slice2 0 5064 p _ r _ r _ (Nat.zero_add _).symm (Nat.add_comm _ _)
  · refine (Cert.Read.cat2 _ _ r q 1 _ rfl 4096 rfl (⟨q.val - 4096, by omega⟩ : Fin 896) (by simp only; omega)).trans ?_
    exact Cert.Read.slice2 0 3396 p _ r _ r _ (Nat.zero_add _).symm (Nat.add_comm _ _)
  · refine (Cert.Read.cat2 _ _ r q 2 _ rfl 4992 rfl (⟨q.val - 4992, by omega⟩ : Fin 4) (by simp only; omega)).trans ?_
    exact Cert.Read.slice2 0 3392 p _ r _ r _ (Nat.zero_add _).symm (Nat.add_comm _ _)
  · refine (Cert.Read.cat2 _ _ r q 3 _ rfl 4996 rfl (⟨q.val - 4996, by omega⟩ : Fin 4) (by simp only; omega)).trans ?_
    exact Cert.Read.slice2 0 5060 p _ r _ r _ (Nat.zero_add _).symm (Nat.add_comm _ _)
  · refine (Cert.Read.cat2 _ _ r q 4 _ rfl 5000 rfl (⟨q.val - 5000, by omega⟩ : Fin 120) (by simp only; omega)).trans ?_
    exact Cert.Read.zeros _ _
  · refine (Cert.Read.cat2 _ _ r q 5 _ rfl 5120 rfl (⟨q.val - 5120, by omega⟩ : Fin 512) (by simp only; omega)).trans ?_
    exact Cert.Read.slice2 0 4548 p _ r _ r _ (Nat.zero_add _).symm (Nat.add_comm _ _)
  · refine (Cert.Read.cat2 _ _ r q 6 _ rfl 5632 rfl (⟨q.val - 5632, by omega⟩ : Fin 256) (by simp only; omega)).trans ?_
    exact Cert.Read.slice2 0 4292 p _ r _ r _ (Nat.zero_add _).symm (Nat.add_comm _ _)
  · refine (Cert.Read.cat2 _ _ r q 7 _ rfl 5888 rfl (⟨q.val - 5888, by omega⟩ : Fin 256) (by simp only; omega)).trans ?_
    exact Cert.Read.zeros _ _

end Cert.ProjF

namespace Cert.ProjF

/-- The product of the rows and columns at (r, q) is the picked column of the projection. -/
theorem prod_read (m : (ℓ : Loc Kernel3Ideal.nD Kernel3Ideal.τ Kernel3Ideal.sig) → Buf (Elt Ideal) ℓ) (c : Dev Kernel3Ideal.nD)
    (x : FVec Ideal ⟨2, ![32768, 1024]⟩ .f32) (hx : rows m c = x) (w : FVec Ideal ⟨2, ![1024, 9160]⟩ .f32)
    (hw : m ((c.tc : Thread Kernel3Ideal.nD Kernel3Ideal.τ).loc Kernel3Ideal.main_arg1) = w)
    (p : FVec Ideal ⟨2, ![32768, 9160]⟩ .f32) (hp : ∀ r s, p (ix2 r s) = (∑ k : Fin 1024, x (ix2 r k) * w (ix2 k s) : EReal))
    (r : Fin 32768) (q : Fin 6144) : pick p r q.val = prodV m c (ix2 r q) := by
  show _ = (∑ k : Fin 1024, rows m c (ix2 r k) * cols m c (ix2 k q) : EReal)
  subst hx
  simp only [cols_read m c w hw]
  unfold pick
  cases source q.val with
  | none => exact (Finset.sum_eq_zero fun k _ => mul_zero _).symm
  | some s => exact hp r s

theorem algebraic : Cert.algebraic_Kernel3Ideal_Reference3Ideal := by
  intro m ρ m' ρ' _ hagree
  refine ⟨fun c => prod m c, ?_, ?_⟩
  · refine (θ_run Kernel3Ideal.defs _ _).mono (fun _ h c => ⟨(h c).1.trans (final m c), (h c).2⟩)
      (Kernel3Ideal.Value.run_blocks (F := Ideal) m ρ)
  · refine (θ_run Reference3Ideal.defs _ _).mono (fun _ h c => ⟨(h c).1.trans ?_, (h c).2⟩) (Reference3Ideal.Value.run (F := Ideal) m' ρ')
    funext j
    refine (congrArg _ (eq_ix2 (n0 := 32768) (n1 := 6144) j)).trans ((reference_read _ (j 0) (j 1)).trans
      ((prod_read m c _ (rows_term m c) _ rfl _ (fun r s => ?_) (j 0) (j 1)).trans (congrArg (prodV m c) (eq_ix2 (n0 := 32768) (n1 := 6144) j).symm)))
    refine (Cert.Read.dot2 (φ₁ := .f32) (φ₂ := .f32) _ rfl _ _ r s).trans ?_
    rw [(hagree c).1, (hagree c).2]

end Cert.ProjF

end
-- ==== Proof.Merge.lean ====
/-
  The merging call: every row is the scaled residual and the gated sum of the four mixers' outputs, each through its own weight, taken
  through the output weight, and then normalized with a scale and a shift. The call takes 512 rows at a point; the reference takes them all.
-/
module

public import proofs.«01_k».proof.Defs
public import proofs.«01_k».proof.Proof.Read
public import proofs.«01_k».proof.Proof.Gen.Kernel4.Frame
public import proofs.«01_k».proof.Proof.Gen.Kernel4Ideal.Value
public import proofs.«01_k».proof.Proof.Gen.Reference4Ideal.Run
public import Idealize.ShloMosaic.Lib.Claim
public import Idealize.ShloMosaic.Lib.IdealHost
public import Idealize.ShloMosaic.Lib.KernelVsHost

@[expose] public section

noncomputable section

open Idealize.ShloMosaic Idealize.ShloMosaic.TcCoe Idealize.SL.Sem Idealize.ShloMosaic.ValueIdx

namespace Cert.Merge

/-! ## One row of the result -/

/-- The four mixers' row, through its gate and its weight's column. -/
def gate (z : EReal) : EReal :=
  Ideal.div (Ideal.ofBits .f32 0x3F800000#32) (Ideal.ofBits .f32 0x3F800000#32 + Ideal.exp (-z))

def branch (z : EReal) (o w : Fin 256 → EReal) : EReal := gate z * ∑ k, o k * w k

/-- The residual scaled, and the gated sum through the output weight. -/
def hidden (x : Fin 1024 → EReal) (z : Fin 4 → Fin 1024 → EReal) (o : Fin 4 → Fin 256 → EReal)
    (w : Fin 4 → Fin 256 → Fin 1024 → EReal) (v : Fin 1024 → Fin 1024 → EReal) (q : Fin 1024) : EReal :=
  Ideal.ofBits .f32 0x3FB504F3#32 * x q
    + ∑ j, (branch (z 0 j) (o 0) (w 0 · j) + branch (z 1 j) (o 1) (w 1 · j) + branch (z 2 j) (o 2) (w 2 · j)
        + branch (z 3 j) (o 3) (w 3 · j)) * v j q

def mean (h : Fin 1024 → EReal) : EReal := Ideal.div (∑ k, h k) (Ideal.ofBits .f32 0x44800000#32)

/-- A row less its mean, over the root of its variance and a small constant, scaled and shifted. -/
def normed (h : Fin 1024 → EReal) (g b : EReal) (q : Fin 1024) : EReal :=
  (h q - mean h) * Ideal.rsqrt (mean (fun k => (h k - mean h) * (h k - mean h)) + Ideal.ofBits .f32 0x3727C5AC#32) * g + b

/-! ## Sums and spreads of rows, on either side -/

theorem lift_row {M N : ℕ} (h : (⟨2, ![M, N]⟩ : Shape).Reduces [1] ⟨1, ![M]⟩) (r : Fin M) (k : Fin N) :
    h.lift (ix1 r) k = ix2 r k := by
  refine funext fun a => Fin.ext ?_
  match a with
  | ⟨0, _⟩ => rfl
  | ⟨1, _⟩ => rfl

theorem sum_row {M N : ℕ} (x : FVec Ideal ⟨2, ![M, N]⟩ .f32) (h : (⟨2, ![M, N]⟩ : Shape).Reduces [1] ⟨1, ![M]⟩) (r : Fin M) :
    multiReduction .add [1] ⟨1, ![M]⟩ x 0x00000000#32 h (.inl rfl) rfl (ix1 r) = (∑ k, x (ix2 r k) : EReal) :=
  (Ideal.multiReduction_add_single x _ h (.inl rfl) rfl (ix1 r)).trans (Finset.sum_congr rfl fun k _ => congrArg x (lift_row h r k))

theorem hostSum_row {M N : ℕ} (x : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel) (r : Fin M) :
    Host.reduceAdd x (constant ⟨0, ![]⟩ .f32 0x00000000#32) h' hu (ix1 r) = (∑ k, x (ix2 r k) : EReal) := by
  rw [← sum_row x h r]
  exact (congrFun (Idealize.ShloMosaic.multiReduction_add_eq_hostReduceAdd x _ h (.inl rfl) rfl _ h' hu Ideal.ofBits_zero_f32) (ix1 r)).symm

variable {α : Type}

theorem column {M : ℕ} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) :=
  shapeCast_apply x h _ _ (by
    rw [Shape.rowMajor_val_one, Shape.rowMajor_val_two]
    show r.val = r.val * 1 + 0
    omega)

theorem hostColumn {M : ℕ} (x : (⟨1, ![M]⟩ : Shape).Idx → α) (h : (⟨1, ![M]⟩ : Shape).BroadcastsInDim ⟨2, ![M, 1]⟩ ![0]) (r : Fin M) :
    broadcastInDim ⟨2, ![M, 1]⟩ ![0] h x (ix2 r 0) = x (ix1 r) :=
  broadcastInDim_apply ![0] h x _ _ fun a => by
    match a with
    | ⟨0, _⟩ =>
      show r.val = if M = 1 then 0 else r.val
      split <;> omega

theorem hostRow {N : ℕ} (x : (⟨1, ![N]⟩ : Shape).Idx → α) (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x _ _ fun a => by
    match a with
    | ⟨0, _⟩ =>
      show q.val = if N = 1 then 0 else q.val
      split <;> omega

theorem spread {M N : ℕ} (x : (⟨2, ![M, 1]⟩ : Shape).Idx → α) (h : (⟨2, ![M, 1]⟩ : Shape).Broadcasts ⟨2, ![M, N]⟩) (r : Fin M) (q : Fin N) :
    broadcastTo ⟨2, ![M, N]⟩ x h (ix2 r q) = x (ix2 r 0) :=
  broadcastTo_apply x h _ _ fun a => by
    match a with
    | ⟨0, _⟩ =>
      show r.val = if M = 1 then 0 else r.val
      split <;> omega
    | ⟨1, _⟩ => rfl

theorem spreadRow {M N : ℕ} (x : (⟨2, ![1, N]⟩ : Shape).Idx → α) (h : (⟨2, ![1, N]⟩ : Shape).Broadcasts ⟨2, ![M, N]⟩) (r : Fin M) (q : Fin N) :
    broadcastTo ⟨2, ![M, N]⟩ x h (ix2 r q) = x (ix2 0 q) :=
  broadcastTo_apply x h _ _ fun a => by
    match a with
    | ⟨0, _⟩ => rfl
    | ⟨1, _⟩ =>
      show q.val = if N = 1 then 0 else q.val
      split <;> omega

theorem hostSpread {M N : ℕ} (x : (⟨2, ![M, 1]⟩ : Shape).Idx → α) (h : (⟨2, ![M, 1]⟩ : Shape).BroadcastsInDim ⟨2, ![M, N]⟩ ![0, 1])
    (r : Fin M) (q : Fin N) : broadcastInDim ⟨2, ![M, N]⟩ ![0, 1] h x (ix2 r q) = x (ix2 r 0) :=
  broadcastInDim_apply ![0, 1] h x _ _ fun a => by
    match a with
    | ⟨0, _⟩ =>
      show r.val = if M = 1 then 0 else r.val
      split <;> omega
    | ⟨1, _⟩ => rfl

/-- One slab of a stack of matrices, flattened. -/
theorem slab {G K N : ℕ} (x : (⟨3, ![1, K, N]⟩ : Shape).Idx → α) (h : (⟨3, ![1, K, N]⟩ : Shape).ShapeCasts ⟨2, ![K, N]⟩) (k : Fin K) (q : Fin N) :
    shapeCast ⟨2, ![K, N]⟩ x h (ix2 k q) = x (ix3 0 k q) :=
  shapeCast_apply x h _ _ (by
    rw [Shape.rowMajor_val_three, Shape.rowMajor_val_two]
    show (0 * K + k.val) * N + q.val = k.val * N + q.val
    rw [Nat.zero_mul, Nat.zero_add])

theorem slice3 {G K N : ℕ} (n : ℕ) (x : (⟨3, ![G, K, N]⟩ : Shape).Idx → α) (h : (⟨3, ![G, K, N]⟩ : Shape).Slices ![n, 0, 0] ⟨3, ![1, K, N]⟩)
    (g : Fin G) (hg : g.val = n) (k : Fin K) (q : Fin N) :
    extractStridedSlice ⟨3, ![1, K, N]⟩ ![n, 0, 0] x h (ix3 0 k q) = x (ix3 g k q) :=
  extractStridedSlice_apply _ x h _ _ fun e => by
    match e with
    | ⟨0, _⟩ => exact hg
    | ⟨1, _⟩ => exact (Nat.zero_add _).symm
    | ⟨2, _⟩ => exact (Nat.zero_add _).symm

end Cert.Merge

namespace Cert.Merge

open Cert.Kernel4Ideal Cert.Kernel4Ideal.Gen

/-! ## What the call computes of its blocks -/

theorem branch_block (z : FVec Ideal S512x1024 .f32) (o : FVec Ideal S512x256 .bf16) (w : FVec Ideal S1x256x1024 .bf16) (r : Fin 512) (j : Fin 1024) :
    mulf (divf (broadcast S512x1024 (Scalar.ofBits .f32 0x3F800000#32 : Ideal .f32))
        (addf (broadcast S512x1024 (Scalar.ofBits .f32 0x3F800000#32)) (exp (subf (broadcast S512x1024 (Scalar.ofBits .f32 0x00000000#32)) z))))
      (matmul dot_S512x256_S256x1024_S512x1024_1_0_0_1_n_n none o (shapeCast S256x1024 w shapeCasts_S1x256x1024_S256x1024)
        (constant S512x1024 .f32 0x00000000#32)) (ix2 r j)
      = branch (z (ix2 r j)) (fun k => o (ix2 r k)) (fun k => w (ix3 0 k j)) := by
  rw [mulf_apply, Cert.Read.matmul2 (φ₁ := .bf16) (φ₂ := .bf16) dot_S512x256_S256x1024_S512x1024_1_0_0_1_n_n rfl]
  unfold branch gate
  refine congrArg₂ (fun a b : EReal => a * b) (congrArg (fun a => Ideal.div _ (_ + Ideal.exp a)) ?_)
    (Finset.sum_congr rfl fun k _ => congrArg (fun b : EReal => o (ix2 r k) * b) (slab (G := 1) w _ k j))
  show Ideal.ofBits .f32 0x00000000#32 - (z (ix2 r j) : EReal) = -z (ix2 r j)
  rw [Ideal.ofBits_zero_f32, sub_eq_add_neg, zero_add]

theorem hidden_block (z0 z1 z2 z3 x : FVec Ideal S512x1024 .f32) (o0 o1 o2 o3 : FVec Ideal S512x256 .bf16) (w0 w1 w2 w3 : FVec Ideal S1x256x1024 .bf16)
    (v : FVec Ideal S1024x1024 .bf16) (r : Fin 512) (q : Fin 1024) :
    k0_pay3 (F := Ideal) (k0_pay1 z0 o0 w0 z1 o1 w1) (k0_pay2 z2) o2 w2 z3 o3 w3 x v (ix2 r q)
      = hidden (fun j => x (ix2 r j)) ![fun j => z0 (ix2 r j), fun j => z1 (ix2 r j), fun j => z2 (ix2 r j), fun j => z3 (ix2 r j)]
          ![fun k => o0 (ix2 r k), fun k => o1 (ix2 r k), fun k => o2 (ix2 r k), fun k => o3 (ix2 r k)]
          ![fun k j => w0 (ix3 0 k j), fun k j => w1 (ix3 0 k j), fun k j => w2 (ix3 0 k j), fun k j => w3 (ix3 0 k j)] (fun j q => v (ix2 j q)) q := by
  unfold k0_pay3
  rw [shapeCast_self, addf_apply, Cert.Read.matmul2 (φ₁ := .bf16) (φ₂ := .bf16) dot_S512x1024_S1024x1024_S512x1024_1_0_0_1_n_n rfl]
  unfold hidden
  refine congrArg₂ (fun a b : EReal => a + b) rfl (Finset.sum_congr rfl fun j _ => congrArg (fun a : EReal => a * v (ix2 j q)) ?_)
  rw [truncf_apply]
  unfold k0_pay1 k0_pay2
  exact congrArg₂ (fun a b : EReal => a + b) (congrArg₂ (fun a b : EReal => a + b) (congrArg₂ (fun a b : EReal => a + b)
    (branch_block z0 o0 w0 r j) (branch_block z1 o1 w1 r j)) (branch_block z2 o2 w2 r j)) (branch_block z3 o3 w3 r j)

theorem normed_block (h : FVec Ideal S512x1024 .f32) (g b : FVec Ideal S1x1024 .f32) (r : Fin 512) (q : Fin 1024) :
    k0_pay5 (F := Ideal) h (k0_pay4 g) b (ix2 r q) = normed (fun k => h (ix2 r k)) (g (ix2 0 q)) (b (ix2 0 q)) q := by
  unfold k0_pay5 k0_pay4
  simp only [shapeCast_self]
  have hm : ∀ x : FVec Ideal S512x1024 .f32, divf (shapeCast S512x1 (multiReduction .add [1] S512 x 0x00000000#32 reduces_S512x1024_S512 (.inl rfl) rfl)
      shapeCasts_S512_S512x1) (broadcast S512x1 (Scalar.ofBits .f32 0x44800000#32)) (ix2 r 0) = mean (fun k => x (ix2 r k)) := fun x =>
    congrArg (fun a => Ideal.div a _) ((column _ _ r).trans (sum_row x _ r))
  have hd : ∀ k, subf h (broadcastTo S512x1024 (divf (shapeCast S512x1 (multiReduction .add [1] S512 h 0x00000000#32 reduces_S512x1024_S512 (.inl rfl) rfl)
      shapeCasts_S512_S512x1) (broadcast S512x1 (Scalar.ofBits .f32 0x44800000#32))) broadcasts_S512x1_S512x1024) (ix2 r k)
        = (h (ix2 r k) - mean (fun k => h (ix2 r k)) : EReal) := fun k => congrArg (fun a : EReal => h (ix2 r k) - a) ((spread _ _ r k).trans (hm h))
  unfold normed
  refine congrArg₂ (fun a b : EReal => a + b) (congrArg₂ (fun a b : EReal => a * b) (congrArg₂ (fun a b : EReal => a * b) (hd q) ?_)
    (spreadRow g _ r q)) (spreadRow b _ r q)
  refine (spread _ _ r q).trans (congrArg (fun a : EReal => Ideal.rsqrt (a + _)) ((hm _).trans (congrArg mean (funext fun k => ?_))))
  exact congrArg₂ (fun a b : EReal => a * b) (hd k) (hd k)

end Cert.Merge

namespace Cert.Merge

open Cert.Reference4Ideal Cert.Reference4Ideal.Gen

/-! ## What the reference computes of its arrays -/

def hostGates (p : FVec Ideal S32768x6144 .f32) : FVec Ideal S32768x4096 .f32 :=
  Host.divf (broadcastInDim S32768x4096 ![] bcast_S_S32768x4096 (constant S_ .f32 0x3F800000#32))
    (addf (broadcastInDim S32768x4096 ![] bcast_S_S32768x4096 (constant S_ .f32 0x3F800000#32))
      (Host.exp (Host.negf (extractStridedSlice S32768x4096 ![0, 0] p slices_S32768x6144_S32768x4096_0_0))))

def hostHidden (x : FVec Ideal S32768x1024 .f32) (p : FVec Ideal S32768x6144 .f32) (o0 o1 o2 o3 : FVec Ideal S32768x256 .bf16)
    (w : FVec Ideal S4x256x1024 .f32) (v : FVec Ideal S1024x1024 .f32) : FVec Ideal S32768x1024 .f32 :=
  addf (mulf (broadcastInDim S32768x1024 ![] bcast_S_S32768x1024 (constant S_ .f32 0x3FB504F3#32)) x)
    (Host.dotGeneral dot_S32768x1024_S1024x1024_S32768x1024_1_0_0_1_n_n none
      (addf (addf (addf (addf (broadcastInDim S32768x1024 ![] bcast_S_S32768x1024 (constant S_ .f32 0x00000000#32))
        (mulf (extractStridedSlice S32768x1024 ![0, 0] (hostGates p) slices_S32768x4096_S32768x1024_0_0)
          (Host.dotGeneral (φ₁ := .f32) (φ₂ := .f32) dot_S32768x256_S256x1024_S32768x1024_1_0_0_1_n_n none (extf .f32 o0 bitsLt_bf16_f32)
            (shapeCast _ (extractStridedSlice S1x256x1024 ![0, 0, 0] w slices_S4x256x1024_S1x256x1024_0_0_0) shapeCasts_S1x256x1024_S256x1024))))
        (mulf (extractStridedSlice S32768x1024 ![0, 1024] (hostGates p) slices_S32768x4096_S32768x1024_0_1024)
          (Host.dotGeneral (φ₁ := .f32) (φ₂ := .f32) dot_S32768x256_S256x1024_S32768x1024_1_0_0_1_n_n none (extf .f32 o1 bitsLt_bf16_f32)
            (shapeCast _ (extractStridedSlice S1x256x1024 ![1, 0, 0] w slices_S4x256x1024_S1x256x1024_1_0_0) shapeCasts_S1x256x1024_S256x1024))))
        (mulf (extractStridedSlice S32768x1024 ![0, 2048] (hostGates p) slices_S32768x4096_S32768x1024_0_2048)
          (Host.dotGeneral (φ₁ := .f32) (φ₂ := .f32) dot_S32768x256_S256x1024_S32768x1024_1_0_0_1_n_n none (extf .f32 o2 bitsLt_bf16_f32)
            (shapeCast _ (extractStridedSlice S1x256x1024 ![2, 0, 0] w slices_S4x256x1024_S1x256x1024_2_0_0) shapeCasts_S1x256x1024_S256x1024))))
        (mulf (extractStridedSlice S32768x1024 ![0, 3072] (hostGates p) slices_S32768x4096_S32768x1024_0_3072)
          (Host.dotGeneral (φ₁ := .f32) (φ₂ := .f32) dot_S32768x256_S256x1024_S32768x1024_1_0_0_1_n_n none (extf .f32 o3 bitsLt_bf16_f32)
            (shapeCast _ (extractStridedSlice S1x256x1024 ![3, 0, 0] w slices_S4x256x1024_S1x256x1024_3_0_0) shapeCasts_S1x256x1024_S256x1024)))) v)

def hostMean (h : FVec Ideal S32768x1024 .f32) : FVec Ideal S32768x1 .f32 :=
  Host.divf (broadcastInDim S32768x1 ![0] bcast_S32768_S32768x1_0
    (Host.reduceAdd h (constant S_ .f32 0x00000000#32) reducesTo_S32768x1024_S32768_d1 h_S_))
    (broadcastInDim S32768x1 ![] bcast_S_S32768x1 (constant S_ .f32 0x44800000#32))

def hostLess (h : FVec Ideal S32768x1024 .f32) : FVec Ideal S32768x1024 .f32 :=
  subf h (broadcastInDim S32768x1024 ![0, 1] bcast_S32768x1_S32768x1024_0_1 (hostMean h))

def hostNormed (h : FVec Ideal S32768x1024 .f32) (g b : FVec Ideal S1024 .f32) : FVec Ideal S32768x1024 .f32 :=
  addf (mulf (mulf (hostLess h) (broadcastInDim S32768x1024 ![0, 1] bcast_S32768x1_S32768x1024_0_1
      (Host.rsqrt (addf (hostMean (mulf (hostLess h) (hostLess h))) (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem result_term (m : (ℓ : Loc nD τ sig) → Buf (Elt Ideal) ℓ) (c : Dev nD) :
    Value.res_main_v63 m c = hostNormed (hostHidden (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)))
      (m ((c.tc : Thread nD τ).loc main_arg8)) (m ((c.tc : Thread nD τ).loc main_arg9)) := by
  unfold Value.res_main_v63 hostNormed hostLess hostMean hostHidden hostGates
  rfl

theorem branch_array (n : ℕ) (g : Fin 4) (hg : g.val = n) (o : ℕ) (p : FVec Ideal S32768x6144 .f32)
    (h : (⟨2, ![32768, 4096]⟩ : Shape).Slices ![0, o] ⟨2, ![32768, 1024]⟩) (y : FVec Ideal S32768x256 .bf16) (w : FVec Ideal S4x256x1024 .f32)
    (h' : (⟨3, ![4, 256, 1024]⟩ : Shape).Slices ![n, 0, 0] ⟨3, ![1, 256, 1024]⟩) (r : Fin 32768) (j : Fin 1024) (j' : Fin 6144) (hj : j'.val = o + j.val)
    (ho : o + j.val < 4096) :
    mulf (extractStridedSlice S32768x1024 ![0, o] (hostGates p) h)
      (Host.dotGeneral (φ₁ := .f32) (φ₂ := .f32) dot_S32768x256_S256x1024_S32768x1024_1_0_0_1_n_n none (extf .f32 y bitsLt_bf16_f32)
        (shapeCast _ (extractStridedSlice S1x256x1024 ![n, 0, 0] w h') shapeCasts_S1x256x1024_S256x1024)) (ix2 r j)
      = branch (p (ix2 r j')) (fun k => y (ix2 r k)) (fun k => w (ix3 g k j)) := by
  rw [mulf_apply, Cert.Read.dot2 (φ₁ := .f32) (φ₂ := .f32) dot_S32768x256_S256x1024_S32768x1024_1_0_0_1_n_n rfl]
  unfold branch
  refine congrArg₂ (fun a b : EReal => a * b) ?_
    (Finset.sum_congr rfl fun k _ => congrArg (fun b : EReal => y (ix2 r k) * b) ((slab (G := 1) _ _ k j).trans (slice3 n w h' g hg k j)))
  refine (Cert.Read.slice2 0 o (hostGates p) h r j r ⟨o + j.val, ho⟩ (Nat.zero_add _).symm rfl).trans ?_
  unfold hostGates gate
  refine congrArg (fun a : EReal => Ideal.div _ (_ + Ideal.exp (-a))) ?_
  exact Cert.Read.slice2 0 0 p _ r _ r j' (Nat.zero_add _).symm (hj.trans (Nat.zero_add _).symm)

/-- The gates' columns and the stack of weights, by mixer. -/
def gateAt (p : FVec Ideal ⟨2, ![32768, 6144]⟩ .f32) (r : Fin 32768) (n : Fin 4) (j : Fin 1024) : EReal :=
  p (ix2 r ⟨n.val * 1024 + j.val, by omega⟩)

theorem hidden_array (x : FVec Ideal S32768x1024 .f32) (p : FVec Ideal S32768x6144 .f32) (o0 o1 o2 o3 : FVec Ideal S32768x256 .bf16)
    (w : FVec Ideal S4x256x1024 .f32) (v : FVec Ideal S1024x1024 .f32) (r : Fin 32768) (q : Fin 1024) :
    hostHidden x p o0 o1 o2 o3 w v (ix2 r q)
      = hidden (fun j => x (ix2 r j)) (gateAt p r) ![fun k => o0 (ix2 r k), fun k => o1 (ix2 r k), fun k => o2 (ix2 r k), fun k => o3 (ix2 r k)]
          (fun n k j => w (ix3 n k j)) (fun j q => v (ix2 j q)) q := by
  unfold hostHidden
  rw [addf_apply, Cert.Read.dot2 (φ₁ := .f32) (φ₂ := .f32) dot_S32768x1024_S1024x1024_S32768x1024_1_0_0_1_n_n rfl]
  unfold hidden
  refine congrArg₂ (fun a b : EReal => a + b) rfl (Finset.sum_congr rfl fun j _ => congrArg (fun a : EReal => a * v (ix2 j q)) ?_)
  have hj := j.isLt
  refine congrArg₂ (fun a b : EReal => a + b) (congrArg₂ (fun a b : EReal => a + b) (congrArg₂ (fun a b : EReal => a + b) ?_
    (branch_array 1 1 rfl 1024 p _ o1 w _ r j _ rfl (by omega))) (branch_array 2 2 rfl 2048 p _ o2 w _ r j _ rfl (by omega)))
    (branch_array 3 3 rfl 3072 p _ o3 w _ r j _ rfl (by omega))
  refine (congrArg₂ (fun a b : EReal => a + b) Ideal.ofBits_zero_f32 (branch_array 0 0 rfl 0 p _ o0 w _ r j _ ?_ (by omega))).trans (zero_add _)
  rfl

theorem normed_array (h : FVec Ideal S32768x1024 .f32) (g b : FVec Ideal S1024 .f32) (r : Fin 32768) (q : Fin 1024) :
    hostNormed h g b (ix2 r q) = normed (fun k => h (ix2 r k)) (g (ix1 q)) (b (ix1 q)) q := by
  have hm : ∀ x : FVec Ideal S32768x1024 .f32, hostMean x (ix2 r 0) = mean (fun k => x (ix2 r k)) := fun x =>
    congrArg (fun a => Ideal.div a _) ((hostColumn _ _ r).trans (hostSum_row x _ (by decide) _ r))
  have hd : ∀ k, hostLess h (ix2 r k) = (h (ix2 r k) - mean (fun k => h (ix2 r k)) : EReal) := fun k =>
    congrArg (fun a : EReal => h (ix2 r k) - a) ((hostSpread _ _ r k).trans (hm h))
  unfold normed hostNormed
  refine congrArg₂ (fun a b : EReal => a + b) (congrArg₂ (fun a b : EReal => a * b) (congrArg₂ (fun a b : EReal => a * b) (hd q) ?_)
    ((Idealize.ShloMosaic.broadcastInDim_oneRow_apply _ _ r q).trans (hostRow g _ q))) ((Idealize.ShloMosaic.broadcastInDim_oneRow_apply _ _ r q).trans (hostRow b _ q))
  refine (hostSpread _ _ r q).trans (congrArg (fun a : EReal => Ideal.rsqrt (a + _)) ((hm _).trans (congrArg mean (funext fun k => ?_))))
  exact congrArg₂ (fun a b : EReal => a * b) (hd k) (hd k)

end Cert.Merge

namespace Cert.Merge

/-- What both leave: the merged rows of the arrays. -/
def merged (x : FVec Ideal ⟨2, ![32768, 1024]⟩ .f32) (p : FVec Ideal ⟨2, ![32768, 6144]⟩ .f32) (o0 o1 o2 o3 : FVec Ideal ⟨2, ![32768, 256]⟩ .bf16)
    (w : FVec Ideal ⟨3, ![4, 256, 1024]⟩ .f32) (v : FVec Ideal ⟨2, ![1024, 1024]⟩ .f32) (g b : FVec Ideal ⟨1, ![1024]⟩ .f32) :
    FVec Ideal ⟨2, ![32768, 1024]⟩ .f32 := fun i =>
  normed (hidden (fun j => x (ix2 (i 0) j)) (gateAt p (i 0))
    ![fun k => o0 (ix2 (i 0) k), fun k => o1 (ix2 (i 0) k), fun k => o2 (ix2 (i 0) k), fun k => o3 (ix2 (i 0) k)]
    (fun n k j => w (ix3 n k j)) (fun j q => v (ix2 j q))) (g (ix1 (i 1))) (b (ix1 (i 1))) (i 1)

open Cert.Kernel4Ideal Cert.Kernel4Ideal.Gen

theorem hz : (![0, 0] : Fin 2 → Nat) = fun _ => 0 := funext fun a => by fin_cases a <;> rfl

/-! ## The call's first result, point by point -/

/-- What point `t` stores. -/
def outAt (x0 : Vec Ideal S512x1024 .f32) (x1 : Vec Ideal S512x4096 .f32) (x2 x3 x4 x5 : Vec Ideal S512x256 .bf16) (x6 : Vec Ideal S4x256x1024 .bf16)
    (x7 : Vec Ideal S1024x1024 .bf16) (x8 : Vec Ideal S8x1024 .f32) : FVec Ideal S512x1024 .f32 :=
  k0_pay5 (k0_pay3
        (k0_pay1 (View.ld x1 (Rect.unit (s := S512x4096) ![0, 0] S512x1024.size inb_S512x4096_S512x1024_0_0)) x2
          (View.ld x6 (Rect.unit (s := S4x256x1024) ![0, 0, 0] S1x256x1024.size inb_S4x256x1024_S1x256x1024_0_0_0))
          (View.ld x1 (Rect.unit (s := S512x4096) ![0, 1024] S512x1024.size inb_S512x4096_S512x1024_0_1024)) x3
          (View.ld x6 (Rect.unit (s := S4x256x1024) ![1, 0, 0] S1x256x1024.size inb_S4x256x1024_S1x256x1024_1_0_0)))
        (k0_pay2 (View.ld x1 (Rect.unit (s := S512x4096) ![0, 2048] S512x1024.size inb_S512x4096_S512x1024_0_2048))) x4
        (View.ld x6 (Rect.unit (s := S4x256x1024) ![2, 0, 0] S1x256x1024.size inb_S4x256x1024_S1x256x1024_2_0_0))
        (View.ld x1 (Rect.unit (s := S512x4096) ![0, 3072] S512x1024.size inb_S512x4096_S512x1024_0_3072)) x5
        (View.ld x6 (Rect.unit (s := S4x256x1024) ![3, 0, 0] S1x256x1024.size inb_S4x256x1024_S1x256x1024_3_0_0)) x0 x7)
      (k0_pay4 (View.ld x8 (Rect.unit (s := S8x1024) ![0, 0] S1x1024.size inb_S8x1024_S1x1024_0_0)))
      (View.ld x8 (Rect.unit (s := S8x1024) ![1, 0] S1x1024.size inb_S8x1024_S1x1024_1_0))

/-- The store of the normed rows, of what the loads read. -/
theorem out_eq (c : Dev nD) (i : grid0.Coords) (arg1 : Memref sig .tc .vmem S512x1024 .f32) (harg1 : arg1.IsWhole)
    (arg2 : Memref sig .tc .vmem S512x4096 .f32) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x256x1024 .bf16) (harg7 : arg7.IsWhole)
    (arg8 : Memref sig .tc .vmem S1024x1024 .bf16) (harg8 : arg8.IsWhole) (arg9 : Memref sig .tc .vmem S8x1024 .f32) (harg9 : arg9.IsWhole)
    (arg10 : Memref sig .tc .vmem S1024x128 .f32) (harg10 : arg10.IsWhole) (arg11 : Memref sig .tc .vmem S1x128 .f32) (harg11 : arg11.IsWhole)
    (arg12 : Memref sig .tc .vmem S512x1024 .f32) (harg12 : arg12.IsWhole) (arg13 : Memref sig .tc .vmem S512x128 .f32) (harg13 : arg13.IsWhole)
    (x0 : Vec Ideal S512x1024 .f32) (x1 : Vec Ideal S512x4096 .f32) (x2 x3 x4 x5 : Vec Ideal S512x256 .bf16) (x6 : Vec Ideal S4x256x1024 .bf16)
    (x7 : Vec Ideal S1024x1024 .bf16) (x8 : Vec Ideal S8x1024 .f32) (x9 : Vec Ideal S1024x128 .f32) (x10 : Vec Ideal S1x128 .f32) :
    out0_A_11 c i arg1 harg1 arg2 harg2 arg3 harg3 arg4 harg4 arg5 harg5 arg6 harg6 arg7 harg7 arg8 harg8 arg9 harg9 arg10 harg10 arg11 harg11
      arg12 harg12 arg13 harg13 x0 x1 x2 x3 x4 x5 x6 x7 x8 x9 x10
    = outAt x0 x1 x2 x3 x4 x5 x6 x7 x8 := by
  unfold out0_A_11 outAt
  rw [View.read_writes_junk_eq_canon]
  show View.canon ([⟨Rect.unit ![0, 0] S512x1024.size inb_S512x1024_S512x1024_0_0, _⟩] : List (View.Piece (Elt Ideal) S512x1024 .f32)) = _
  rw [View.canon_unit_zero hz]
  simp only [kernelRun0_A.sl.r, kernelRun0_A.sl.r_1, kernelRun0_A.sl.r_2, kernelRun0_A.sl.r_3, View.readAt_eq_ld, Memref.IsWhole.read_unread, View.ld_unit_zero (S := S512x1024) hz, View.ld_unit_zero (S := S512x256) hz,
    View.ld_unit_zero (S := S1024x1024) hz]

variable (m : (ℓ : Loc nD τ sig) → Buf (Elt Ideal) ℓ) (ρ : Dev nD → PrngReg)

/-- Which block of each array point `t` takes: its 512 rows of the row arrays, the whole of the weights. -/
theorem blocks : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_11.index t 0 = t.val ∧ win0_11.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_11.index t 0 = t.val ∧ win0_11.index t 1 = 0))

theorem blocksW : ∀ t : Fin cfg0.N, (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0) :=
  (by decide +kernel : ∀ t : Fin grid0.N, (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0))

theorem N64 : cfg0.N = 64 := by decide +kernel

section Reads

variable (c : Dev nD) (t : Fin cfg0.N) (r : Fin 512) (r' : Fin 32768) (hr : r'.val = t.val * 512 + r.val)
include hr

theorem x_eq (k : Fin 1024) : (iblk m c 0 t : Vec Ideal S512x1024 .f32) (ix2 r k) = V m c main_arg0 (ix2 r' k) := by
  obtain ⟨h0, h1⟩ := (blocks t).1
  unfold iblk
  rw [View.read_apply]
  refine congrArg (V m c main_arg0) (funext fun a => Fin.ext ?_)
  match a with
  | ⟨0, _⟩ => show win0_0.index t 0 * 512 + 1 * r.val = r'.val; rw [h0, hr]; omega
  | ⟨1, _⟩ => show win0_0.index t 1 * 1024 + 1 * k.val = k.val; rw [h1]; omega

theorem z_eq (k : Fin 4096) (k' : Fin 6144) (hk : k'.val = k.val) :
    (X0_1 m c t : Vec Ideal S512x4096 .f32) (ix2 r k) = V m c main_arg1 (ix2 r' k') := by
  obtain ⟨h0, h1⟩ := (blocks t).2.1
  unfold X0_1 Pipeline.Window.fill
  rw [dif_pos (moved0_1 t _)]
  unfold iblk
  rw [View.read_apply]
  refine congrArg (V m c main_arg1) (funext fun a => Fin.ext ?_)
  match a with
  | ⟨0, _⟩ => show win0_1.index t 0 * 512 + 1 * r.val = r'.val; rw [h0, hr]; omega
  | ⟨1, _⟩ => show win0_1.index t 1 * 4096 + 1 * k.val = k'.val; rw [h1, hk]; omega

theorem o_eq (k : Fin 256) : (iblk m c 2 t : Vec Ideal S512x256 .bf16) (ix2 r k) = V m c main_arg2 (ix2 r' k)
    ∧ (iblk m c 3 t : Vec Ideal S512x256 .bf16) (ix2 r k) = V m c main_arg3 (ix2 r' k)
    ∧ (iblk m c 4 t : Vec Ideal S512x256 .bf16) (ix2 r k) = V m c main_arg4 (ix2 r' k)
    ∧ (iblk m c 5 t : Vec Ideal S512x256 .bf16) (ix2 r k) = V m c main_arg5 (ix2 r' k) := by
  obtain ⟨-, -, h2, h3, h4, h5, -⟩ := blocks t
  have hi : ∀ (i0 i1 : ℕ), i0 = t.val ∧ i1 = 0 → i0 * 512 + 1 * r.val = r'.val ∧ i1 * 256 + 1 * k.val = k.val := fun i0 i1 h => by
    obtain ⟨rfl, rfl⟩ := h; omega
  unfold iblk
  simp only [View.read_apply]
  refine ⟨congrArg (V m c main_arg2) (funext fun a => Fin.ext ?_), congrArg (V m c main_arg3) (funext fun a => Fin.ext ?_),
    congrArg (V m c main_arg4) (funext fun a => Fin.ext ?_), congrArg (V m c main_arg5) (funext fun a => Fin.ext ?_)⟩
  · match a with | ⟨0, _⟩ => exact (hi _ _ h2).1 | ⟨1, _⟩ => exact (hi _ _ h2).2
  · match a with | ⟨0, _⟩ => exact (hi _ _ h3).1 | ⟨1, _⟩ => exact (hi _ _ h3).2
  · match a with | ⟨0, _⟩ => exact (hi _ _ h4).1 | ⟨1, _⟩ => exact (hi _ _ h4).2
  · match a with | ⟨0, _⟩ => exact (hi _ _ h5).1 | ⟨1, _⟩ => exact (hi _ _ h5).2

omit hr

theorem w_eq (n : Fin 4) (k : Fin 256) (j : Fin 1024) : (iblk m c 6 t : Vec Ideal S4x256x1024 .bf16) (ix3 n k j) = V m c main_v8 (ix3 n k j) := by
  obtain ⟨h0, h1, h2⟩ := (blocksW t).1
  unfold iblk
  rw [View.read_apply]
  refine congrArg (V m c main_v8) (funext fun a => Fin.ext ?_)
  match a with
  | ⟨0, _⟩ => show win0_6.index t 0 * 4 + 1 * n.val = n.val; rw [h0]; omega
  | ⟨1, _⟩ => show win0_6.index t 1 * 256 + 1 * k.val = k.val; rw [h1]; omega
  | ⟨2, _⟩ => show win0_6.index t 2 * 1024 + 1 * j.val = j.val; rw [h2]; omega

theorem v_eq (k j : Fin 1024) : (iblk m c 7 t : Vec Ideal S1024x1024 .bf16) (ix2 k j) = V m c main_v9 (ix2 k j) := by
  obtain ⟨h0, h1⟩ := (blocksW t).2.1
  unfold iblk
  rw [View.read_apply]
  refine congrArg (V m c main_v9) (funext fun a => Fin.ext ?_)
  match a with
  | ⟨0, _⟩ => show win0_7.index t 0 * 1024 + 1 * k.val = k.val; rw [h0]; omega
  | ⟨1, _⟩ => show win0_7.index t 1 * 1024 + 1 * j.val = j.val; rw [h1]; omega

theorem n_eq (k : Fin 8) (j : Fin 1024) : (iblk m c 8 t : Vec Ideal S8x1024 .f32) (ix2 k j) = V m c main_v7 (ix2 k j) := by
  obtain ⟨h0, h1⟩ := (blocksW t).2.2
  unfold iblk
  rw [View.read_apply]
  refine congrArg (V m c main_v7) (funext fun a => Fin.ext ?_)
  match a with
  | ⟨0, _⟩ => show win0_8.index t 0 * 8 + 1 * k.val = k.val; rw [h0]; omega
  | ⟨1, _⟩ => show win0_8.index t 1 * 1024 + 1 * j.val = j.val; rw [h1]; omega

end Reads

/-! ## The operands the host prepares -/

theorem w_term (c : Dev nD) : V m c main_v8 = (truncf .bf16 (m ((c : Thread nD τ).loc main_arg6) : FVec Ideal S4x256x1024 .f32) bitsLt_bf16_f32 : FVec Ideal S4x256x1024 .bf16) := by
  show StableHlo.after _ _ _ = _
  simp only [hostOps0, hostOps0_1, hostOps0_2, hostOps0_3, hostOps0_4, hostOps0_5, hostOps0_6, List.flatten_cons, List.flatten_nil,
    List.append_nil, List.cons_append, List.nil_append]
  after_results <;> rfl

theorem v_term (c : Dev nD) : V m c main_v9 = (truncf .bf16 (m ((c : Thread nD τ).loc main_arg7) : FVec Ideal S1024x1024 .f32) bitsLt_bf16_f32 : FVec Ideal S1024x1024 .bf16) := by
  show StableHlo.after _ _ _ = _
  simp only [hostOps0, hostOps0_1, hostOps0_2, hostOps0_3, hostOps0_4, hostOps0_5, hostOps0_6, List.flatten_cons, List.flatten_nil,
    List.append_nil, List.cons_append, List.nil_append]
  after_results <;> rfl

theorem n_term (c : Dev nD) : V m c main_v7 = (pad S8x1024 ![0, 0] ![6, 0] ![0, 0]
    (concatenate S2x1024 0 [⟨S1x1024, broadcastInDim S1x1024 ![1] bcast_S1024_S1x1024_1 (m ((c : Thread nD τ).loc main_arg8) : FVec Ideal S1024 .f32)⟩,
      ⟨S1x1024, broadcastInDim S1x1024 ![1] bcast_S1024_S1x1024_1 (m ((c : Thread nD τ).loc main_arg9) : FVec Ideal S1024 .f32)⟩]
      concatenates_S1x1024_S1x1024_S2x1024_d0)
    (sitofp .f32 (constantI S_ 32 0#32) : FVec Ideal S_ .f32) pads_S2x1024_S8x1024_060_000 h_S_ : FVec Ideal S8x1024 .f32) := by
  show StableHlo.after _ _ _ = _
  after_results_simp <;> rfl

/-- The scale and the shift, the first two rows of the table the host pads them into. -/
theorem scale_read (c : Dev nD) (q : Fin 1024) : V m c main_v7 (ix2 (0 : Fin 8) q) = m ((c : Thread nD τ).loc main_arg8) (ix1 q) := by
  rw [n_term]
  refine (pad_apply_of_inside _ _ _ _ _ _ _ _ (ix2 (0 : Fin 2) q) fun a => ?_).trans
    ((concatenate_apply_piece (t := S2x1024) 0 _ _ _ 0 (by simp) S1x1024 _ rfl rfl 0 rfl (ix2 (0 : Fin 1) q) (fun e he => ?_) rfl).trans (hostRow _ _ q))
  · match a with
    | ⟨0, _⟩ => rfl
    | ⟨1, _⟩ => show q.val = 0 + q.val * (0 + 1); omega
  · match e with
    | ⟨0, _⟩ => exact absurd rfl he
    | ⟨1, _⟩ => rfl

theorem shift_read (c : Dev nD) (q : Fin 1024) : V m c main_v7 (ix2 (1 : Fin 8) q) = m ((c : Thread nD τ).loc main_arg9) (ix1 q) := by
  rw [n_term]
  refine (pad_apply_of_inside _ _ _ _ _ _ _ _ (ix2 (1 : Fin 2) q) fun a => ?_).trans
    ((concatenate_apply_piece (t := S2x1024) 0 _ _ _ 1 (by simp) S1x1024 _ rfl rfl 1 rfl (ix2 (0 : Fin 1) q) (fun e he => ?_) rfl).trans (hostRow _ _ q))
  · match a with
    | ⟨0, _⟩ => rfl
    | ⟨1, _⟩ => show q.val = 0 + q.val * (0 + 1); omega
  · match e with
    | ⟨0, _⟩ => exact absurd rfl he
    | ⟨1, _⟩ => rfl

/-! ## The call's whole result -/

/-- The merged rows of the arguments. -/
def mergedV (c : Dev nD) : FVec Ideal ⟨2, ![32768, 1024]⟩ .f32 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))
/-- The same as contents of the result array. -/
abbrev mergedB (c : Dev nD) : Buf (Elt Ideal) ((c : Thread nD τ).loc main_v11_0) := mergedV m c

theorem point_eq (c : Dev nD) (t : Fin cfg0.N) (r : Fin 512) (q : Fin 1024) (r' : Fin 32768) (hr : r'.val = t.val * 512 + r.val) :
    outAt (iblk m c 0 t) (X0_1 m c t) (iblk m c 2 t) (iblk m c 3 t) (iblk m c 4 t) (iblk m c 5 t) (iblk m c 6 t) (iblk m c 7 t) (iblk m c 8 t) (ix2 r q)
      = mergedV m c (ix2 r' q) := by
  unfold outAt
  refine (normed_block _ _ _ r q).trans ?_
  show _ = normed _ _ _ _
  have hs : View.ld (Val := Elt Ideal) (e' := .f32) (iblk m c 8 t) (Rect.unit (s := S8x1024) ![0, 0] S1x1024.size inb_S8x1024_S1x1024_0_0) (ix2 0 q)
      = m ((c : Thread nD τ).loc main_arg8) (ix1 q) :=
    (congrFun (View.ld_unit _ _ _ _) _).trans ((Cert.Read.slice2 0 0 _ _ (0 : Fin 1) q (0 : Fin 8) q rfl (Nat.zero_add _).symm).trans
      ((n_eq m c t 0 q).trans (scale_read m c q)))
  have hb : View.ld (Val := Elt Ideal) (e' := .f32) (iblk m c 8 t) (Rect.unit (s := S8x1024) ![1, 0] S1x1024.size inb_S8x1024_S1x1024_1_0) (ix2 0 q)
      = m ((c : Thread nD τ).loc main_arg9) (ix1 q) :=
    (congrFun (View.ld_unit _ _ _ _) _).trans ((Cert.Read.slice2 1 0 _ _ (0 : Fin 1) q (1 : Fin 8) q rfl (Nat.zero_add _).symm).trans
      ((n_eq m c t 1 q).trans (shift_read m c q)))
  rw [hs, hb]
  refine congrArg (fun h => normed h _ _ q) (funext fun k => ?_)
  refine (hidden_block _ _ _ _ _ _ _ _ _ _ _ _ _ _ r k).trans ?_
  have hx : (fun j => (iblk m c 0 t : Vec Ideal S512x1024 .f32) (ix2 r j)) = fun j => m ((c : Thread nD τ).loc main_arg0) (ix2 r' j) :=
    funext fun j => (x_eq m c t r r' hr j).trans (congrFun (V_main_arg0 m c) _)
  have hz : ∀ (o : ℕ) (inb : ∀ a, (![0, o] : Fin 2 → ℕ) a + S512x1024.size a ≤ S512x4096.size a) (j : Fin 1024) (n : Fin 4), o = n.val * 1024 →
      View.ld (Val := Elt Ideal) (e' := .f32) (X0_1 m c t) (Rect.unit (s := S512x4096) ![0, o] S512x1024.size inb) (ix2 r j)
        = gateAt (m ((c : Thread nD τ).loc main_arg1)) r' n j := fun o inb j n ho =>
    (congrFun (View.ld_unit _ _ _ _) _).trans ((Cert.Read.slice2 0 o _ _ r j r ⟨n.val * 1024 + j.val, by omega⟩ (Nat.zero_add _).symm (by simp only [ho])).trans
      ((z_eq m c t r r' hr _ ⟨n.val * 1024 + j.val, by omega⟩ rfl).trans (congrFun (V_main_arg1 m c) _)))
  have hw : ∀ (n : ℕ) (inb : ∀ a, (![n, 0, 0] : Fin 3 → ℕ) a + S1x256x1024.size a ≤ S4x256x1024.size a) (g : Fin 4), g.val = n → ∀ k j,
      View.ld (Val := Elt Ideal) (e' := .bf16) (iblk m c 6 t) (Rect.unit (s := S4x256x1024) ![n, 0, 0] S1x256x1024.size inb) (ix3 0 k j)
        = m ((c : Thread nD τ).loc main_arg6) (ix3 g k j) := fun n inb g hg k j =>
    (congrFun (View.ld_unit _ _ _ _) _).trans ((slice3 n _ _ g hg k j).trans ((w_eq m c t g k j).trans (congrFun (w_term m c) _)))
  have ho := fun k => o_eq m c t r r' hr k
  have hv : (fun j q => (iblk m c 7 t : Vec Ideal S1024x1024 .bf16) (ix2 j q)) = fun j q => m ((c : Thread nD τ).loc main_arg7) (ix2 j q) :=
    funext fun j => funext fun q => (v_eq m c t j q).trans (congrFun (v_term m c) _)
  show hidden _ _ _ _ _ k = hidden _ _ _ _ _ k
  rw [hx, hv]
  congr 1
  · funext n j
    match n with
    | ⟨0, _⟩ => exact hz 0 _ j 0 rfl
    | ⟨1, _⟩ => exact hz 1024 _ j 1 rfl
    | ⟨2, _⟩ => exact hz 2048 _ j 2 rfl
    | ⟨3, _⟩ => exact hz 3072 _ j 3 rfl
  · funext n k
    match n with
    | ⟨0, _⟩ => exact (ho k).1.trans (congrFun (V_main_arg2 m c) _)
    | ⟨1, _⟩ => exact (ho k).2.1.trans (congrFun (V_main_arg3 m c) _)
    | ⟨2, _⟩ => exact (ho k).2.2.1.trans (congrFun (V_main_arg4 m c) _)
    | ⟨3, _⟩ => exact (ho k).2.2.2.trans (congrFun (V_main_arg5 m c) _)
  · funext n k j
    match n with
    | ⟨0, _⟩ => exact hw 0 _ 0 rfl k j
    | ⟨1, _⟩ => exact hw 1 _ 1 rfl k j
    | ⟨2, _⟩ => exact hw 2 _ 2 rfl k j
    | ⟨3, _⟩ => exact hw 3 _ 3 rfl k j

theorem flushed_eq (c : Dev nD) (t : Fin cfg0.N) :
    (dats m 0 c).flushed 11 t = ((cfg0.win 11).blk t).view.read (Elt Ideal) (mergedB m c) := by
  rw [Value.flushed11_A, out_eq]
  have ht := t.isLt
  have hN := N64
  obtain ⟨-, -, -, -, -, -, h0, h1⟩ := blocks t
  funext j
  have hj0 : (j 0).val < 512 := (j 0).isLt
  rw [View.read_apply]
  refine (congrArg (outAt (iblk m c 0 t) (X0_1 m c t) (iblk m c 2 t) (iblk m c 3 t) (iblk m c 4 t) (iblk m c 5 t) (iblk m c 6 t) (iblk m c 7 t)
    (iblk m c 8 t)) (eq_ix2 (n0 := 512) (n1 := 1024) j)).trans
    ((point_eq m c t (j 0) (j 1) ⟨t.val * 512 + (j 0).val, by omega⟩ rfl).trans ?_)
  refine congrArg (mergedV m c) (funext fun a => Fin.ext ?_)
  match a with
  | ⟨0, _⟩ => show t.val * 512 + (j 0).val = win0_11.index t 0 * 512 + 1 * (j 0).val; rw [h0]; omega
  | ⟨1, _⟩ => show (j 1).val = win0_11.index t 1 * 1024 + 1 * (j 1).val; rw [h1]; omega

theorem final (c : Dev nD) : (dats m 0 c).arrAt 11 cfg0.N = mergedB m c :=
  (dats m 0 c).arrAt_eq_of_cover 11 (mergedB m c) (fun t _ => flushed_eq m c t) fun i => by
    have h0 : (i 0 : Nat) < 32768 := (i 0).isLt
    have h1 : (i 1 : Nat) < 1024 := (i 1).isLt
    have hN := N64
    obtain ⟨t, ht⟩ : ∃ t : Fin cfg0.N, t.val = (i 0 : Nat) / 512 := ⟨⟨_, by omega⟩, rfl⟩
    obtain ⟨-, -, -, -, -, -, h20, h21⟩ := blocks t
    refine ⟨t, flush0_11 _, ?_⟩
    show i ∈ ((View.whole main_v11_0).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [h20, ht]; omega
    | ⟨1, _⟩ =>
      show win0_11.index t 1 * 1024 ≤ (i 1 : Nat) ∧ (i 1 : Nat) < win0_11.index t 1 * 1024 + 1024
      rw [h21]; omega

end Cert.Merge

namespace Cert.Merge

theorem algebraic : Cert.algebraic_Kernel4Ideal_Reference4Ideal := by
  intro m ρ m' ρ' _ hagree
  refine ⟨fun c => mergedB m c, ?_, ?_⟩
  · refine (θ_run Kernel4Ideal.defs _ _).mono (fun _ h c => ⟨(h c).1.trans (final m c), (h c).2.2⟩)
      (Kernel4Ideal.Value.run_blocks (F := Ideal) m ρ)
  · refine (θ_run Reference4Ideal.defs _ _).mono (fun _ h c => ⟨(h c).1.trans ?_, (h c).2⟩) (Reference4Ideal.Value.run (F := Ideal) m' ρ')
    obtain ⟨e0, e1, e2, e3, e4, e5, e6, e7, e8, e9, -⟩ := hagree c
    rw [result_term m' c, e0, e1, e2, e3, e4, e5, e6, e7, e8, e9]
    funext j
    refine (congrArg _ (eq_ix2 (n0 := 32768) (n1 := 1024) j)).trans ((normed_array _ _ _ (j 0) (j 1)).trans ?_)
    exact congrArg (fun h => normed h _ _ (j 1)) (funext fun k => hidden_array _ _ _ _ _ _ _ _ (j 0) k)

end Cert.Merge

end
-- ==== Proof.Top.lean ====
/-
  The greatest entries of a row: what a masked maximum and the least lane that reaches it give, what a stable top-k gives, and that a
  softmax keeps the order of real logits.
-/
module

public import Idealize.ShloMosaic.Lib.IdealHost
public import Idealize.ShloMosaic.Lib.SortPrefix
public import Idealize.ShloMosaic.Lib.ValueIdx
public import Idealize.ShloMosaic.PureOps.Ideal.Laws
public import Idealize.ShloMosaic.Lib.Pipeline.Value

@[expose] public section

noncomputable section

open Idealize.ShloMosaic Idealize.ShloMosaic.ValueIdx

namespace Cert.Top

/-- `k` is the first of the greatest entries of `f` among those in `P`. -/
def IsTop {n : ℕ} (f : Fin n → EReal) (P : Fin n → Prop) (k : Fin n) : Prop :=
  P k ∧ ∀ j, P j → f j ≤ f k ∧ (j < k → f j < f k)

theorem exists_top {n : ℕ} (f : Fin n → EReal) (P : Fin n → Prop) (h : ∃ j, P j) : ∃ k, IsTop f P k := by
  classical
  obtain ⟨j0, h0⟩ := h
  obtain ⟨a, ha, hmax⟩ := Finset.exists_max_image (Finset.univ.filter P) f ⟨j0, by simp [h0]⟩
  have hne : (Finset.univ.filter fun j => P j ∧ f j = f a).Nonempty := ⟨a, by simpa using ha⟩
  have hmem := Finset.min'_mem _ hne
  simp only [Finset.mem_filter, Finset.mem_univ, true_and] at hmem ha hmax
  refine ⟨_, hmem.1, fun j hj => ⟨(hmax j hj).trans hmem.2.ge, fun hlt => ?_⟩⟩
  refine lt_of_le_of_ne ((hmax j hj).trans hmem.2.ge) fun e => absurd (Finset.min'_le _ j ?_) (not_le.mpr hlt)
  simp only [Finset.mem_filter, Finset.mem_univ, true_and]
  exact ⟨hj, e.trans hmem.2⟩

/-- A row kept on `P` and `⊥` elsewhere. -/
def Masked {n : ℕ} (a f : Fin n → EReal) (P : Fin n → Prop) : Prop := (∀ j, P j → a j = f j) ∧ ∀ j, ¬P j → a j = ⊥

theorem fold_max {n : ℕ} {a f : Fin n → EReal} {P : Fin n → Prop} (ha : Masked a f P) {k : Fin n} (hk : IsTop f P k) :
    (Finset.univ : Finset (Fin n)).fold max ⊥ a = f k := by
  refine le_antisymm (Finset.fold_max_le _ |>.mpr ⟨bot_le, fun j _ => ?_⟩) (Finset.le_fold_max _ |>.mpr (.inr ⟨k, Finset.mem_univ k, (ha.1 k hk.1).ge⟩))
  by_cases hj : P j
  · exact (ha.1 j hj).le.trans (hk.2 j hj).1
  · exact (ha.2 j hj).le.trans bot_le

theorem fold_min {n : ℕ} (x : Fin n → BitVec 32) (b : BitVec 32) (k : Fin n) (hb : (x k).toInt ≤ b.toInt) (h : ∀ j, (x k).toInt ≤ (x j).toInt) :
    (Finset.univ : Finset (Fin n)).fold IntOp.minsi b x = x k := by
  have hm : ∀ u v : BitVec 32, (IntOp.minsi u v).toInt = min u.toInt v.toInt := fun u v => by
    show (if u.slt v then u else v).toInt = _
    rw [BitVec.slt_eq_decide]
    by_cases huv : u.toInt < v.toInt
    · simp [huv, min_eq_left huv.le]
    · simp [huv, min_eq_right (not_lt.mp huv)]
  refine BitVec.eq_of_toInt_eq ?_
  rw [← Finset.fold_hom (op' := min) (m := BitVec.toInt) hm]
  exact le_antisymm (Finset.fold_min_le _ |>.mpr (.inr ⟨k, Finset.mem_univ k, le_rfl⟩)) (Finset.le_fold_min _ |>.mpr ⟨hb, fun j _ => h j⟩)

theorem word_toInt : ∀ j : Fin 128, (BitVec.ofNat 32 j.val).toInt = j.val := by decide

/-- The least lane whose entry equals the greatest one. -/
theorem first_lane {a f : Fin 128 → EReal} {P : Fin 128 → Prop} (ha : Masked a f P) {k : Fin 128} (hk : IsTop f P k) (hf : f k ≠ ⊥)
    (x : Fin 128 → BitVec 32) (hx : ∀ j, x j = if a j = f k then BitVec.ofNat 32 j.val else 128#32) :
    (Finset.univ : Finset (Fin 128)).fold IntOp.minsi 2147483647#32 x = BitVec.ofNat 32 k.val := by
  have hxk : x k = BitVec.ofNat 32 k.val := by rw [hx, if_pos (ha.1 k hk.1)]
  have hlt := k.isLt
  rw [← hxk]
  refine fold_min x _ k ?_ fun j => ?_
  · rw [hxk, word_toInt]
    show ((k.val : ℕ) : ℤ) ≤ 2147483647
    omega
  · rw [hxk, word_toInt, hx]
    split
    · rename_i e
      rw [word_toInt]
      by_contra hjk
      have hjk' : j < k := by
        show j.val < k.val
        omega
      by_cases hj : P j
      · exact absurd ((ha.1 j hj).symm.trans e) (((hk.2 j hj).2 hjk').ne)
      · exact hf ((ha.2 j hj).symm.trans e).symm
    · show ((k.val : ℕ) : ℤ) ≤ 128
      omega

/-! ## A stable top-k -/

theorem stableSort_agree {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Greater first, and of equal entries the first. -/
def greater {n : ℕ} (f : Fin n → EReal) (a b : Fin n) : Bool := decide (f b < f a ∨ (f a = f b ∧ a < b))

theorem greater_total {n : ℕ} (f : Fin n → EReal) : StrictTotalBefore (greater f) where
  irrefl a := by simp [greater]
  trans a b c hab hbc := by
    simp only [greater, decide_eq_true_eq] at hab hbc ⊢
    rcases hab with hab | ⟨eab, lab⟩ <;> rcases hbc with hbc | ⟨ebc, lbc⟩
    · exact .inl (hbc.trans hab)
    · exact .inl (ebc ▸ hab)
    · exact .inl (eab ▸ hbc)
    · exact .inr ⟨eab.trans ebc, lab.trans lbc⟩
  total a b hne := by
    simp only [greater, decide_eq_true_eq]
    rcases lt_trichotomy (f a) (f b) with h | h | h
    · exact .inr (.inl h)
    · rcases lt_or_gt_of_ne hne with hlt | hgt
      · exact .inl (.inr ⟨h, hlt⟩)
      · exact .inr (.inr ⟨h.symm, hgt⟩)
    · exact .inl (.inl h)

theorem sorted_first {n k : ℕ} (f : Fin n → EReal) (B : Fin n → Fin n → Bool) (hB : ∀ a b, B a b = decide (f b < f a)) (hk : k ≤ n)
    (σ : Fin k → Fin n) (hinj : Function.Injective σ) (hord : ∀ i j : Fin k, i < j → greater f (σ j) (σ i) = false)
    (hdom : ∀ (i : Fin k) (p : Fin n), (∀ j, σ j ≠ p) → greater f p (σ i) = false) (i : Fin k) : sortedFrom B (i.castLE hk) = σ i := by
  have e : sortPositions n B = sortPositions n (greater f) := stableSort_agree _ _ (fun a b hab => by
    rw [hB]; unfold greater; simp [hab.le.not_gt, not_lt.mpr hab.le]) _ (List.pairwise_lt_finRange n)
  rw [← (greater_total f).sortedFrom_eq_of_prefix hk σ hinj hord hdom i]
  unfold sortedFrom
  rw [List.get_of_eq e]
  rfl

theorem not_greater {n : ℕ} {f : Fin n → EReal} {P : Fin n → Prop} {k p : Fin n} (hk : IsTop f P k) (hp : P p) : greater f p k = false := by
  unfold greater
  refine decide_eq_false ?_
  rintro (h | ⟨e, h⟩)
  · exact absurd (hk.2 p hp).1 (not_le.mpr h)
  · exact absurd e ((hk.2 p hp).2 h).ne

/-- The first of a row. -/
theorem sorted_one {n : ℕ} (f : Fin n → EReal) (B : Fin n → Fin n → Bool) (hB : ∀ a b, B a b = decide (f b < f a)) (hn : 1 ≤ n)
    {k : Fin n} (hk : IsTop f (fun _ => True) k) : sortedFrom B ⟨0, hn⟩ = k :=
  sorted_first f B hB hn (fun _ : Fin 1 => k) (fun _ _ _ => Subsingleton.elim _ _) (fun i j h => absurd h (by omega))
    (fun _ p _ => not_greater hk trivial) 0

/-- The first two of a row. -/
theorem sorted_two {n : ℕ} (f : Fin n → EReal) (B : Fin n → Fin n → Bool) (hB : ∀ a b, B a b = decide (f b < f a)) (hn : 2 ≤ n)
    {k l : Fin n} (hk : IsTop f (fun _ => True) k) (hl : IsTop f (fun j => j ≠ k) l) (i : Fin 2) : sortedFrom B (i.castLE hn) = ![k, l] i := by
  have hne : l ≠ k := hl.1
  refine sorted_first f B hB hn ![k, l] (fun i j h => ?_) (fun i j h => ?_) (fun i p hp => ?_) i
  · match i, j with
    | 0, 0 => rfl
    | 1, 1 => rfl
    | 0, 1 => exact absurd h.symm hne
    | 1, 0 => exact absurd h hne
  · match i, j with
    | 0, 1 => exact not_greater hk trivial
    | 0, 0 => exact absurd h (by decide)
    | 1, 0 => exact absurd h (by decide)
    | 1, 1 => exact absurd h (by decide)
  · match i with
    | 0 => exact not_greater hk trivial
    | 1 => exact not_greater hl (hp 0).symm

theorem along_row {M N : ℕ} (r : Fin M) (q k : Fin N) : (ix2 r q : (⟨2, ![M, N]⟩ : Shape).Idx).along (1 : Fin 2) k = ix2 r k := by
  funext a
  match a with
  | ⟨0, _⟩ => rfl
  | ⟨1, _⟩ => rfl

/-- What a top-k along the rows holds, of where the row's sort takes its entries from. -/
theorem topK_row {M N K : ℕ} (x : FVec Ideal ⟨2, ![M, N]⟩ .f32) (h : (⟨2, ![M, N]⟩ : Shape).Slices (fun _ => 0) ⟨2, ![M, K]⟩) (hK : K ≤ N)
    (σ : Fin K → Fin N) (r : Fin M)
    (hσ : ∀ (B : Fin N → Fin N → Bool), (∀ a b, B a b = decide ((x (ix2 r b) : EReal) < x (ix2 r a))) → ∀ i, sortedFrom B (i.castLE hK) = σ i) (i : Fin K) :
    (Host.topK ⟨2, ![M, K]⟩ 1 (FloatOps.cmpfTotal (F := Ideal) (φ := .f32) .gt) x h).1 (ix2 r i) = x (ix2 r (σ i))
      ∧ (Host.topK ⟨2, ![M, K]⟩ 1 (FloatOps.cmpfTotal (F := Ideal) (φ := .f32) .gt) x h).2 (ix2 r i) = BitVec.ofNat 32 (σ i).val := by
  have hs : ∀ {α : Type} (y : (⟨2, ![M, N]⟩ : Shape).Idx → α), extractStridedSlice ⟨2, ![M, K]⟩ (fun _ => 0) y h (ix2 r i) = y (ix2 r (i.castLE hK)) := fun y =>
    extractStridedSlice_apply _ y h _ _ fun e => by
      match e with
      | ⟨0, _⟩ => exact (Nat.zero_add _).symm
      | ⟨1, _⟩ => exact (Nat.zero_add _).symm
  have hB := hσ (fun k k' => FloatOps.cmpfTotal (F := Ideal) (φ := .f32) .gt (x ((ix2 r (i.castLE hK) : (⟨2, ![M, N]⟩ : Shape).Idx).along (1 : Fin 2) k))
      (x ((ix2 r (i.castLE hK) : (⟨2, ![M, N]⟩ : Shape).Idx).along (1 : Fin 2) k')) == 1#1) (fun a b => by
    rw [along_row, along_row]
    show (BitVec.ofBool (decide _) == 1#1) = decide _
    by_cases hlt : (x (ix2 r b) : EReal) < x (ix2 r a) <;> simp [hlt]) i
  unfold Host.topK
  dsimp only
  rw [hs, hs]
  exact ⟨(congrArg (fun p => x ((ix2 r (i.castLE hK) : (⟨2, ![M, N]⟩ : Shape).Idx).along (1 : Fin 2) p)) hB).trans (congrArg x (along_row r _ _)),
    congrArg (fun p => BitVec.ofNat 32 ((ix2 r (i.castLE hK) : (⟨2, ![M, N]⟩ : Shape).Idx).along (1 : Fin 2) p 1).val) hB⟩

/-! ## Real numbers among the extended ones -/

def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.sub {x y : EReal} (hx : Real' x) (hy : Real' y) : Real' (x - y) := by
  obtain ⟨a, rfl⟩ := hx
  obtain ⟨b, rfl⟩ := hy
  exact ⟨a - b, (EReal.coe_sub a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.sum {ι : Type} {s : Finset ι} {f : ι → EReal} (hf : ∀ i ∈ s, Real' (f i)) : Real' (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

theorem Real'.ne_bot {x : EReal} (hx : Real' x) : x ≠ ⊥ := by
  obtain ⟨a, rfl⟩ := hx
  exact EReal.coe_ne_bot a

theorem Real'.self_sub {x : EReal} (hx : Real' x) : x - x = 0 := by
  obtain ⟨a, rfl⟩ := hx
  rw [← EReal.coe_sub, sub_self, EReal.coe_zero]

theorem Real'.exp_self {x : EReal} (hx : Real' x) : Ideal.exp (x - x) = 1 := by
  rw [hx.self_sub, ← EReal.coe_zero, Ideal.exp_coe, Real.exp_zero, EReal.coe_one]

theorem Real'.bot_sub {x : EReal} (hx : Real' x) : Ideal.exp (⊥ - x) = 0 := by
  obtain ⟨a, rfl⟩ := hx
  rw [show (⊥ : EReal) - (a : EReal) = ⊥ from EReal.bot_sub a, Ideal.exp_bot]

theorem Real'.div {x : EReal} {y : ℝ} (hx : Real' x) (hy : y ≠ 0) : Real' (Ideal.div x y) := by
  rw [Ideal.div_coe hy]
  exact hx.mul ⟨_, rfl⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A softmax's entry. -/
def soft {n : ℕ} (f : Fin n → EReal) (c : EReal) (j : Fin n) : EReal := Ideal.div (Ideal.exp (f j - c)) (∑ i, Ideal.exp (f i - c))

/-- A softmax of real logits keeps their order. -/
theorem soft_lt {n : ℕ} {f : Fin n → EReal} (hf : ∀ j, Real' (f j)) {c : EReal} (hc : Real' c) (a b : Fin n) : soft f c a < soft f c b ↔ f a < f b := by
  obtain ⟨d, rfl⟩ := hc
  choose g hg using hf
  obtain rfl : f = fun j => (g j : EReal) := funext hg
  have hpos : 0 < ∑ i, Real.exp (g i - d) := Finset.sum_pos (fun i _ => Real.exp_pos _) ⟨a, Finset.mem_univ a⟩
  have e : ∀ j, soft (fun j => (g j : EReal)) d j = ((Real.exp (g j - d) * (1 / ∑ i, Real.exp (g i - d)) : ℝ) : EReal) := fun j => by
    unfold soft
    simp only [← EReal.coe_sub, Ideal.exp_coe]
    rw [coe_sum, Ideal.div_coe hpos.ne', ← EReal.coe_mul]
  rw [e, e, EReal.coe_lt_coe_iff, EReal.coe_lt_coe_iff, mul_lt_mul_iff_left₀ (by positivity), Real.exp_lt_exp]
  constructor <;> intro h <;> linarith

/-- The first of the greatest is the same of the logits and of their softmax. -/
theorem IsTop.soft {n : ℕ} {f : Fin n → EReal} (hf : ∀ j, Real' (f j)) {c : EReal} (hc : Real' c) {P : Fin n → Prop} {k : Fin n} (hk : IsTop f P k) :
    IsTop (Cert.Top.soft f c) P k :=
  ⟨hk.1, fun j hj => ⟨not_lt.mp fun h => absurd ((soft_lt hf hc k j).mp h) (not_lt.mpr (hk.2 j hj).1), fun hlt => (soft_lt hf hc j k).mpr ((hk.2 j hj).2 hlt)⟩⟩

/-! ## A run of lanes of a row -/

/-- The lanes from `o` on, those of `Q`. -/
def lanes {n : ℕ} (o : ℕ) (Q : Fin n → Prop) (j : Fin 128) : Prop := ∃ i : Fin n, Q i ∧ j.val = o + i.val

theorem IsTop.lanes {n o : ℕ} {f : Fin n → EReal} {Q : Fin n → Prop} {k : Fin n} (hk : IsTop f Q k) (ho : o + n ≤ 128) {L : Fin 128 → EReal}
    (hL : ∀ i : Fin n, L ⟨o + i.val, by omega⟩ = f i) : IsTop L (Cert.Top.lanes o Q) ⟨o + k.val, by omega⟩ := by
  refine ⟨⟨k, hk.1, rfl⟩, ?_⟩
  rintro j ⟨i, hi, hj⟩
  rw [show j = ⟨o + i.val, by omega⟩ from Fin.ext hj, hL, hL]
  refine ⟨(hk.2 i hi).1, fun hlt => (hk.2 i hi).2 ?_⟩
  have h : o + i.val < o + k.val := hlt
  show i.val < k.val
  omega

theorem sum_lanes {n o : ℕ} {f : Fin n → EReal} (ho : o + n ≤ 128) {a L : Fin 128 → EReal} (hL : ∀ i : Fin n, L ⟨o + i.val, by omega⟩ = f i)
    (ha : Masked a L (lanes o fun _ : Fin n => True)) {c : EReal} (hc : Real' c) : ∑ j, Ideal.exp (a j - c) = ∑ i, Ideal.exp (f i - c) := by
  refine (Fintype.sum_of_injective (fun i : Fin n => (⟨o + i.val, by omega⟩ : Fin 128)) (fun i i' h => Fin.ext ?_) _ _ (fun j hj => ?_) fun i => ?_).symm
  · have h' : o + i.val = o + i'.val := congrArg Fin.val h
    omega
  · rw [ha.2 j ?_, hc.bot_sub]
    rintro ⟨i, -, hi⟩
    exact hj ⟨i, Fin.ext hi.symm⟩
  · rw [ha.1 _ ⟨i, trivial, rfl⟩, hL]

end Cert.Top

end
-- ==== Proof.RouteRow.lean ====
/-
  The routing that the merging call computes of its normed rows: a group by its greatest logit, the two greatest of that group's eight
  experts, and their gates.
-/
module

public import proofs.«01_k».proof.Proof.Merge
public import proofs.«01_k».proof.Proof.Top
public import proofs.«01_k».proof.Proof.Gen.Kernel4Ideal.Value
public import Idealize.ShloMosaic.Lib.Pointwise.ElementwiseCore

@[expose] public section

noncomputable section

open Idealize.ShloMosaic Idealize.ShloMosaic.TcCoe Idealize.SL.Sem Idealize.ShloMosaic.ValueIdx

namespace Cert.Route

open Cert.Top Cert.Merge

/-! ## One row of the routing -/

/-- The logits of group `g`'s experts. -/
def inGroup (E : Fin 32 → EReal) (g : Fin 4) (i : Fin 8) : EReal := E ⟨8 * g.val + i.val, by omega⟩

def total {n : ℕ} (f : Fin n → EReal) (k : Fin n) : EReal := ∑ i, Ideal.exp (f i - f k)

/-- The gate of an expert whose share is `p`, of the group's share and the two experts' shares. -/
def share (s p p1 p2 : EReal) : EReal := Ideal.div (s * p) (p1 + p2)

/-- The row, of the group and the two experts chosen: their numbers, their gates, and zeros. -/
def routed (G : Fin 4 → EReal) (E : Fin 32 → EReal) (g : Fin 4) (k l : Fin 8) (q : Fin 128) : EReal :=
  let s := Ideal.div 1 (total G g)
  let p1 := Ideal.div 1 (total (inGroup E g) k)
  let p2 := Ideal.div (Ideal.exp (inGroup E g l - inGroup E g k)) (total (inGroup E g) k)
  if q.val = 0 then (((8 * g.val + k.val : ℤ) : ℝ) : EReal)
  else if q.val = 1 then (((8 * g.val + l.val : ℤ) : ℝ) : EReal)
  else if q.val = 2 then share s p1 p1 p2
  else if q.val = 3 then share s p2 p1 p2
  else 0

/-- The first of a row's greatest entries, and the first of the greatest but for that one. -/
def best {n : ℕ} (f : Fin (n + 1) → EReal) : Fin (n + 1) := (exists_top f (fun _ => True) ⟨0, trivial⟩).choose

theorem best_top {n : ℕ} (f : Fin (n + 1) → EReal) : IsTop f (fun _ => True) (best f) := (exists_top f (fun _ => True) ⟨0, trivial⟩).choose_spec

def nextBest {n : ℕ} (f : Fin (n + 2) → EReal) : Fin (n + 2) := (exists_top f (fun j => j ≠ best f) (exists_ne (best f))).choose

theorem nextBest_top {n : ℕ} (f : Fin (n + 2) → EReal) : IsTop f (fun j => j ≠ best f) (nextBest f) :=
  (exists_top f (fun j => j ≠ best f) (exists_ne (best f))).choose_spec

/-- The routing of a row of logits. -/
def routeRow (G : Fin 4 → EReal) (E : Fin 32 → EReal) : Fin 128 → EReal :=
  routed G E (best (n := 3) G) (best (n := 7) (inGroup E (best (n := 3) G))) (nextBest (n := 6) (inGroup E (best (n := 3) G)))

def logit {N : ℕ} (x : Fin 1024 → EReal) (w : FVec Ideal ⟨2, ![1024, N]⟩ .f32) (b : FVec Ideal ⟨1, ![N]⟩ .f32) (j : Fin N) : EReal :=
  (∑ k, x k * w (ix2 k j)) + b (ix1 j)

/-- The routing of every row. -/
def route (x : FVec Ideal ⟨2, ![32768, 1024]⟩ .f32) (wg : FVec Ideal ⟨2, ![1024, 4]⟩ .f32) (bg : FVec Ideal ⟨1, ![4]⟩ .f32)
    (we : FVec Ideal ⟨2, ![1024, 32]⟩ .f32) (be : FVec Ideal ⟨1, ![32]⟩ .f32) : FVec Ideal ⟨2, ![32768, 128]⟩ .f32 := fun i =>
  routeRow (logit (fun k => x (ix2 (i 0) k)) wg bg) (logit (fun k => x (ix2 (i 0) k)) we be) (i 1)

theorem logit_real {N : ℕ} {x : Fin 1024 → EReal} {w : FVec Ideal ⟨2, ![1024, N]⟩ .f32} {b : FVec Ideal ⟨1, ![N]⟩ .f32} (hx : ∀ k, Real' (x k))
    (hw : ∀ i, Real' (w i)) (hb : ∀ i, Real' (b i)) (j : Fin N) : Real' (logit x w b j) :=
  (Real'.sum fun k _ => (hx k).mul (hw _)).add (hb _)

/-! ## The call's operations on a row -/

theorem neg_inf : Ideal.ofBits .f32 0xFF800000#32 = ⊥ := by simp [Ideal.ofBits, Ideal.ieee]

theorem max_row {M N : ℕ} (x : FVec Ideal ⟨2, ![M, N]⟩ .f32) (h : (⟨2, ![M, N]⟩ : Shape).Reduces [1] ⟨1, ![M]⟩) (r : Fin M) :
    multiReduction .maximumf [1] ⟨1, ![M]⟩ x 0xFF800000#32 h (.inl rfl) rfl (ix1 r)
      = (Finset.univ : Finset (Fin N)).fold max ⊥ (fun j => (x (ix2 r j) : EReal)) := by
  refine (Ideal.multiReduction_maximumf_single x _ h (.inl rfl) rfl (ix1 r)).trans ?_
  show Finset.fold max (Ideal.ofBits .f32 0xFF800000#32) _ _ = _
  rw [neg_inf]
  exact congrArg (fun f => Finset.fold max (⊥ : EReal) f Finset.univ) (funext fun k => congrArg x (lift_row h r k))

theorem min_row {M N : ℕ} (x : IVec ⟨2, ![M, N]⟩ 32) (h : (⟨2, ![M, N]⟩ : Shape).Reduces [1] ⟨1, ![M]⟩) (r : Fin M) :
    multiReductionI .minsi [1] ⟨1, ![M]⟩ x 2147483647#32 h rfl (ix1 r)
      = (Finset.univ : Finset (Fin N)).fold IntOp.minsi 2147483647#32 (fun j => x (ix2 r j)) := by
  refine (multiReductionI_eq_fold .minsi x _ h rfl (ix1 r)).trans ((h.fold_filter_drop_single _ _ x (ix1 r)).trans ?_)
  exact congrArg (fun f => Finset.fold IntOp.minsi (2147483647#32) f Finset.univ) (funext fun k => congrArg x (lift_row h r k))

theorem below_four : ∀ j : Fin 128, IntOp.cmpi .slt (BitVec.ofNat 32 j.val) 4#32 = BitVec.ofBool (decide (j.val < 4)) := by decide +kernel

theorem in_group : ∀ (g : Fin 4) (j : Fin 128), IntOp.andi
    (IntOp.cmpi .sge (BitVec.ofNat 32 j.val) (IntOp.addi 4#32 (IntOp.muli (BitVec.ofNat 32 (0 + g.val)) 8#32)))
    (IntOp.cmpi .slt (BitVec.ofNat 32 j.val) (IntOp.addi (IntOp.addi 4#32 (IntOp.muli (BitVec.ofNat 32 (0 + g.val)) 8#32)) 8#32))
      = BitVec.ofBool (decide (4 + 8 * g.val ≤ j.val ∧ j.val < 12 + 8 * g.val)) := by decide +kernel

theorem same_lane (i j : Fin 128) : IntOp.cmpi .eq (BitVec.ofNat 32 j.val) (BitVec.ofNat 32 i.val) = BitVec.ofBool (decide (j = i)) := by
  show BitVec.ofBool (BitVec.ofNat 32 j.val == BitVec.ofNat 32 i.val) = _
  congr 1
  by_cases h : j = i
  · subst h; simp
  · have h' : BitVec.ofNat 32 j.val ≠ BitVec.ofNat 32 i.val := fun e => h (Fin.ext (by
      have := congrArg BitVec.toInt e
      rw [word_toInt, word_toInt] at this
      omega))
    simp [h, h']

theorem is_lane (n : Fin 128) (q : Fin 128) : IntOp.cmpi .eq (BitVec.ofNat 32 q.val) (BitVec.ofNat 32 n.val) = BitVec.ofBool (decide (q.val = n.val)) := by
  rw [same_lane]
  simp only [Fin.ext_iff]

theorem expert_word : ∀ (g : Fin 4) (k : Fin 8), (IntOp.subi (BitVec.ofNat 32 (4 + 8 * g.val + k.val)) 4#32).toInt = 8 * g.val + k.val := by decide +kernel

theorem select_bool {α : Type} (p : Prop) [Decidable p] (a b : α) : Scalar.select (BitVec.ofBool (decide p)) a b = if p then a else b := by
  by_cases h : p <;> simp [Scalar.select, h]

theorem select_equal {α : Type} (x y : EReal) (a b : α) : Scalar.select (FloatOps.cmpf (F := Ideal) (φ := .f32) .oeq x y) a b = if x = y then a else b :=
  select_bool (x = y) a b

open Cert.Kernel4Ideal Cert.Kernel4Ideal.Gen

theorem lane_lt {o n : ℕ} (h : o + n ≤ 128) (i : Fin n) : o + i.val < 128 := by omega

section Block

variable (v : FVec Ideal S512x128 .f32) (w u : IVec S512x128 32) (hw : ∀ r j, w (ix2 r j) = BitVec.ofNat 32 j.val) (hu : ∀ r j, u (ix2 r j) = 4#32)
  (r : Fin 512) (G : Fin 4 → EReal) (E : Fin 32 → EReal) (hG : ∀ i : Fin 4, v (ix2 r ⟨0 + i.val, lane_lt (o := 0) (n := 4) (Nat.le_of_ble_eq_true rfl) i⟩) = G i)
  (hE : ∀ i : Fin 32, v (ix2 r ⟨4 + i.val, lane_lt (o := 4) (n := 32) (Nat.le_of_ble_eq_true rfl) i⟩) = E i) (rG : ∀ i, Real' (G i)) (rE : ∀ i, Real' (E i))
  (g : Fin 4) (k l : Fin 8) (tg : IsTop G (fun _ => True) g) (tk : IsTop (inGroup E g) (fun _ => True) k) (tl : IsTop (inGroup E g) (fun j => j ≠ k) l)

include hw hu in
theorem groups_masked : Masked (fun j => k0_pay8 v w u (ix2 r j)) (fun j => v (ix2 r j)) (lanes 0 fun _ : Fin 4 => True) := by
  have h : ∀ j, k0_pay8 v w u (ix2 r j) = if j.val < 4 then v (ix2 r j) else Ideal.ofBits .f32 0xFF800000#32 := fun j => by
    show Scalar.select (IntOp.cmpi .slt (w (ix2 r j)) (u (ix2 r j))) _ _ = _
    rw [hw, hu, below_four]
    exact select_bool _ _ _
  constructor
  · rintro j ⟨i, -, hi⟩
    exact (h j).trans (if_pos (by omega))
  · intro j hj
    refine (h j).trans ((if_neg fun hlt => hj ⟨⟨j.val, hlt⟩, trivial, (Nat.zero_add _).symm⟩).trans neg_inf)

include hw hu hG tg in
theorem groups_max : k0_pay9 v w u (ix2 r 0) = G g := by
  unfold k0_pay9
  refine (column _ _ r).trans ((max_row _ _ r).trans ((fold_max (groups_masked v w u hw hu r) (tg.lanes (o := 0) (by omega) hG)).trans (hG g)))

include hw hu hG rG tg in
theorem groups_share : k0_pay10 v w u (ix2 r 0) = Ideal.div 1 (total G g) := by
  unfold k0_pay10
  refine congrArg₂ Ideal.div Ideal.ofBits_one_f32 ((column _ _ r).trans ((sum_row _ _ r).trans ?_))
  refine Eq.trans (Finset.sum_congr rfl fun j _ => ?_) (sum_lanes (o := 0) (by omega) hG (groups_masked v w u hw hu r) (rG g))
  exact congrArg (fun a : EReal => Ideal.exp (k0_pay8 v w u (ix2 r j) - a)) ((spread _ _ r j).trans (groups_max v w u hw hu r G hG g tg))

/-- The least lane that reaches the row's maximum. -/
theorem lane_row {a : FVec Ideal S512x128 .f32} {f : Fin 128 → EReal} {P : Fin 128 → Prop} (ha : Masked (fun j => a (ix2 r j)) f P) {i : Fin 128}
    (hi : IsTop f P i) (hf : f i ≠ ⊥) (y : FVec Ideal S512x1 .f32) (hy : y (ix2 r 0) = f i) (w : IVec S512x128 32) (hw : ∀ r j, w (ix2 r j) = BitVec.ofNat 32 j.val) :
    shapeCast S512x1 (multiReductionI .minsi [1] S512 (select (cmpf .oeq a (broadcastTo S512x128 y broadcasts_S512x1_S512x128)) w (broadcast S512x128 128#32))
      2147483647#32 reduces_S512x128_S512 rfl) shapeCasts_S512_S512x1 (ix2 r 0) = BitVec.ofNat 32 i.val := by
  refine (column _ _ r).trans ((min_row _ _ r).trans (first_lane ha hi hf _ fun j => ?_))
  show Scalar.select (FloatOps.cmpf (F := Ideal) (φ := .f32) .oeq (a (ix2 r j)) (broadcastTo S512x128 y broadcasts_S512x1_S512x128 (ix2 r j))) (w (ix2 r j)) 128#32 = _
  rw [spread, hy, hw]
  exact select_equal _ _ _ _

include hw hu hG rG tg in
theorem experts_masked : Masked (fun j => k0_pay11 v w u (ix2 r j)) (fun j => v (ix2 r j)) (lanes (4 + 8 * g.val) fun _ : Fin 8 => True) := by
  have h : ∀ j, k0_pay11 v w u (ix2 r j) = if 4 + 8 * g.val ≤ j.val ∧ j.val < 12 + 8 * g.val then v (ix2 r j) else Ideal.ofBits .f32 0xFF800000#32 := fun j => by
    have hl := lane_row r (groups_masked v w u hw hu r) (tg.lanes (o := 0) (by omega) hG) ((hG g).symm ▸ (rG g).ne_bot) (k0_pay9 v w u)
      ((groups_max v w u hw hu r G hG g tg).trans (hG g).symm) w hw
    unfold k0_pay11
    dsimp only
    rw [select_apply, andi_apply, cmpi_apply, cmpi_apply, spread, spread, hw]
    simp only [addi_apply, muli_apply, broadcast_apply]
    rw [hl, in_group]
    exact select_bool _ _ _
  constructor
  · rintro j ⟨i, -, hi⟩
    exact (h j).trans (if_pos (by omega))
  · intro j hj
    refine (h j).trans ((if_neg fun hlt => hj ⟨⟨j.val - (4 + 8 * g.val), by omega⟩, trivial, ?_⟩).trans neg_inf)
    show j.val = 4 + 8 * g.val + (j.val - (4 + 8 * g.val))
    omega

include hE in
theorem expert_lane (i : Fin 8) : v (ix2 r ⟨4 + 8 * g.val + i.val, by omega⟩) = inGroup E g i :=
  (congrArg v (Cert.Read.ix2_ext rfl (by show 4 + 8 * g.val + i.val = 4 + (8 * g.val + i.val); omega))).trans (hE ⟨8 * g.val + i.val, by omega⟩)

include hw hu hG hE rG tg tk in
theorem experts_max : k0_pay12 v w u (ix2 r 0) = inGroup E g k := by
  unfold k0_pay12
  exact (column _ _ r).trans ((max_row _ _ r).trans ((fold_max (experts_masked v w u hw hu r G hG rG g tg)
    (tk.lanes (o := 4 + 8 * g.val) (by omega) (expert_lane v r E hE g))).trans (expert_lane v r E hE g k)))

include hw hu hG hE rG rE tg tk in
theorem experts_total : k0_pay13 v w u (ix2 r 0) = total (inGroup E g) k := by
  unfold k0_pay13
  refine (column _ _ r).trans ((sum_row _ _ r).trans ?_)
  refine Eq.trans (Finset.sum_congr rfl fun j _ => ?_) (sum_lanes (o := 4 + 8 * g.val) (by omega) (expert_lane v r E hE g)
    (experts_masked v w u hw hu r G hG rG g tg) (rE _))
  exact congrArg (fun a : EReal => Ideal.exp (k0_pay11 v w u (ix2 r j) - a)) ((spread _ _ r j).trans (experts_max v w u hw hu r G E hG hE rG g k tg tk))

include hw hu hG hE rG rE tg tk in
theorem experts_lane : k0_pay14 v w u (ix2 r 0) = BitVec.ofNat 32 (4 + 8 * g.val + k.val) := by
  have e := expert_lane v r E hE g
  exact lane_row r (experts_masked v w u hw hu r G hG rG g tg) (tk.lanes (o := 4 + 8 * g.val) (by omega) (L := fun j => v (ix2 r j)) e) (fun h => (rE _).ne_bot ((e k).symm.trans h)) (k0_pay12 v w u)
    ((experts_max v w u hw hu r G E hG hE rG g k tg tk).trans (e k).symm) w hw

include hw hu hG hE rG rE tg tk in
theorem rest_masked : Masked (fun j => (select (k0_pay15 v w u) (broadcast S512x128 (Scalar.ofBits .f32 0xFF800000#32 : Ideal .f32)) (k0_pay11 v w u) : FVec Ideal S512x128 .f32) (ix2 r j))
    (fun j => v (ix2 r j)) (lanes (4 + 8 * g.val) fun i : Fin 8 => i ≠ k) := by
  have h : ∀ j : Fin 128, (select (k0_pay15 v w u) (broadcast S512x128 (Scalar.ofBits .f32 0xFF800000#32 : Ideal .f32)) (k0_pay11 v w u) : FVec Ideal S512x128 .f32) (ix2 r j)
      = if j = ⟨4 + 8 * g.val + k.val, by omega⟩ then Ideal.ofBits .f32 0xFF800000#32 else k0_pay11 v w u (ix2 r j) := fun j => by
    unfold k0_pay15
    dsimp only
    rw [select_apply, cmpi_apply, spread, hw, experts_lane v w u hw hu r G E hG hE rG rE g k tg tk,
      same_lane ⟨4 + 8 * g.val + k.val, by omega⟩ j]
    exact select_bool _ _ _
  have hm := experts_masked v w u hw hu r G hG rG g tg
  constructor
  · rintro j ⟨i, hik, hi⟩
    refine (h j).trans ((if_neg fun e => hik (Fin.ext ?_)).trans (hm.1 j ⟨i, trivial, hi⟩))
    have e' : j.val = 4 + 8 * g.val + k.val := congrArg Fin.val e
    omega
  · intro j hj
    refine (h j).trans ?_
    split
    · exact neg_inf
    · rename_i hne
      refine hm.2 j ?_
      rintro ⟨i, -, hi⟩
      exact hj ⟨i, fun e => hne (Fin.ext (by rw [hi, e])), hi⟩

/-- A gate at one place, of a share and two parts. -/
theorem gate_at {S : Shape} (s p p1 p2 : FVec Ideal S .f32) (i : S.Idx) (a b b1 b2 : EReal) (hs : s i = a) (hp : p i = b) (h1 : p1 i = b1) (h2 : p2 i = b2) :
    divf (mulf s p) (addf p1 p2) i = Ideal.div (a * b) (b1 + b2) := by
  rw [← hs, ← hp, ← h1, ← h2]
  rfl

include hw hu hG hE rG rE tg tk tl in
/-- What the call stores of a row whose logits are the groups' and the experts'. -/
theorem route_block (q : Fin 128) :
    k0_pay16 w (k0_pay10 v w u) (k0_pay11 v w u) (k0_pay12 v w u) (k0_pay13 v w u) (k0_pay14 v w u) (k0_pay15 v w u) (ix2 r q) = routed G E g k l q := by
  have e := expert_lane v r E hE g
  have hm := rest_masked v w u hw hu r G E hG hE rG rE g k tg tk
  have ht := tl.lanes (o := 4 + 8 * g.val) (by omega) (L := fun j => v (ix2 r j)) e
  have h2 : shapeCast S512x1 (multiReduction .maximumf [1] S512
      (select (k0_pay15 v w u) (broadcast S512x128 (Scalar.ofBits .f32 0xFF800000#32 : Ideal .f32)) (k0_pay11 v w u) : FVec Ideal S512x128 .f32)
      0xFF800000#32 reduces_S512x128_S512 (.inl rfl) rfl) shapeCasts_S512_S512x1 (ix2 r 0) = inGroup E g l :=
    (column _ _ r).trans ((max_row _ _ r).trans ((fold_max hm ht).trans (e l)))
  have i2 := lane_row r hm ht (fun h => (rE _).ne_bot ((e l).symm.trans h)) _ (h2.trans (e l).symm) w hw
  have i1 := experts_lane v w u hw hu r G E hG hE rG rE g k tg tk
  have m1 := experts_max v w u hw hu r G E hG hE rG g k tg tk
  have z1 := experts_total v w u hw hu r G E hG hE rG rE g k tg tk
  have s1 := groups_share v w u hw hu r G hG rG g tg
  unfold k0_pay16
  dsimp only
  simp only [shapeCast_self, select_apply, cmpi_apply, spread, hw, broadcast_apply]
  have sel : ∀ (n : Fin 128) (x y : EReal), Scalar.select (IntOp.cmpi .eq (BitVec.ofNat 32 q.val) (BitVec.ofNat 32 n.val)) x y = if q.val = n.val then x else y :=
    fun n x y => by rw [is_lane n q]; exact select_bool _ _ _
  have num : ∀ (y : IVec S512x1 32) (i : Fin 8), y (ix2 r 0) = BitVec.ofNat 32 (4 + 8 * g.val + i.val) →
      (sitofp .f32 (subi y (broadcast S512x1 4#32)) : FVec Ideal S512x1 .f32) (ix2 r 0) = (((8 * g.val + i.val : ℤ) : ℝ) : EReal) := fun y i hy => by
    show (((IntOp.subi (y (ix2 r 0)) 4#32).toInt : ℝ) : EReal) = _
    rw [hy, expert_word]
  have p1 : (divf (broadcast S512x1 (Scalar.ofBits .f32 0x3F800000#32)) (k0_pay13 v w u) : FVec Ideal S512x1 .f32) (ix2 r 0) = Ideal.div 1 (total (inGroup E g) k) :=
    congrArg₂ Ideal.div Ideal.ofBits_one_f32 z1
  have p2 : (divf (exp (subf (shapeCast S512x1 (multiReduction .maximumf [1] S512
      (select (k0_pay15 v w u) (broadcast S512x128 (Scalar.ofBits .f32 0xFF800000#32 : Ideal .f32)) (k0_pay11 v w u) : FVec Ideal S512x128 .f32)
      0xFF800000#32 reduces_S512x128_S512 (.inl rfl) rfl) shapeCasts_S512_S512x1) (k0_pay12 v w u))) (k0_pay13 v w u) : FVec Ideal S512x1 .f32) (ix2 r 0)
        = Ideal.div (Ideal.exp (inGroup E g l - inGroup E g k)) (total (inGroup E g) k) := by
    rw [divf_apply, exp_apply, subf_apply, h2, m1, z1]
    rfl
  have q0 : ∀ x y : EReal, Scalar.select (IntOp.cmpi .eq (BitVec.ofNat 32 q.val) 0#32) x y = if q.val = 0 then x else y := sel 0
  have q1 : ∀ x y : EReal, Scalar.select (IntOp.cmpi .eq (BitVec.ofNat 32 q.val) 1#32) x y = if q.val = 1 then x else y := sel 1
  have q2 : ∀ x y : EReal, Scalar.select (IntOp.cmpi .eq (BitVec.ofNat 32 q.val) 2#32) x y = if q.val = 2 then x else y := sel 2
  have q3 : ∀ x y : EReal, Scalar.select (IntOp.cmpi .eq (BitVec.ofNat 32 q.val) 3#32) x y = if q.val = 3 then x else y := sel 3
  have e1 := num _ k i1
  have e2 := num _ l i2
  unfold routed share
  refine (q0 _ _).trans (if_congr Iff.rfl e1 ?_)
  refine (q1 _ _).trans (if_congr Iff.rfl e2 ?_)
  refine (q2 _ _).trans (if_congr Iff.rfl ?_ ?_)
  · exact gate_at _ _ _ _ _ _ _ _ _ s1 p1 p1 p2
  refine (q3 _ _).trans (if_congr Iff.rfl ?_ Ideal.ofBits_zero_f32)
  exact gate_at _ _ _ _ _ _ _ _ _ s1 p2 p1 p2

end Block

/-- The logits the call takes of a normed row, real like its weights: what each splitting leaves over is zero. -/
theorem logits_block (x : FVec Ideal S512x1024 .f32) (a : FVec Ideal S1x1024 .f32) (b : FVec Ideal S1x1024 .f32) (wr : FVec Ideal S1024x128 .f32)
    (br : FVec Ideal S1x128 .f32) (r : Fin 512) (j : Fin 128) (hx : ∀ k, Real' (k0_pay5 x a b (ix2 r k))) (hw : ∀ k, Real' (wr (ix2 k j))) :
    k0_pay6 x a b wr br (ix2 r j) = ((∑ k, k0_pay5 x a b (ix2 r k) * wr (ix2 k j)) + br (ix2 0 j) : EReal) := by
  unfold k0_pay6
  simp only [shapeCast_self]
  refine congrArg₂ (fun a b : EReal => a + b) ?_ (spreadRow br _ r j)
  refine Eq.trans (congrArg₂ (fun a b : EReal => a + b) (Cert.Read.matmul2 (φ₁ := .bf16) (φ₂ := .bf16) dot_S512x1024_S1024x128_S512x128_1_0_0_1_n_n rfl _ _ r j)
    ((congrArg₂ (fun a b : EReal => a + b)
      ((Cert.Read.matmul2 (φ₁ := .bf16) (φ₂ := .bf16) dot_S512x1024_S1024x128_S512x128_1_0_0_1_n_n rfl _ _ r j).trans (Finset.sum_eq_zero fun k _ => ?_))
      ((Cert.Read.matmul2 (φ₁ := .bf16) (φ₂ := .bf16) dot_S512x1024_S1024x128_S512x128_1_0_0_1_n_n rfl _ _ r j).trans (Finset.sum_eq_zero fun k _ => ?_))).trans
      (add_zero (0 : EReal)))) (add_zero _)
  · show (k0_pay5 x a b (ix2 r k) * (wr (ix2 k j) - wr (ix2 k j)) : EReal) = 0
    rw [(hw k).self_sub, mul_zero]
  · show ((k0_pay5 x a b (ix2 r k) - k0_pay5 x a b (ix2 r k)) * wr (ix2 k j) : EReal) = 0
    rw [(hx k).self_sub, zero_mul]

end Cert.Route

end
-- ==== Proof.RouteCall.lean ====
/-
  The merging call's second result, point by point: the routing of its normed rows.
-/
module

public import proofs.«01_k».proof.Proof.RouteRow

@[expose] public section

noncomputable section

open Idealize.ShloMosaic Idealize.ShloMosaic.TcCoe Idealize.SL.Sem Idealize.ShloMosaic.ValueIdx

namespace Cert.Route

open Cert.Top Cert.Merge Cert.Kernel4Ideal Cert.Kernel4Ideal.Gen

/-- The logits of point `t`, of what its loads read. -/
def logitsAt (x0 : Vec Ideal S512x1024 .f32) (x1 : Vec Ideal S512x4096 .f32) (x2 x3 x4 x5 : Vec Ideal S512x256 .bf16) (x6 : Vec Ideal S4x256x1024 .bf16)
    (x7 : Vec Ideal S1024x1024 .bf16) (x8 : Vec Ideal S8x1024 .f32) (x9 : Vec Ideal S1024x128 .f32) (x10 : Vec Ideal S1x128 .f32) : FVec Ideal S512x128 .f32 :=
  k0_pay6 (k0_pay3
        (k0_pay1 (View.ld x1 (Rect.unit (s := S512x4096) ![0, 0] S512x1024.size inb_S512x4096_S512x1024_0_0)) x2
          (View.ld x6 (Rect.unit (s := S4x256x1024) ![0, 0, 0] S1x256x1024.size inb_S4x256x1024_S1x256x1024_0_0_0))
          (View.ld x1 (Rect.unit (s := S512x4096) ![0, 1024] S512x1024.size inb_S512x4096_S512x1024_0_1024)) x3
          (View.ld x6 (Rect.unit (s := S4x256x1024) ![1, 0, 0] S1x256x1024.size inb_S4x256x1024_S1x256x1024_1_0_0)))
        (k0_pay2 (View.ld x1 (Rect.unit (s := S512x4096) ![0, 2048] S512x1024.size inb_S512x4096_S512x1024_0_2048))) x4
        (View.ld x6 (Rect.unit (s := S4x256x1024) ![2, 0, 0] S1x256x1024.size inb_S4x256x1024_S1x256x1024_2_0_0))
        (View.ld x1 (Rect.unit (s := S512x4096) ![0, 3072] S512x1024.size inb_S512x4096_S512x1024_0_3072)) x5
        (View.ld x6 (Rect.unit (s := S4x256x1024) ![3, 0, 0] S1x256x1024.size inb_S4x256x1024_S1x256x1024_3_0_0)) x0 x7)
      (k0_pay4 (View.ld x8 (Rect.unit (s := S8x1024) ![0, 0] S1x1024.size inb_S8x1024_S1x1024_0_0)))
      (View.ld x8 (Rect.unit (s := S8x1024) ![1, 0] S1x1024.size inb_S8x1024_S1x1024_1_0)) x9 x10

/-- The number of each lane. -/
def laneNumber : IVec S512x128 32 := iota .tc S512x128 32 [1] iota_S512x128_d1_w32

/-- What the call stores of a point's logits. -/
def routeOf (L : FVec Ideal S512x128 .f32) : FVec Ideal S512x128 .f32 :=
  k0_pay16 laneNumber (k0_pay10 L laneNumber k0_pay7) (k0_pay11 L laneNumber k0_pay7) (k0_pay12 L laneNumber k0_pay7) (k0_pay13 L laneNumber k0_pay7)
    (k0_pay14 L laneNumber k0_pay7) (k0_pay15 L laneNumber k0_pay7)

theorem lane_number (r : Fin 512) (j : Fin 128) : laneNumber (ix2 r j) = BitVec.ofNat 32 j.val :=
  iota_single_apply .tc S512x128 32 1 iota_S512x128_d1_w32 (ix2 r j)

theorem routeOf_row (L : FVec Ideal S512x128 .f32) (r : Fin 512) (G : Fin 4 → EReal) (E : Fin 32 → EReal)
    (hG : ∀ i : Fin 4, L (ix2 r ⟨0 + i.val, lane_lt (o := 0) (n := 4) (Nat.le_of_ble_eq_true rfl) i⟩) = G i) (hE : ∀ i : Fin 32, L (ix2 r ⟨4 + i.val, lane_lt (o := 4) (n := 32) (Nat.le_of_ble_eq_true rfl) i⟩) = E i)
    (rG : ∀ i, Real' (G i)) (rE : ∀ i, Real' (E i)) (q : Fin 128) : routeOf L (ix2 r q) = routeRow G E q :=
  route_block L laneNumber k0_pay7 lane_number (fun _ _ => rfl) r G E hG hE rG rE _ _ _ (best_top (n := 3) G) (best_top (n := 7) _) (nextBest_top (n := 6) _) q

/-- The store of the routing, of what the loads read. -/
theorem out_route (c : Dev nD) (i : grid0.Coords) (arg1 : Memref sig .tc .vmem S512x1024 .f32) (harg1 : arg1.IsWhole)
    (arg2 : Memref sig .tc .vmem S512x4096 .f32) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x256x1024 .bf16) (harg7 : arg7.IsWhole)
    (arg8 : Memref sig .tc .vmem S1024x1024 .bf16) (harg8 : arg8.IsWhole) (arg9 : Memref sig .tc .vmem S8x1024 .f32) (harg9 : arg9.IsWhole)
    (arg10 : Memref sig .tc .vmem S1024x128 .f32) (harg10 : arg10.IsWhole) (arg11 : Memref sig .tc .vmem S1x128 .f32) (harg11 : arg11.IsWhole)
    (arg12 : Memref sig .tc .vmem S512x1024 .f32) (harg12 : arg12.IsWhole) (arg13 : Memref sig .tc .vmem S512x128 .f32) (harg13 : arg13.IsWhole)
    (x0 : Vec Ideal S512x1024 .f32) (x1 : Vec Ideal S512x4096 .f32) (x2 x3 x4 x5 : Vec Ideal S512x256 .bf16) (x6 : Vec Ideal S4x256x1024 .bf16)
    (x7 : Vec Ideal S1024x1024 .bf16) (x8 : Vec Ideal S8x1024 .f32) (x9 : Vec Ideal S1024x128 .f32) (x10 : Vec Ideal S1x128 .f32) :
    out0_A_12 c i arg1 harg1 arg2 harg2 arg3 harg3 arg4 harg4 arg5 harg5 arg6 harg6 arg7 harg7 arg8 harg8 arg9 harg9 arg10 harg10 arg11 harg11
      arg12 harg12 arg13 harg13 x0 x1 x2 x3 x4 x5 x6 x7 x8 x9 x10
    = routeOf (logitsAt x0 x1 x2 x3 x4 x5 x6 x7 x8 x9 x10) := by
  have hL : kernelRun0_A.sl.r_4 (F := Ideal) c arg1 harg1 arg2 harg2 arg3 harg3 arg4 harg4 arg5 harg5 arg6 harg6 arg7 harg7 arg8 harg8 arg9 harg9
      arg10 harg10 arg11 harg11 x0 x1 x2 x3 x4 x5 x6 x7 x8 x9 x10 = logitsAt x0 x1 x2 x3 x4 x5 x6 x7 x8 x9 x10 := by
    unfold logitsAt
    simp only [kernelRun0_A.sl.r, kernelRun0_A.sl.r_1, kernelRun0_A.sl.r_2, kernelRun0_A.sl.r_3, kernelRun0_A.sl.r_4, View.readAt_eq_ld, Memref.IsWhole.read_unread,
      View.ld_unit_zero (S := S512x1024) hz, View.ld_unit_zero (S := S512x256) hz,
      View.ld_unit_zero (S := S1024x1024) hz, View.ld_unit_zero (S := S1024x128) hz, View.ld_unit_zero (S := S1x128) hz]
  unfold out0_A_12
  rw [View.read_writes_junk_eq_canon]
  show View.canon ([⟨Rect.unit ![0, 0] S512x128.size inb_S512x128_S512x128_0_0, _⟩] : List (View.Piece (Elt Ideal) S512x128 .f32)) = _
  rw [View.canon_unit_zero hz, ← hL]
  unfold kernelRun0_A.sl.r_11 kernelRun0_A.sl.r_5 kernelRun0_A.sl.r_6 kernelRun0_A.sl.r_7 kernelRun0_A.sl.r_8 kernelRun0_A.sl.r_9 kernelRun0_A.sl.r_10
  rfl

variable (m : (ℓ : Loc nD τ sig) → Buf (Elt Ideal) ℓ) (ρ : Dev nD → PrngReg)

theorem blocksR : ∀ t : Fin cfg0.N, (win0_9.index t 0 = 0 ∧ win0_9.index t 1 = 0) ∧ (win0_10.index t 0 = 0 ∧ win0_10.index t 1 = 0)
    ∧ (win0_12.index t 0 = t.val ∧ win0_12.index t 1 = 0) :=
  (by decide +kernel : ∀ t : Fin grid0.N, (win0_9.index t 0 = 0 ∧ win0_9.index t 1 = 0) ∧ (win0_10.index t 0 = 0 ∧ win0_10.index t 1 = 0)
    ∧ (win0_12.index t 0 = t.val ∧ win0_12.index t 1 = 0))

theorem router_eq (c : Dev nD) (t : Fin cfg0.N) (k : Fin 1024) (j : Fin 128) :
    (iblk m c 9 t : Vec Ideal S1024x128 .f32) (ix2 k j) = V m c main_v1 (ix2 k j) := by
  obtain ⟨h0, h1⟩ := (blocksR t).1
  unfold iblk
  rw [View.read_apply]
  refine congrArg (V m c main_v1) (funext fun a => Fin.ext ?_)
  match a with
  | ⟨0, _⟩ => show win0_9.index t 0 * 1024 + 1 * k.val = k.val; rw [h0]; omega
  | ⟨1, _⟩ => show win0_9.index t 1 * 128 + 1 * j.val = j.val; rw [h1]; omega

theorem bias_eq (c : Dev nD) (t : Fin cfg0.N) (j : Fin 128) : (iblk m c 10 t : Vec Ideal S1x128 .f32) (ix2 0 j) = V m c main_v10 (ix2 (0 : Fin 1) j) := by
  obtain ⟨h0, h1⟩ := (blocksR t).2.1
  unfold iblk
  rw [View.read_apply]
  refine congrArg (V m c main_v10) (funext fun a => Fin.ext ?_)
  match a with
  | ⟨0, _⟩ => show win0_10.index t 0 * 1 + 1 * 0 = 0; rw [h0]
  | ⟨1, _⟩ => show win0_10.index t 1 * 128 + 1 * j.val = j.val; rw [h1]; omega

/-! ## The router's operands, which the host sets side by side and pads to the lanes -/

theorem router_term (c : Dev nD) : V m c main_v1 = (pad S1024x128 ![0, 0] ![0, 92] ![0, 0]
    (concatenate S1024x36 1 [⟨S1024x4, (m ((c : Thread nD τ).loc main_arg10) : FVec Ideal S1024x4 .f32)⟩, ⟨S1024x32, (m ((c : Thread nD τ).loc main_arg12) : FVec Ideal S1024x32 .f32)⟩]
      concatenates_S1024x4_S1024x32_S1024x36_d1)
    (sitofp .f32 (constantI S_ 32 0#32) : FVec Ideal S_ .f32) pads_S1024x36_S1024x128_000_0920 h_S_ : FVec Ideal S1024x128 .f32) := by
  show StableHlo.after _ _ _ = _
  simp only [hostOps0, hostOps0_1, hostOps0_2, hostOps0_3, hostOps0_4, hostOps0_5, hostOps0_6, List.flatten_cons, List.flatten_nil,
    List.append_nil, List.cons_append, List.nil_append]
  after_results <;> rfl

theorem bias_term (c : Dev nD) : V m c main_v10 = (shapeCast S1x128 (pad S128 ![0] ![92] ![0]
    (concatenate S36 0 [⟨S4, (m ((c : Thread nD τ).loc main_arg11) : FVec Ideal S4 .f32)⟩, ⟨S32, (m ((c : Thread nD τ).loc main_arg13) : FVec Ideal S32 .f32)⟩]
      concatenates_S4_S32_S36_d0)
    (sitofp .f32 (constantI S_ 32 0#32) : FVec Ideal S_ .f32) pads_S36_S128_0920 h_S_) shapeCasts_S128_S1x128 : FVec Ideal S1x128 .f32) := by
  show StableHlo.after _ _ _ = _
  simp only [hostOps0, hostOps0_1, hostOps0_2, hostOps0_3, hostOps0_4, hostOps0_5, hostOps0_6, List.flatten_cons, List.flatten_nil,
    List.append_nil, List.cons_append, List.nil_append]
  after_results <;> rfl

theorem group_weight (c : Dev nD) (k : Fin 1024) (i : Fin 4) : V m c main_v1 (ix2 k (⟨0 + i.val, by omega⟩ : Fin 128)) = m ((c : Thread nD τ).loc main_arg10) (ix2 k i) := by
  rw [router_term]
  refine (pad_apply_of_inside _ _ _ _ _ _ _ _ (ix2 k (⟨i.val, by omega⟩ : Fin 36)) fun a => ?_).trans
    (Cert.Read.cat2 _ _ k _ 0 _ rfl 0 rfl i (Nat.zero_add _))
  match a with
  | ⟨0, _⟩ => show k.val = 0 + k.val * (0 + 1); omega
  | ⟨1, _⟩ => show 0 + i.val = 0 + i.val * (0 + 1); omega

theorem expert_weight (c : Dev nD) (k : Fin 1024) (i : Fin 32) : V m c main_v1 (ix2 k (⟨4 + i.val, by omega⟩ : Fin 128)) = m ((c : Thread nD τ).loc main_arg12) (ix2 k i) := by
  rw [router_term]
  refine (pad_apply_of_inside _ _ _ _ _ _ _ _ (ix2 k (⟨4 + i.val, by omega⟩ : Fin 36)) fun a => ?_).trans
    (Cert.Read.cat2 _ _ k _ 1 _ rfl 4 rfl i rfl)
  match a with
  | ⟨0, _⟩ => show k.val = 0 + k.val * (0 + 1); omega
  | ⟨1, _⟩ => show 4 + i.val = 0 + (4 + i.val) * (0 + 1); omega

theorem row_read {N : ℕ} {α : Type} (x : (⟨1, ![N]⟩ : Shape).Idx → α) (h : (⟨1, ![N]⟩ : Shape).ShapeCasts ⟨2, ![1, N]⟩) (q : Fin N) :
    shapeCast ⟨2, ![1, N]⟩ x h (ix2 0 q) = x (ix1 q) :=
  shapeCast_apply x h _ _ (by
    rw [Shape.rowMajor_val_one, Shape.rowMajor_val_two]
    show q.val = 0 * N + q.val
    omega)

theorem group_bias (c : Dev nD) (i : Fin 4) : V m c main_v10 (ix2 (0 : Fin 1) (⟨0 + i.val, by omega⟩ : Fin 128)) = m ((c : Thread nD τ).loc main_arg11) (ix1 i) := by
  rw [bias_term]
  refine (row_read _ _ _).trans ((pad_apply_of_inside _ _ _ _ _ _ _ _ (ix1 (⟨i.val, by omega⟩ : Fin 36)) fun a => ?_).trans
    (concatenate_apply_piece (t := S36) 0 _ _ _ 0 (by simp) S4 _ rfl rfl 0 rfl (ix1 i) (fun e he => ?_) (Nat.zero_add _)))
  · match a with
    | ⟨0, _⟩ => show 0 + i.val = 0 + i.val * (0 + 1); omega
  · match e with
    | ⟨0, _⟩ => exact absurd rfl he

theorem expert_bias (c : Dev nD) (i : Fin 32) : V m c main_v10 (ix2 (0 : Fin 1) (⟨4 + i.val, by omega⟩ : Fin 128)) = m ((c : Thread nD τ).loc main_arg13) (ix1 i) := by
  rw [bias_term]
  refine (row_read _ _ _).trans ((pad_apply_of_inside _ _ _ _ _ _ _ _ (ix1 (⟨4 + i.val, by omega⟩ : Fin 36)) fun a => ?_).trans
    (concatenate_apply_piece (t := S36) 0 _ _ _ 1 (by simp) S32 _ rfl rfl 4 rfl (ix1 i) (fun e he => ?_) rfl))
  · match a with
    | ⟨0, _⟩ => show 4 + i.val = 0 + (4 + i.val) * (0 + 1); omega
  · match e with
    | ⟨0, _⟩ => exact absurd rfl he

/-! ## The call's whole second result -/

/-- The routing of the merged rows of the arguments. -/
def routeV (c : Dev nD) : FVec Ideal ⟨2, ![32768, 128]⟩ .f32 :=
  route (mergedV m c) (m ((c : Thread nD τ).loc main_arg10)) (m ((c : Thread nD τ).loc main_arg11)) (m ((c : Thread nD τ).loc main_arg12))
    (m ((c : Thread nD τ).loc main_arg13))

abbrev routeB (c : Dev nD) : Buf (Elt Ideal) ((c : Thread nD τ).loc main_v11_1) := routeV m c

section Real

variable (c : Dev nD) (hn : ∀ i, Real' (mergedV m c i)) (hg : ∀ i : S1024x4.Idx, Real' (m ((c : Thread nD τ).loc main_arg10) i))
  (hgb : ∀ i : S4.Idx, Real' (m ((c : Thread nD τ).loc main_arg11) i)) (he : ∀ i : S1024x32.Idx, Real' (m ((c : Thread nD τ).loc main_arg12) i))
  (heb : ∀ i : S32.Idx, Real' (m ((c : Thread nD τ).loc main_arg13) i))

include hn hg hgb he heb

theorem route_point (t : Fin cfg0.N) (r : Fin 512) (q : Fin 128) (r' : Fin 32768) (hr : r'.val = t.val * 512 + r.val) :
    routeOf (logitsAt (iblk m c 0 t) (X0_1 m c t) (iblk m c 2 t) (iblk m c 3 t) (iblk m c 4 t) (iblk m c 5 t) (iblk m c 6 t) (iblk m c 7 t) (iblk m c 8 t)
      (iblk m c 9 t) (iblk m c 10 t)) (ix2 r q) = routeV m c (ix2 r' q) := by
  have hx := fun k => point_eq m c t r k r' hr
  unfold outAt at hx
  have hl : ∀ (j : Fin 128), (∀ k : Fin 1024, Real' ((iblk m c 9 t : Vec Ideal S1024x128 .f32) (ix2 k j))) →
      logitsAt (iblk m c 0 t) (X0_1 m c t) (iblk m c 2 t) (iblk m c 3 t) (iblk m c 4 t) (iblk m c 5 t) (iblk m c 6 t) (iblk m c 7 t) (iblk m c 8 t)
        (iblk m c 9 t) (iblk m c 10 t) (ix2 r j)
      = ((∑ k, mergedV m c (ix2 r' k) * V m c main_v1 (ix2 k j)) + V m c main_v10 (ix2 (0 : Fin 1) j) : EReal) := fun j hw =>
    (logits_block _ _ _ _ _ r j (fun k => by rw [hx k]; exact hn _) hw).trans
      (congrArg₂ (fun a b : EReal => a + b) (Finset.sum_congr rfl fun k _ => congrArg₂ (fun a b : EReal => a * b) (hx k) (router_eq m c t k j)) (bias_eq m c t j))
  have wg : ∀ (i : Fin 4) (k : Fin 1024), (iblk m c 9 t : Vec Ideal S1024x128 .f32) (ix2 k (⟨0 + i.val, by omega⟩ : Fin 128)) = m ((c : Thread nD τ).loc main_arg10) (ix2 k i) :=
    fun i k => (router_eq m c t k _).trans (group_weight m c k i)
  have we : ∀ (i : Fin 32) (k : Fin 1024), (iblk m c 9 t : Vec Ideal S1024x128 .f32) (ix2 k (⟨4 + i.val, by omega⟩ : Fin 128)) = m ((c : Thread nD τ).loc main_arg12) (ix2 k i) :=
    fun i k => (router_eq m c t k _).trans (expert_weight m c k i)
  refine routeOf_row _ r _ _ (fun i => (hl _ fun k => by rw [wg]; exact hg _).trans ?_) (fun i => (hl _ fun k => by rw [we]; exact he _).trans ?_)
    (fun i => logit_real (fun k => hn _) hg hgb i) (fun i => logit_real (fun k => hn _) he heb i) q
  · exact congrArg₂ (fun a b : EReal => a + b) (Finset.sum_congr rfl fun k _ => congrArg (fun b : EReal => mergedV m c (ix2 r' k) * b) (group_weight m c k i)) (group_bias m c i)
  · exact congrArg₂ (fun a b : EReal => a + b) (Finset.sum_congr rfl fun k _ => congrArg (fun b : EReal => mergedV m c (ix2 r' k) * b) (expert_weight m c k i)) (expert_bias m c i)

theorem route_flushed (t : Fin cfg0.N) : (dats m 0 c).flushed 12 t = ((cfg0.win 12).blk t).view.read (Elt Ideal) (routeB m c) := by
  rw [Value.flushed12_A, out_route]
  have ht := t.isLt
  have hN := N64
  obtain ⟨-, -, h0, h1⟩ := blocksR t
  funext j
  have hj0 : (j 0).val < 512 := (j 0).isLt
  rw [View.read_apply]
  refine (congrArg (routeOf (logitsAt (iblk m c 0 t) (X0_1 m c t) (iblk m c 2 t) (iblk m c 3 t) (iblk m c 4 t) (iblk m c 5 t) (iblk m c 6 t) (iblk m c 7 t)
    (iblk m c 8 t) (iblk m c 9 t) (iblk m c 10 t))) (eq_ix2 (n0 := 512) (n1 := 128) j)).trans
    ((route_point m c hn hg hgb he heb t (j 0) (j 1) ⟨t.val * 512 + (j 0).val, by omega⟩ rfl).trans ?_)
  refine congrArg (routeV m c) (funext fun a => Fin.ext ?_)
  match a with
  | ⟨0, _⟩ => show t.val * 512 + (j 0).val = win0_12.index t 0 * 512 + 1 * (j 0).val; rw [h0]; omega
  | ⟨1, _⟩ => show (j 1).val = win0_12.index t 1 * 128 + 1 * (j 1).val; rw [h1]; omega

theorem route_final : (dats m 0 c).arrAt 12 cfg0.N = routeB m c :=
  (dats m 0 c).arrAt_eq_of_cover 12 (routeB m c) (fun t _ => route_flushed m c hn hg hgb he heb t) fun i => by
    have h0 : (i 0 : Nat) < 32768 := (i 0).isLt
    have h1 : (i 1 : Nat) < 128 := (i 1).isLt
    have hN := N64
    obtain ⟨t, ht⟩ : ∃ t : Fin cfg0.N, t.val = (i 0 : Nat) / 512 := ⟨⟨_, by omega⟩, rfl⟩
    obtain ⟨-, -, h20, h21⟩ := blocksR t
    refine ⟨t, flush0_12 _, ?_⟩
    show i ∈ ((View.whole main_v11_1).slice (win0_12.rect t)).set
    rw [View.set_slice_whole, Rect.mem_set_unit]
    intro a
    match a with
    | ⟨0, _⟩ =>
      show win0_12.index t 0 * 512 ≤ (i 0 : Nat) ∧ (i 0 : Nat) < win0_12.index t 0 * 512 + 512
      rw [h20, ht]; omega
    | ⟨1, _⟩ =>
      show win0_12.index t 1 * 128 ≤ (i 1 : Nat) ∧ (i 1 : Nat) < win0_12.index t 1 * 128 + 128
      rw [h21]; omega

end Real

end Cert.Route

end
-- ==== Proof.RouteHost.lean ====
/-
  The routing that the reference computes of its normed rows: two softmaxes, the top of one, the two tops of the other.
-/
module

public import proofs.«01_k».proof.Proof.RouteRow
public import proofs.«01_k».proof.Proof.Gen.Reference6Ideal.Run

@[expose] public section

noncomputable section

open Idealize.ShloMosaic Idealize.ShloMosaic.TcCoe Idealize.SL.Sem Idealize.ShloMosaic.ValueIdx

namespace Cert.Route

open Cert.Top Cert.Merge

/-! ## A softmax along the rows -/

theorem hostMax_row {M N : ℕ} (x : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel) (hb : (⟨0, ![]⟩ : Shape).BroadcastsInDim ⟨1, ![M]⟩ ![]) (r : Fin M)
    (k : Fin N) (hk : IsTop (fun j => (x (ix2 r j) : EReal)) (fun _ => True) k) :
    maximumf (broadcastInDim ⟨1, ![M]⟩ ![] hb (constant ⟨0, ![]⟩ .f32 0xFF800000#32))
      (Host.reduce FloatOps.maximumf x (constant ⟨0, ![]⟩ .f32 0xFF800000#32) h' hu) (ix1 r) = x (ix2 r k) := by
  have e : Host.reduce FloatOps.maximumf x (constant ⟨0, ![]⟩ .f32 0xFF800000#32) h' hu (ix1 r) = x (ix2 r k) := by
    rw [Host.reduce_eq_fold_single FloatOps.maximumf x _ h' h hu]
    show Finset.fold max (Ideal.ofBits .f32 0xFF800000#32) _ _ = _
    rw [neg_inf]
    refine Eq.trans ?_ (fold_max (f := fun j => (x (ix2 r j) : EReal)) (P := fun _ => True) ⟨fun _ _ => rfl, fun _ hj => absurd trivial hj⟩ hk)
    exact congrArg (fun f => Finset.fold max (⊥ : EReal) f Finset.univ) (funext fun k => congrArg x (lift_row h r k))
  show max (Ideal.ofBits .f32 0xFF800000#32) _ = _
  rw [e, neg_inf]
  exact max_eq_right bot_le

theorem hostExp_row {M N : ℕ} (x : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel) (hb : (⟨0, ![]⟩ : Shape).BroadcastsInDim ⟨1, ![M]⟩ ![])
    (hc : (⟨1, ![M]⟩ : Shape).BroadcastsInDim ⟨2, ![M, 1]⟩ ![0]) (hs : (⟨2, ![M, 1]⟩ : Shape).BroadcastsInDim ⟨2, ![M, N]⟩ ![0, 1]) (r : Fin M)
    (k : Fin N) (hk : IsTop (fun j => (x (ix2 r j) : EReal)) (fun _ => True) k) (j : Fin N) :
    Host.exp (subf x (broadcastInDim ⟨2, ![M, N]⟩ ![0, 1] hs (broadcastInDim ⟨2, ![M, 1]⟩ ![0] hc
      (maximumf (broadcastInDim ⟨1, ![M]⟩ ![] hb (constant ⟨0, ![]⟩ .f32 0xFF800000#32))
        (Host.reduce FloatOps.maximumf x (constant ⟨0, ![]⟩ .f32 0xFF800000#32) h' hu))))) (ix2 r j) = Ideal.exp (x (ix2 r j) - x (ix2 r k)) :=
  congrArg (fun a : EReal => Ideal.exp (x (ix2 r j) - a)) ((hostSpread _ hs r j).trans ((hostColumn _ hc r).trans (hostMax_row x h' h hu hb r k hk)))

theorem hostSoft_row {M N : ℕ} (e : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel)
    (hc : (⟨1, ![M]⟩ : Shape).BroadcastsInDim ⟨2, ![M, 1]⟩ ![0]) (hs : (⟨2, ![M, 1]⟩ : Shape).BroadcastsInDim ⟨2, ![M, N]⟩ ![0, 1]) (r : Fin M)
    (f : Fin N → EReal) (c : EReal) (he : ∀ j, e (ix2 r j) = Ideal.exp (f j - c)) (j : Fin N) :
    Host.divf e (broadcastInDim ⟨2, ![M, N]⟩ ![0, 1] hs (broadcastInDim ⟨2, ![M, 1]⟩ ![0] hc
      (Host.reduceAdd e (constant ⟨0, ![]⟩ .f32 0x00000000#32) h' hu))) (ix2 r j) = soft f c j :=
  congrArg₂ Ideal.div (he j) ((hostSpread _ hs r j).trans ((hostColumn _ hc r).trans ((hostSum_row e h' h hu r).trans (Finset.sum_congr rfl fun i _ => he i))))

theorem soft_self {n : ℕ} {f : Fin n → EReal} {k : Fin n} (h : Real' (f k)) : soft f (f k) k = Ideal.div 1 (total f k) :=
  congrArg (fun a => Ideal.div a _) h.exp_self

/-- A share of the sum of a row, scaled. -/
theorem hostGate {M N : ℕ} (x : FVec Ideal ⟨2, ![M, 1]⟩ .f32) (v : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel)
    (hc : (⟨1, ![M]⟩ : Shape).BroadcastsInDim ⟨2, ![M, 1]⟩ ![0]) (hs hs' : (⟨2, ![M, 1]⟩ : Shape).BroadcastsInDim ⟨2, ![M, N]⟩ ![0, 1]) (r : Fin M)
    (i : Fin N) (a p d : EReal) (ha : x (ix2 r 0) = a) (hp : v (ix2 r i) = p) (hd : (∑ j, v (ix2 r j) : EReal) = d) :
    Host.divf (mulf (broadcastInDim ⟨2, ![M, N]⟩ ![0, 1] hs' x) v) (broadcastInDim ⟨2, ![M, N]⟩ ![0, 1] hs (broadcastInDim ⟨2, ![M, 1]⟩ ![0] hc
      (Host.reduceAdd v (constant ⟨0, ![]⟩ .f32 0x00000000#32) h' hu))) (ix2 r i) = Ideal.div (a * p) d :=
  congrArg₂ Ideal.div (congrArg₂ (fun a b : EReal => a * b) ((hostSpread x hs' r i).trans ha) hp)
    ((hostSpread _ hs r i).trans ((hostColumn _ hc r).trans ((hostSum_row v h' h hu r).trans hd)))

/-! ## The expert's logits, gathered -/

theorem flat_row {N : ℕ} {α : Type} (x : (⟨2, ![N, 1]⟩ : Shape).Idx → α) (h : (⟨2, ![N, 1]⟩ : Shape).ShapeCasts ⟨1, ![N]⟩) (r : Fin N) :
    shapeCast ⟨1, ![N]⟩ x h (ix1 r) = x (ix2 r 0) :=
  shapeCast_apply x h _ _ (by
    rw [Shape.rowMajor_val_one, Shape.rowMajor_val_two]
    show r.val * 1 + 0 = r.val
    omega)

theorem small_toInt (n : ℕ) (h : n < 32768) : (BitVec.ofNat 32 n).toInt = n := by
  have e : n % 2 ^ 32 = n := Nat.mod_eq_of_lt (by omega)
  rw [BitVec.toInt_eq_toNat_cond, BitVec.toNat_ofNat, e, if_pos (by omega)]

/-- A position that is not negative is kept. -/
theorem keep (n : ℕ) (h : n < 32768) (w : BitVec 32) : Scalar.select (IntOp.cmpi .slt (BitVec.ofNat 32 n) 0#32) w (BitVec.ofNat 32 n) = BitVec.ofNat 32 n := by
  have e : IntOp.cmpi .slt (BitVec.ofNat 32 n) 0#32 = 0#1 := by
    show BitVec.ofBool ((BitVec.ofNat 32 n).slt 0#32) = 0#1
    rw [BitVec.slt_eq_decide, small_toInt n h]
    exact congrArg BitVec.ofBool (decide_eq_false (not_lt.mpr (Int.natCast_nonneg n)))
  rw [e]
  rfl

open Cert.Reference6Ideal Cert.Reference6Ideal.Gen Cert.Reference6Ideal.Value

theorem gather_group {α : Type} (x : S32768x4x8.Idx → α) (idx : IVec S32768x2 32) (r : Fin 32768) (g : Fin 4) (h0 : idx (ix2 r 0) = BitVec.ofNat 32 r.val)
    (h1 : idx (ix2 r 1) = BitVec.ofNat 32 g.val) (i : Fin 8) :
    Host.gather gather_S32768x4x8_S32768x2_S32768x8_1_01_n_n_01_1_118 x idx (ix2 r i) = x (ix3 r g i) := by
  unfold Host.gather
  refine congrArg x (funext fun a => Fin.ext ?_)
  match a with
  | ⟨0, _⟩ =>
    show min (idx _).toInt.toNat (32768 - 1) + 0 + 0 = r.val
    rw [show (idx _ : BitVec 32) = BitVec.ofNat 32 r.val from (congrArg idx (funext fun b => by match b with | ⟨0, _⟩ => rfl | ⟨1, _⟩ => rfl)).trans h0,
      small_toInt _ r.isLt]
    omega
  | ⟨1, _⟩ =>
    show min (idx _).toInt.toNat (4 - 1) + 0 + 0 = g.val
    rw [show (idx _ : BitVec 32) = BitVec.ofNat 32 g.val from (congrArg idx (funext fun b => by match b with | ⟨0, _⟩ => rfl | ⟨1, _⟩ => rfl)).trans h1,
      small_toInt _ (by omega)]
    omega
  | ⟨2, _⟩ =>
    show 0 + 0 + i.val = i.val
    omega

/-! ## A row of the reference's result -/

theorem number_word : ∀ (g : Fin 4) (k : Fin 8), (IntOp.addi (IntOp.muli (BitVec.ofNat 32 g.val) 8#32) (BitVec.ofNat 32 k.val)).toInt = 8 * g.val + k.val := by decide +kernel

section Row

variable (V0 : Valuation τ sig (Elt Ideal)) (r : Fin 32768) (G : Fin 4 → EReal) (E : Fin 32 → EReal)

/-- The reference's logits of the experts. -/
def expertLogits : FVec Ideal S32768x32 .f32 :=
  addf (Host.dotGeneral (φ₁ := .f32) (φ₂ := .f32) dot_S32768x1024_S1024x32_S32768x32_1_0_0_1_n_n none (res_main_v63 V0) (V0 (Proc.devRef .tc main_arg12)))
    (broadcastInDim S32768x32 ![0, 1] bcast_S1x32_S32768x32_0_1 (broadcastInDim S1x32 ![1] bcast_S32_S1x32_1 (V0 (Proc.devRef .tc main_arg13))))

variable (hG : ∀ j, (res_main_v67 V0 : FVec Ideal S32768x4 .f32) (ix2 r j) = G j) (hE : ∀ j, expertLogits V0 (ix2 r j) = E j)
  (rG : ∀ i, Real' (G i)) (rE : ∀ i, Real' (E i)) (g : Fin 4) (k l : Fin 8) (tg : IsTop G (fun _ => True) g) (tk : IsTop (inGroup E g) (fun _ => True) k)
  (tl : IsTop (inGroup E g) (fun j => j ≠ k) l)

include hG tg in
theorem host_groups (j : Fin 4) : (res_main_v78 V0 : FVec Ideal S32768x4 .f32) (ix2 r j) = soft G (G g) j := by
  obtain rfl : (fun j => (res_main_v67 V0 : FVec Ideal S32768x4 .f32) (ix2 r j)) = G := funext hG
  unfold res_main_v78
  refine hostSoft_row _ _ (by decide) _ _ _ r _ _ (fun j => ?_) j
  unfold res_main_v74
  exact hostExp_row _ _ (by decide) _ _ _ _ r g tg j

include hG rG tg in
theorem host_group : (Host.topK S32768x1 1 (FloatOps.cmpfTotal (F := Ideal) (φ := .f32) .gt) (res_main_v78 V0) sliceFits_S32768x4_S32768x1).1 (ix2 r 0) = Ideal.div 1 (total G g)
    ∧ (res_main_indices V0 : IVec S32768x1 32) (ix2 r 0) = BitVec.ofNat 32 g.val := by
  have h := topK_row (M := 32768) (N := 4) (K := 1) (res_main_v78 V0) sliceFits_S32768x4_S32768x1 (by omega) (fun _ => g) r (fun B hB i => by
    obtain rfl : i = 0 := Subsingleton.elim _ _
    refine sorted_one (soft G (G g)) B (fun a b => ?_) (by omega) (tg.soft rG (rG g))
    rw [hB, host_groups V0 r G hG g tg, host_groups V0 r G hG g tg]) 0
  exact ⟨h.1.trans ((host_groups V0 r G hG g tg g).trans (soft_self (rG g))), h.2⟩

include hG hE rG tg in
theorem host_experts (i : Fin 8) : (res_main_v99 V0 : FVec Ideal S32768x8 .f32) (ix2 r i) = inGroup E g i := by
  unfold res_main_v99
  refine (gather_group _ _ r g ?_ ?_ i).trans ?_
  · refine (Cert.Read.cat2 _ _ r 0 0 _ rfl 0 rfl (0 : Fin 1) rfl).trans ((hostColumn _ _ r).trans ?_)
    exact keep r.val r.isLt _
  · refine (Cert.Read.cat2 _ _ r 1 1 _ rfl 1 rfl (0 : Fin 1) rfl).trans ((hostColumn _ _ r).trans ?_)
    have e : (res_main_v85 V0 : IVec S32768 32) (ix1 r) = BitVec.ofNat 32 g.val := by
      unfold res_main_v85
      exact (flat_row _ _ r).trans (host_group V0 r G hG rG g tg).2
    show Scalar.select (IntOp.cmpi .slt ((res_main_v85 V0 : IVec S32768 32) (ix1 r)) 0#32) _ ((res_main_v85 V0 : IVec S32768 32) (ix1 r)) = _
    rw [e]
    exact keep g.val (by omega) _
  · refine (shapeCast_apply (expertLogits V0) _ (ix3 r g i) (ix2 r (⟨8 * g.val + i.val, by omega⟩ : Fin 32)) ?_).trans (hE _)
    rw [Shape.rowMajor_val_two, Shape.rowMajor_val_three]
    show r.val * 32 + (8 * g.val + i.val) = (r.val * 4 + g.val) * 8 + i.val
    omega

include hG hE rG tg tk in
theorem host_shares (j : Fin 8) : (res_main_v110 V0 : FVec Ideal S32768x8 .f32) (ix2 r j) = soft (inGroup E g) (inGroup E g k) j := by
  have he : (fun j => (res_main_v99 V0 : FVec Ideal S32768x8 .f32) (ix2 r j)) = inGroup E g := funext (host_experts V0 r G E hG hE rG g tg)
  unfold res_main_v110
  refine hostSoft_row _ _ (by decide) _ _ _ r _ _ (fun j => ?_) j
  unfold res_main_v106
  rw [← he] at tk ⊢
  exact hostExp_row _ _ (by decide) _ _ _ _ r k tk j

include hG hE rG rE tg tk tl in
theorem host_tops (i : Fin 2) : (res_main_values_17 V0 : FVec Ideal S32768x2 .f32) (ix2 r i) = soft (inGroup E g) (inGroup E g k) (![k, l] i)
    ∧ (Host.topK S32768x2 1 (FloatOps.cmpfTotal (F := Ideal) (φ := .f32) .gt) (res_main_v110 V0) sliceFits_S32768x8_S32768x2).2 (ix2 r i) = BitVec.ofNat 32 (![k, l] i).val := by
  have rF : ∀ i, Real' (inGroup E g i) := fun i => rE _
  have h := topK_row (M := 32768) (N := 8) (K := 2) (res_main_v110 V0) sliceFits_S32768x8_S32768x2 (by omega) ![k, l] r (fun B hB i => by
    refine sorted_two (soft (inGroup E g) (inGroup E g k)) B (fun a b => ?_) (by omega) (tk.soft rF (rF k)) (tl.soft rF (rF k)) i
    rw [hB, host_shares V0 r G E hG hE rG g k tg tk, host_shares V0 r G E hG hE rG g k tg tk]) i
  exact ⟨h.1.trans (host_shares V0 r G E hG hE rG g k tg tk _), h.2⟩

/-- The reference's result. -/
def hostRoute : FVec Ideal S32768x128 .f32 :=
  concatenate S32768x128 1 [⟨S32768x2, ((sitofp .f32 (addi (broadcastInDim S32768x2 ![0, 1] bcast_S32768x1_S32768x2_0_1 (muli (res_main_indices V0) (broadcastInDim S32768x1 ![] bcast_S_S32768x1 (constantI S_ 32 8#32)))) ((Host.topK S32768x2 1 (FloatOps.cmpfTotal .gt) (res_main_v110 V0) sliceFits_S32768x8_S32768x2).2))) : FVec Ideal S32768x2 .f32)⟩,
    ⟨S32768x2, ((Host.divf (mulf (broadcastInDim S32768x2 ![0, 1] bcast_S32768x1_S32768x2_0_1 ((Host.topK S32768x1 1 (FloatOps.cmpfTotal .gt) (res_main_v78 V0) sliceFits_S32768x4_S32768x1).1)) (res_main_values_17 V0)) (broadcastInDim S32768x2 ![0, 1] bcast_S32768x1_S32768x2_0_1 (broadcastInDim S32768x1 ![0] bcast_S32768_S32768x1_0 (Host.reduceAdd (res_main_values_17 V0) (constant S_ .f32 0x00000000#32) reducesTo_S32768x2_S32768_d1 h_S_)))) : FVec Ideal S32768x2 .f32)⟩,
    ⟨S32768x124, ((broadcastInDim S32768x124 ![] bcast_S_S32768x124 (constant S_ .f32 0x00000000#32)) : FVec Ideal S32768x124 .f32)⟩]
    concatenates_S32768x2_S32768x2_S32768x124_S32768x128_d1

include hG hE rG rE tg tk tl in
theorem host_row (q : Fin 128) : hostRoute V0 (ix2 r q) = routed G E g k l q := by
  have ht := host_tops V0 r G E hG hE rG rE g k l tg tk tl
  have hg := host_group V0 r G hG rG g tg
  have rk : Real' (inGroup E g k) := rE _
  have h0 : ∀ i : Fin 2, (q.val = i.val) → hostRoute V0 (ix2 r q) = (((8 * g.val + (![k, l] i).val : ℤ) : ℝ) : EReal) := fun i hi => by
    unfold hostRoute
    refine (Cert.Read.cat2 _ _ r q 0 _ rfl 0 rfl i ((Nat.zero_add _).trans hi.symm)).trans ?_
    refine Eq.trans ?_ (congrArg (fun n : ℤ => ((n : ℝ) : EReal)) (number_word g (![k, l] i)))
    refine congrArg (fun w : BitVec 32 => ((w.toInt : ℝ) : EReal)) (congrArg₂ IntOp.addi ((hostSpread _ _ r i).trans ?_) (ht i).2)
    exact congrArg (fun w => IntOp.muli w 8#32) hg.2
  have h1 : ∀ i : Fin 2, (q.val = 2 + i.val) → hostRoute V0 (ix2 r q) = share (Ideal.div 1 (total G g)) (soft (inGroup E g) (inGroup E g k) (![k, l] i))
      (soft (inGroup E g) (inGroup E g k) k) (soft (inGroup E g) (inGroup E g k) l) := fun i hi => by
    unfold hostRoute
    refine (Cert.Read.cat2 _ _ r q 1 _ rfl 2 rfl i hi.symm).trans ?_
    unfold share
    exact hostGate _ _ _ (by decide) _ _ _ _ r i _ _ _ hg.1 (ht i).1
      ((Fin.sum_univ_two _).trans (congrArg₂ (fun a b : EReal => a + b) (ht 0).1 (ht 1).1))
  rw [soft_self rk] at h1
  unfold routed
  dsimp only
  split
  · next h => exact h0 0 h
  split
  · next h => exact h0 1 h
  split
  · next h => exact (h1 0 h).trans (congrArg (fun a => share _ a _ _) (soft_self rk))
  split
  · next h => exact h1 1 h
  · next n0 n1 n2 n3 =>
    unfold hostRoute
    exact (Cert.Read.cat2 _ _ r q 2 _ rfl 4 rfl ⟨q.val - 4, by omega⟩ (by show 4 + (q.val - 4) = q.val; omega)).trans (Cert.Read.zeros _ _)

end Row

end Cert.Route

end
-- ==== Proof.Finite.lean ====
/-
  Real inputs leave real normed rows: no gate's denominator is zero, and no row's variance is negative.
-/
module

public import proofs.«01_k».proof.Proof.Merge
public import proofs.«01_k».proof.Proof.Top

@[expose] public section

noncomputable section

open Idealize.ShloMosaic Idealize.ShloMosaic.TcCoe Idealize.SL.Sem Idealize.ShloMosaic.ValueIdx

namespace Cert.Route

open Cert.Top Cert.Merge

/-- A magnitude below infinity is a real's. -/
theorem real_of_finite {x : EReal} (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  have hlt : max x (-x) < ⊤ := by
    by_contra hn
    unfold Ideal.cmp at h
    simp only [decide_eq_false hn] at h
    exact absurd h (by decide)
  induction x using EReal.rec with
  | bot => simp at hlt
  | coe r => exact ⟨r, rfl⟩
  | top => simp at hlt

theorem word_1024 : Ideal.ofBits .f32 0x44800000#32 = ((1024 : ℝ) : EReal) := by
  simp [Ideal.ofBits, Ideal.ieee]
  rw [← EReal.coe_mul]
  norm_num

theorem word_root : Real' (Ideal.ofBits .f32 0x3FB504F3#32) := by
  simp only [Ideal.ofBits, Ideal.ieee]
  rw [if_neg (by decide), if_neg (by decide)]
  exact ⟨_, rfl⟩

theorem word_small : ∃ e : ℝ, 0 < e ∧ Ideal.ofBits .f32 0x3727C5AC#32 = (e : EReal) := by
  simp only [Ideal.ofBits, Ideal.ieee]
  rw [if_neg (by decide), if_neg (by decide)]
  refine ⟨_, ?_, rfl⟩
  rw [if_neg (by decide)]
  positivity

theorem gate_real {z : EReal} (hz : Real' z) : Real' (gate z) := by
  obtain ⟨r, rfl⟩ := hz
  unfold gate
  rw [Ideal.ofBits_one_f32, ← EReal.coe_neg, Ideal.exp_coe, ← EReal.coe_one, ← EReal.coe_add]
  exact Real'.div ⟨1, rfl⟩ (by positivity)

theorem hidden_real {x : Fin 1024 → EReal} {z : Fin 4 → Fin 1024 → EReal} {o : Fin 4 → Fin 256 → EReal} {w : Fin 4 → Fin 256 → Fin 1024 → EReal}
    {v : Fin 1024 → Fin 1024 → EReal} (hx : ∀ j, Real' (x j)) (hz : ∀ n j, Real' (z n j)) (ho : ∀ n k, Real' (o n k)) (hw : ∀ n k j, Real' (w n k j))
    (hv : ∀ j q, Real' (v j q)) (q : Fin 1024) : Real' (hidden x z o w v q) := by
  have hb : ∀ n j, Real' (branch (z n j) (o n) (w n · j)) := fun n j =>
    (gate_real (hz n j)).mul (Real'.sum fun k _ => (ho n k).mul (hw n k j))
  exact (word_root.mul (hx q)).add (Real'.sum fun j _ => ((((hb 0 j).add (hb 1 j)).add (hb 2 j)).add (hb 3 j)).mul (hv j q))

theorem mean_real {h : Fin 1024 → EReal} (hh : ∀ k, Real' (h k)) : Real' (mean h) := by
  unfold mean
  rw [word_1024]
  exact (Real'.sum fun k _ => hh k).div (by norm_num)

theorem normed_real {h : Fin 1024 → EReal} {g b : EReal} (hh : ∀ k, Real' (h k)) (hg : Real' g) (hb : Real' b) (q : Fin 1024) : Real' (normed h g b q) := by
  have hd : ∀ k, Real' (h k - mean h) := fun k => (hh k).sub (mean_real hh)
  refine ((((hd q).mul ?_).mul hg).add hb)
  choose d ed using hd
  obtain ⟨e, he, ee⟩ := word_small
  have hm : mean (fun k => (h k - mean h) * (h k - mean h)) = (((∑ k, d k * d k) * (1 / 1024) : ℝ) : EReal) := by
    show Ideal.div (∑ k, (h k - mean h) * (h k - mean h)) _ = _
    rw [word_1024, Ideal.div_coe (by norm_num), EReal.coe_mul, ← coe_sum]
    refine congrArg (fun a : EReal => a * _) (Finset.sum_congr rfl fun k _ => ?_)
    rw [ed k, EReal.coe_mul]
  have hp : 0 ≤ (∑ k, d k * d k) * (1 / 1024) := mul_nonneg (Finset.sum_nonneg fun k _ => mul_self_nonneg _) (by norm_num)
  rw [hm, ee, ← EReal.coe_add, Ideal.rsqrt_coe, if_neg (by linarith), if_neg (by linarith)]
  exact ⟨_, rfl⟩

/-- The merged rows of real arrays. -/
theorem merged_real {x : FVec Ideal ⟨2, ![32768, 1024]⟩ .f32} {p : FVec Ideal ⟨2, ![32768, 6144]⟩ .f32} {o0 o1 o2 o3 : FVec Ideal ⟨2, ![32768, 256]⟩ .bf16}
    {w : FVec Ideal ⟨3, ![4, 256, 1024]⟩ .f32} {v : FVec Ideal ⟨2, ![1024, 1024]⟩ .f32} {g b : FVec Ideal ⟨1, ![1024]⟩ .f32}
    (hx : ∀ i, Real' (x i)) (hp : ∀ i, Real' (p i)) (h0 : ∀ i, Real' (o0 i)) (h1 : ∀ i, Real' (o1 i)) (h2 : ∀ i, Real' (o2 i)) (h3 : ∀ i, Real' (o3 i))
    (hw : ∀ i, Real' (w i)) (hv : ∀ i, Real' (v i)) (hg : ∀ i, Real' (g i)) (hb : ∀ i, Real' (b i)) (i : (⟨2, ![32768, 1024]⟩ : Shape).Idx) :
    Real' (merged x p o0 o1 o2 o3 w v g b i) := by
  refine normed_real (fun k => hidden_real (fun j => hx _) (fun n j => hp _) (fun n k => ?_) (fun n k j => hw _) (fun j q => hv _) k) (hg _) (hb _) _
  match n with
  | 0 => exact h0 _
  | 1 => exact h1 _
  | 2 => exact h2 _
  | 3 => exact h3 _

end Cert.Route

end
-- ==== Proof.Route.lean ====
/-
  The merging call's second result against its reference: the routing of the merged rows, of finite arguments.
-/
module

public import proofs.«01_k».proof.Proof.RouteCall
public import proofs.«01_k».proof.Proof.RouteHost
public import proofs.«01_k».proof.Proof.Finite
public import proofs.«01_k».proof.Proof.Gen.Kernel6.Frame
public import proofs.«01_k».proof.Proof.Gen.Kernel6Ideal.Value
public import proofs.«01_k».proof.Proof.Gen.Pre_inputs_finite

@[expose] public section

noncomputable section

open Idealize.ShloMosaic Idealize.ShloMosaic.TcCoe Idealize.SL.Sem Idealize.ShloMosaic.StableHlo Idealize.ShloMosaic.ValueIdx

namespace Cert.Route

open Cert.Top Cert.Merge

/-! ## The call is the one whose first result is the merge -/

theorem body_same : @Cert.Kernel6Ideal.cc0_merge_route Ideal _ _ = @Cert.Kernel4Ideal.cc0_merge_route Ideal _ _ := rfl

set_option maxHeartbeats 4000000 in
theorem row_same : Cert.Kernel6Ideal.defs₀ (F := Ideal) = Cert.Kernel4Ideal.defs₀ (F := Ideal) := by
  unfold Cert.Kernel6Ideal.defs₀ Cert.Kernel4Ideal.defs₀
  refine congrArg Defs.onTc ?_
  funext l x
  match l, x with
  | ⟨0, _⟩, (t, s) => exact rfl

theorem defs_same : Cert.Kernel6Ideal.defs (F := Ideal) = Cert.Kernel4Ideal.defs (F := Ideal) :=
  congrArg (Pipeline.defs Cert.Kernel4Ideal.pcfgs) row_same

theorem main_same : Cert.Kernel6Ideal.main (F := Ideal) = Cert.Kernel4Ideal.main (F := Ideal) := rfl

/-! ## The reference's logits -/

section Host

open Cert.Reference6Ideal Cert.Reference6Ideal.Gen Cert.Reference6Ideal.Value

variable (m : (ℓ : Loc nD τ sig) → Buf (Elt Ideal) ℓ) (c : Dev nD)

/-- The merged rows of the reference's arguments. -/
def rows : FVec Ideal S32768x1024 .f32 :=
  merged (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem rows_term : (res_main_v63 (launchContents m c) : FVec Ideal S32768x1024 .f32) = hostNormed (hostHidden (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)))
      (m ((c.tc : Thread nD τ).loc main_arg8)) (m ((c.tc : Thread nD τ).loc main_arg9)) := by
  unfold res_main_v63 res_main_v45 res_main_v43 res_main_v39 res_main_v6 hostNormed hostLess hostMean hostHidden hostGates
  rfl

theorem rows_eq (r : Fin 32768) (k : Fin 1024) : (res_main_v63 (launchContents m c) : FVec Ideal S32768x1024 .f32) (ix2 r k) = rows m c (ix2 r k) := by
  rw [rows_term]
  refine (normed_array _ _ _ r k).trans ?_
  exact congrArg (fun h => normed h _ _ k) (funext fun k => hidden_array _ _ _ _ _ _ _ _ r k)

theorem hostLogit {N : ℕ} (d : DotDims ⟨2, ![32768, 1024]⟩ ⟨2, ![1024, N]⟩ ⟨2, ![32768, N]⟩) (hd : d = DotDims.plain 32768 1024 N)
    (x : FVec Ideal ⟨2, ![32768, 1024]⟩ .f32) (w : FVec Ideal ⟨2, ![1024, N]⟩ .f32) (b : FVec Ideal ⟨1, ![N]⟩ .f32)
    (h : (⟨2, ![1, N]⟩ : Shape).BroadcastsInDim ⟨2, ![32768, N]⟩ ![0, 1]) (h' : (⟨1, ![N]⟩ : Shape).BroadcastsInDim ⟨2, ![1, N]⟩ ![1]) (r : Fin 32768)
    (y : Fin 1024 → EReal) (hy : ∀ k, x (ix2 r k) = y k) (j : Fin N) :
    addf (Host.dotGeneral d none x w) (broadcastInDim ⟨2, ![32768, N]⟩ ![0, 1] h (broadcastInDim ⟨2, ![1, N]⟩ ![1] h' b)) (ix2 r j) = logit y w b j :=
  congrArg₂ (fun a b : EReal => a + b)
    ((Cert.Read.dot2 d hd x w r j).trans (Finset.sum_congr rfl fun k _ => congrArg (fun a : EReal => a * w (ix2 k j)) (hy k)))
    ((Idealize.ShloMosaic.broadcastInDim_oneRow_apply _ _ r j).trans (hostRow b _ j))

theorem host_result (c' : Dev Cert.Kernel4Ideal.nD) (m0 : (ℓ : Loc Cert.Kernel4Ideal.nD Cert.Kernel4Ideal.τ Cert.Kernel4Ideal.sig) → Buf (Elt Ideal) ℓ)
    (hr : rows m c = mergedV m0 c') (hn : ∀ i, Real' (rows m c i))
    (eg : m ((c.tc : Thread nD τ).loc main_arg10) = m0 ((c' : Thread Cert.Kernel4Ideal.nD Cert.Kernel4Ideal.τ).loc Cert.Kernel4Ideal.main_arg10))
    (egb : m ((c.tc : Thread nD τ).loc main_arg11) = m0 ((c' : Thread Cert.Kernel4Ideal.nD Cert.Kernel4Ideal.τ).loc Cert.Kernel4Ideal.main_arg11))
    (ee : m ((c.tc : Thread nD τ).loc main_arg12) = m0 ((c' : Thread Cert.Kernel4Ideal.nD Cert.Kernel4Ideal.τ).loc Cert.Kernel4Ideal.main_arg12))
    (eeb : m ((c.tc : Thread nD τ).loc main_arg13) = m0 ((c' : Thread Cert.Kernel4Ideal.nD Cert.Kernel4Ideal.τ).loc Cert.Kernel4Ideal.main_arg13))
    (hg : ∀ i : S1024x4.Idx, Real' (m ((c.tc : Thread nD τ).loc main_arg10) i)) (hgb : ∀ i : S4.Idx, Real' (m ((c.tc : Thread nD τ).loc main_arg11) i))
    (he : ∀ i : S1024x32.Idx, Real' (m ((c.tc : Thread nD τ).loc main_arg12) i)) (heb : ∀ i : S32.Idx, Real' (m ((c.tc : Thread nD τ).loc main_arg13) i)) :
    hostRoute (launchContents m c) = routeV m0 c' := by
  unfold routeV
  rw [← hr, ← eg, ← egb, ← ee, ← eeb]
  funext j
  refine (congrArg (hostRoute _) (eq_ix2 (n0 := 32768) (n1 := 128) j)).trans ?_
  refine host_row (launchContents m c) (j 0) _ _ (fun i => ?_) (fun i => ?_) (fun i => logit_real (fun k => hn _) hg hgb i) (fun i => logit_real (fun k => hn _) he heb i)
    _ _ _ (best_top (n := 3) _) (best_top (n := 7) _) (nextBest_top (n := 6) _) (j 1)
  · unfold res_main_v67
    exact hostLogit _ rfl _ _ _ _ _ (j 0) _ (rows_eq m c (j 0)) i
  · unfold expertLogits
    exact hostLogit _ rfl _ _ _ _ _ (j 0) _ (rows_eq m c (j 0)) i

end Host

/-! ## The claim -/

set_option maxHeartbeats 4000000 in
theorem algebraic : Cert.algebraic_Kernel6Ideal_Reference6Ideal_pre_inputs_finite := by
  intro m ρ m' ρ' hpre hagree
  have hp := fun c => hpre c
  have hreal : ∀ c, (∀ i, Real' (mergedV m c i)) ∧ (∀ i : Cert.Kernel4Ideal.S1024x4.Idx, Real' (m ((c : Thread Cert.Kernel4Ideal.nD Cert.Kernel4Ideal.τ).loc Cert.Kernel4Ideal.main_arg10) i))
      ∧ (∀ i : Cert.Kernel4Ideal.S4.Idx, Real' (m ((c : Thread Cert.Kernel4Ideal.nD Cert.Kernel4Ideal.τ).loc Cert.Kernel4Ideal.main_arg11) i))
      ∧ (∀ i : Cert.Kernel4Ideal.S1024x32.Idx, Real' (m ((c : Thread Cert.Kernel4Ideal.nD Cert.Kernel4Ideal.τ).loc Cert.Kernel4Ideal.main_arg12) i))
      ∧ ∀ i : Cert.Kernel4Ideal.S32.Idx, Real' (m ((c : Thread Cert.Kernel4Ideal.nD Cert.Kernel4Ideal.τ).loc Cert.Kernel4Ideal.main_arg13) i) := fun c => by
    obtain ⟨f0, f1, f2, f3, f4, f5, f6, f7, f8, f9, f10, f11, f12, f13⟩ := hp c
    refine ⟨merged_real (fun i => real_of_finite (congrFun f0 i)) (fun i => real_of_finite (congrFun f1 i)) (fun i => real_of_finite (congrFun f2 i))
      (fun i => real_of_finite (congrFun f3 i)) (fun i => real_of_finite (congrFun f4 i)) (fun i => real_of_finite (congrFun f5 i))
      (fun i => real_of_finite (congrFun f6 i)) (fun i => real_of_finite (congrFun f7 i)) (fun i => real_of_finite (congrFun f8 i))
      (fun i => real_of_finite (congrFun f9 i)), fun i => real_of_finite (congrFun f10 i), fun i => real_of_finite (congrFun f11 i),
      fun i => real_of_finite (congrFun f12 i), fun i => real_of_finite (congrFun f13 i)⟩
  refine ⟨fun c => routeB m c, ?_, ?_⟩
  · rw [defs_same, main_same]
    exact (θ_run Kernel4Ideal.defs _ _).mono (fun _ h c => ⟨(h c).2.1.trans (route_final m c (hreal c).1 (hreal c).2.1 (hreal c).2.2.1 (hreal c).2.2.2.1 (hreal c).2.2.2.2), (h c).2.2⟩)
      (Kernel4Ideal.Value.run_blocks (F := Ideal) m ρ)
  · refine (θ_run Reference6Ideal.defs _ _).mono (fun _ h c => ⟨(h c).1.trans ?_, (h c).2⟩) (Reference6Ideal.Value.run (F := Ideal) m' ρ')
    obtain ⟨e0, e1, e2, e3, e4, e5, e6, e7, e8, e9, e10, e11, e12, e13⟩ := hagree c
    have er : rows m' c = mergedV m c := by
      unfold rows mergedV
      rw [e0, e1, e2, e3, e4, e5, e6, e7, e8, e9]
    obtain ⟨hn, hg, hgb, he, heb⟩ := hreal c
    exact host_result m' c c m er (er ▸ hn) e10 e11 e12 e13 (e10 ▸ hg) (e11 ▸ hgb) (e12 ▸ he) (e13 ▸ heb)

end Cert.Route

end
-- ==== Proof.Experts.lean ====
/-
  The experts' call: each block of 512 rows goes through the gated network of the expert the first table names for it; from the
  block the second table counts on, the rows are zero. Both tables are read at run time: the first steers the weights' windows, the
  second the body's branches. Here: the call's run for any values, from any tables that name experts there are.
-/
module

public import proofs.«01_k».proof.Defs
public import proofs.«01_k».proof.Proof.Gen.Kernel5Ideal.Launch
public import proofs.«01_k».proof.Proof.Gen.Kernel5Ideal.Skeleton
public import proofs.«01_k».proof.Proof.Gen.Kernel5
public import proofs.«01_k».proof.Proof.Gen.Reference5Ideal.Run
public import Idealize.ShloMosaic.Lib.Pipeline.Quiescent
public import Idealize.ShloMosaic.Lib.Pipeline.Kit
public import Idealize.ShloMosaic.Lib.Pipeline.FrameBody
public import Idealize.ShloMosaic.Lib.Pipeline.TableIdle
public import Idealize.ShloMosaic.Lib.VecWindow
public import Idealize.ShloMosaic.Lib.Exec
public import Idealize.ShloMosaic.Lib.Tactic
public import Idealize.ShloMosaic.Lib.Claim
public import Idealize.ShloMosaic.Adequacy
public import Idealize.ShloMosaic.Init

@[expose] public section

set_option maxRecDepth 16384

noncomputable section

namespace Cert.Experts

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables -/

/-- The experts' table and the count, whole. -/
abbrev tabE : Memref sig .tc .smem S160 .i32 := Memref.whole main_arg0
abbrev tabN : Memref sig .tc .smem S1 .i32 := Memref.whole main_arg1

/-- The count as the body loads it. -/
abbrev count (T : S1.Idx → BitVec 32) : BitVec 32 :=
  View.readAt (Elt F) tabN.view (Rect.unit (s := S1) ![0] S1.size inb_S1_S1_0).toLoadRect T (Shape.Idx.first (numel1_S1.symm ▸ Nat.one_pos))

/-- The bit widened and tested is the bit. -/
theorem tested (b : BitVec 1) : Scalar.cmpi .ne (Scalar.extui b) 0#32 = b := by revert b; decide

theorem bit_iff (b : Bool) : BitVec.ofBool b = 1#1 ↔ b = true := by cases b <;> decide

/-- The point is counted where its number is below the count; -/
theorem cond1_iff (i : grid0.Coords) (v : BitVec 32) : k0_cond1 i v = 1#1 ↔ (BitVec.ofNat 32 (i 0).val).toInt < v.toInt := by
  show Scalar.cmpi .ne (Scalar.extui (Scalar.cmpi .slt (BitVec.ofNat 32 (i 0).val) v)) 0#32 = 1#1 ↔ _
  rw [tested]
  exact (bit_iff _).trans BitVec.slt_iff_toInt_lt

/-- the body takes one of its two branches, whichever the count. -/
theorem cond2_eq (i : grid0.Coords) (v : BitVec 32) : k0_cond2 i v = 1#1 ↔ ¬ k0_cond1 i v = 1#1 := by
  rw [cond1_iff, not_lt]
  show Scalar.cmpi .ne (Scalar.extui (Scalar.cmpi .sge (BitVec.ofNat 32 (i 0).val) v)) 0#32 = 1#1 ↔ _
  rw [tested]
  exact (bit_iff _).trans BitVec.sle_iff_toInt_le

/-! ## The body -/

/-- What the body leaves of the blocks: the expert's output where the point is counted, zeros past it. -/
def left (i : grid0.Coords) (v : BitVec 32) (x : Vec F S512x1024 .bf16) (g u : Vec F S1x1x1024x512 .f32) (d : Vec F S1x1x512x1024 .f32) :
    Vec F S512x1024 .f32 :=
  if k0_cond1 i v = 1#1 then k0_pay1 x g u d else k0_pay2

set_option maxHeartbeats 4000000 in
/-- The body, on whole buffers, by its two branches. -/
theorem body_run (c : Dev nD) (i : grid0.Coords) (arg3 : Memref sig .tc .vmem S512x1024 .bf16) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S512x1024 .f32) (harg7 : arg7.IsWhole)
    (T0 : S160.Idx → BitVec 32) (T1 : S1.Idx → BitVec 32)
    (x : Vec F S512x1024 .bf16) (g u : Vec F S1x1x1024x512 .f32) (d : Vec F S1x1x512x1024 .f32) (K : PUnit → sProp 𝕄) :
    iprop((arg3.view.loc (c : Thread nD τ) ↦[arg3.view.set]{fullShare} arg3.view.rep x)
        ∗ (arg4.view.loc (c : Thread nD τ) ↦[arg4.view.set]{fullShare} arg4.view.rep g)
        ∗ (arg5.view.loc (c : Thread nD τ) ↦[arg5.view.set]{fullShare} arg5.view.rep u)
        ∗ (arg6.view.loc (c : Thread nD τ) ↦[arg6.view.set]{fullShare} arg6.view.rep d)
        ∗ (tabE.view.loc (c : Thread nD τ) ↦{fullShare.right} T0)
        ∗ (tabN.view.loc (c : Thread nD τ) ↦{fullShare.right} T1)
        ∗ (∃ o, owns (c : Thread nD τ) arg7 fullShare o)
        ∗ (iprop((arg3.view.loc (c : Thread nD τ) ↦[arg3.view.set]{fullShare} arg3.view.rep x)
            ∗ (arg4.view.loc (c : Thread nD τ) ↦[arg4.view.set]{fullShare} arg4.view.rep g)
            ∗ (arg5.view.loc (c : Thread nD τ) ↦[arg5.view.set]{fullShare} arg5.view.rep u)
            ∗ (arg6.view.loc (c : Thread nD τ) ↦[arg6.view.set]{fullShare} arg6.view.rep d)
            ∗ (tabE.view.loc (c : Thread nD τ) ↦{fullShare.right} T0)
            ∗ (tabN.view.loc (c : Thread nD τ) ↦{fullShare.right} T1)
            ∗ owns (c : Thread nD τ) arg7 fullShare (left i (count (F := F) T1) x g u d)) -∗ K ⟨⟩))
      ⊢ wp frame (wpE (defs₀ (F := F)) Variants.none c none) Set.univ
        (cc0_expert_ffn i tabE (Memref.isWhole_whole _) tabN (Memref.isWhole_whole _) arg3 harg3 arg4 harg4 arg5 harg5 arg6 harg6 arg7 harg7) K := by
  unfold owns left
  rw [cc0_expert_ffn_eq_skeleton]; unfold cc0_expert_ffn_skel
  have hT0 : tabE.IsWhole := Memref.isWhole_whole _
  have hT1 : tabN.IsWhole := Memref.isWhole_whole _
  iintro ⟨H0, H1, H2, H3, HT0, HT1, ⟨%o, %f, -, H4⟩, Hk⟩
  by_cases h₁ : k0_cond1 i (count (F := F) T1) = 1#1
  · have h₂ : ¬ k0_cond2 i (count (F := F) T1) = 1#1 := fun h => (cond2_eq i _).mp h h₁
    rw [if_pos h₁]
    sl_exec! (disch := first | exact h₁ | exact h₂)
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; swap; · iexact H4
    ipureintro
    delta body_run.sl.H4_1
    refine (View.read_writes_full (s := S512x1024) arg7.view _ (off := ![0, 0]) inb_S512x1024_S512x1024_0_0 _ []).trans ?_
    rw [View.readAt_rep_full, View.readAt_rep_full, View.readAt_rep_full, View.readAt_rep_full]
  · have h₂ : k0_cond2 i (count (F := F) T1) = 1#1 := (cond2_eq i _).mpr h₁
    rw [if_neg h₁]
    sl_exec! (disch := first | exact h₁ | exact h₂)
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; swap; · iexact H4
    ipureintro
    exact View.read_writes_full _ _ _ _ _

/-! ## The data at a launch memory whose table names experts there are -/

variable (m : (ℓ : Loc nD τ sig) → Buf (Elt F) ℓ) (ρ : Dev nD → PrngReg)

/-- The tables as the launch memory holds them. -/
def tables : pre0.Contents (Elt F) := fun j => m (((0 : Dev nD) : Thread nD τ).loc (pre0.ref j))

/-- The table names experts there are. -/
def Named : Prop := ∀ i : S160.Idx, ((m (((0 : Dev nD) : Thread nD τ).loc main_arg0) : S160.Idx → BitVec 32) i).toNat < 32

variable (h : Named m)

include h in
theorem named_at (r : Rect S160) (h1 : r.shape.numel = 1) : (((tables m).at 0 r h1 : BitVec 32)).toNat < 32 := h _

include h in
theorem ok : ok0 (tables m) := by
  refine ⟨fun i => ⟨fun a => ?_, .inl rfl⟩, fun i => ⟨fun a => ?_, .inl rfl⟩, fun i => ⟨fun a => ?_, .inl rfl⟩⟩ <;>
  · have hn := named_at m h (Rect.unit (s := S160) (k0_off1 i) S1.size (k0_off1_inb i)) numel1_S1
    match a with
    | ⟨0, _⟩ => show (0 + 1) * 1 ≤ 2; omega
    | ⟨1, _⟩ => show (_ + 1) * 1 ≤ 32; rw [Nat.mul_one]; exact hn
    | ⟨2, _⟩ => exact Nat.le_of_eq (Nat.one_mul _)
    | ⟨3, _⟩ => exact Nat.le_of_eq (Nat.one_mul _)

/-- The pipeline at those tables. -/
def adm : (pcfg0 (F := F)).Adm := ⟨tables m, ok m h⟩
abbrev cfgT : Pipeline.Cfg sig Λ₀ := cfg0 (F := F) (adm m h)

/-- Point `t`'s coordinates, and the windows' buffers there. -/
abbrev pt (t : Fin (cfgT m h).N) : (cfgT m h).grid.Coords := (cfgT m h).grid.coords t
abbrev stg0 (t : Fin (cfgT m h).N) : Memref sig .tc .vmem S512x1024 .bf16 := ((cfgT m h).win (0 : Fin 5)).stage ((cfgT m h).slots t (0 : Fin 5))
abbrev stg1 (t : Fin (cfgT m h).N) : Memref sig .tc .vmem S1x1x1024x512 .f32 := ((cfgT m h).win (1 : Fin 5)).stage ((cfgT m h).slots t (1 : Fin 5))
abbrev stg2 (t : Fin (cfgT m h).N) : Memref sig .tc .vmem S1x1x1024x512 .f32 := ((cfgT m h).win (2 : Fin 5)).stage ((cfgT m h).slots t (2 : Fin 5))
abbrev stg3 (t : Fin (cfgT m h).N) : Memref sig .tc .vmem S1x1x512x1024 .f32 := ((cfgT m h).win (3 : Fin 5)).stage ((cfgT m h).slots t (3 : Fin 5))
abbrev stg4 (t : Fin (cfgT m h).N) : Memref sig .tc .vmem S512x1024 .f32 := ((cfgT m h).win (4 : Fin 5)).stage ((cfgT m h).slots t (4 : Fin 5))

/-- Window `w`'s block at point `t`, read off its array at launch. -/
def blkOf (c : Dev nD) (w : Fin (cfgT m h).W) (t : Fin (cfgT m h).N) : (((cfgT m h).win w).xblock (pt m h t)).Idx → Elt F ((cfgT m h).win w).elt :=
  (((cfgT m h).win w).blk t).view.read (Elt F) (m (((cfgT m h).win w).arr.view.loc (c : Thread nD τ)))

/-- What point `t` leaves of its blocks. -/
def leftAt (c : Dev nD) (t : Fin (cfgT m h).N) : Vec F S512x1024 .f32 :=
  left (pt m h t) (count (F := F) (tables m 1)) (blkOf m h c (0 : Fin 5) t) (blkOf m h c (1 : Fin 5) t) (blkOf m h c (2 : Fin 5) t) (blkOf m h c (3 : Fin 5) t)

/-- The tables, held by the body all along. -/
def held (c : Dev nD) : sProp 𝕄 :=
  iprop((tabE.view.loc (c : Thread nD τ) ↦{fullShare.right} tables m 0) ∗ (tabN.view.loc (c : Thread nD τ) ↦{fullShare.right} tables m 1))

/-- The proof data. -/
def data (_ : Fin 1) (c : Dev nD) : Dat τ (Elt F) Unit ℕ (UR sig nD τ) ℕ (cfgT m h) c where
  A w := m (((cfgT m h).win w).arr.view.loc (c : Thread nD τ))
  after w t := match w with
    | ⟨0, _⟩ => blkOf m h c (0 : Fin 5) t
    | ⟨1, _⟩ => blkOf m h c (1 : Fin 5) t
    | ⟨2, _⟩ => blkOf m h c (2 : Fin 5) t
    | ⟨3, _⟩ => blkOf m h c (3 : Fin 5) t
    | ⟨4, _⟩ => leftAt m h c t
  Φ _ := held m c
  q _ := fullShare
  owed _ := 0

theorem after0 (c : Dev nD) (t : Fin (cfgT m h).N) : (data m h 0 c).after (0 : Fin 5) t = blkOf m h c (0 : Fin 5) t := rfl
theorem after1 (c : Dev nD) (t : Fin (cfgT m h).N) : (data m h 0 c).after (1 : Fin 5) t = blkOf m h c (1 : Fin 5) t := rfl
theorem after2 (c : Dev nD) (t : Fin (cfgT m h).N) : (data m h 0 c).after (2 : Fin 5) t = blkOf m h c (2 : Fin 5) t := rfl
theorem after3 (c : Dev nD) (t : Fin (cfgT m h).N) : (data m h 0 c).after (3 : Fin 5) t = blkOf m h c (3 : Fin 5) t := rfl
theorem after4 (c : Dev nD) (t : Fin (cfgT m h).N) : (data m h 0 c).after (4 : Fin 5) t = leftAt m h c t := rfl

/-- An input window's buffer holds its block whenever the body runs. -/
theorem before0 (c : Dev nD) (t : Fin (cfgT m h).N) (d) : (data m h 0 c).before (0 : Fin 5) t d = blkOf m h c (0 : Fin 5) t :=
  ((data m h 0 c).before_in_eq_fetched (0 : Fin 5) rfl (fun _ => rfl) (fun _ _ _ => rfl) (fun t => by rw [after0]; unfold Dat.blockOf blkOf; rfl) t d).trans
    (by unfold Dat.fetched Dat.blockOf blkOf; rfl)
theorem before1 (c : Dev nD) (t : Fin (cfgT m h).N) (d) : (data m h 0 c).before (1 : Fin 5) t d = blkOf m h c (1 : Fin 5) t :=
  ((data m h 0 c).before_in_eq_fetched (1 : Fin 5) rfl (fun _ => rfl) (fun _ _ _ => rfl) (fun t => by rw [after1]; unfold Dat.blockOf blkOf; rfl) t d).trans
    (by unfold Dat.fetched Dat.blockOf blkOf; rfl)
theorem before2 (c : Dev nD) (t : Fin (cfgT m h).N) (d) : (data m h 0 c).before (2 : Fin 5) t d = blkOf m h c (2 : Fin 5) t :=
  ((data m h 0 c).before_in_eq_fetched (2 : Fin 5) rfl (fun _ => rfl) (fun _ _ _ => rfl) (fun t => by rw [after2]; unfold Dat.blockOf blkOf; rfl) t d).trans
    (by unfold Dat.fetched Dat.blockOf blkOf; rfl)
theorem before3 (c : Dev nD) (t : Fin (cfgT m h).N) (d) : (data m h 0 c).before (3 : Fin 5) t d = blkOf m h c (3 : Fin 5) t :=
  ((data m h 0 c).before_in_eq_fetched (3 : Fin 5) rfl (fun _ => rfl) (fun _ _ _ => rfl) (fun t => by rw [after3]; unfold Dat.blockOf blkOf; rfl) t d).trans
    (by unfold Dat.fetched Dat.blockOf blkOf; rfl)

/-- The output's window is stored at every point: one of the two branches is taken there. -/
theorem busy (t : Fin (cfgT m h).N) : (cfgT m h).idle (4 : Fin 5) (pt m h t) = false := by
  show (!(k0_cond1 (pt m h t) ((tables m).atD 1 ![0]) == 1#1) && !(k0_cond2 (pt m h t) ((tables m).atD 1 ![0]) == 1#1)) = false
  by_cases h₁ : k0_cond1 (pt m h t) ((tables m).atD 1 ![0]) = 1#1
  · rw [h₁]; rfl
  · rw [(cond2_eq _ _).mpr h₁]; exact Bool.and_false _

/-- The body at point `t`, as the pipeline calls it. -/
abbrev bodyAt (t : Fin (cfgT m h).N) : Prog (TpuEff nD τ sig (Elt F) Λ₀ .tc) PUnit :=
  cc0_expert_ffn (pt m h t) tabE (Memref.isWhole_whole _) tabN (Memref.isWhole_whole _)
    (stg0 m h t) (hstage0_0 (((cfgT m h).slots t (0 : Fin 5)).cast nbuf0_0)) (stg1 m h t) (hstage0_1 (((cfgT m h).slots t (1 : Fin 5)).cast nbuf0_1))
    (stg2 m h t) (hstage0_2 (((cfgT m h).slots t (2 : Fin 5)).cast nbuf0_2)) (stg3 m h t) (hstage0_3 (((cfgT m h).slots t (3 : Fin 5)).cast nbuf0_3))
    (stg4 m h t) (hstage0_4 (((cfgT m h).slots t (4 : Fin 5)).cast nbuf0_4))

set_option maxHeartbeats 4000000 in
/-- The body at any point, by its run. -/
theorem sound (c : Dev nD) (t : Fin (cfgT m h).N) :
    iprop((data m h 0 c).Φ t.castSucc ∗ (data m h 0 c).owesAt () t.castSucc
        ∗ (∃ d, owns (c : Thread nD τ) (stg0 m h t) fullShare ((data m h 0 c).before (0 : Fin 5) t d))
        ∗ (∃ d, owns (c : Thread nD τ) (stg1 m h t) fullShare ((data m h 0 c).before (1 : Fin 5) t d))
        ∗ (∃ d, owns (c : Thread nD τ) (stg2 m h t) fullShare ((data m h 0 c).before (2 : Fin 5) t d))
        ∗ (∃ d, owns (c : Thread nD τ) (stg3 m h t) fullShare ((data m h 0 c).before (3 : Fin 5) t d))
        ∗ (∃ d, owns (c : Thread nD τ) (stg4 m h t) fullShare ((data m h 0 c).before (4 : Fin 5) t d)))
      ⊢ wp frame (wpE (defs₀ (F := F)) Variants.none c none) Set.univ (bodyAt m h t) fun _ =>
          iprop((data m h 0 c).Φ t.succ ∗ (data m h 0 c).owesAt () t.succ
            ∗ bigSep Finset.univ fun w : Fin (cfgT m h).W =>
                match (cfgT m h).idle w ((cfgT m h).grid.coords t) with
                | true =>
                  match ((cfgT m h).win w).flush t with
                  | false => iprop(∃ d, owns (c : Thread nD τ) (((cfgT m h).win w).stage ((cfgT m h).slots t w)) fullShare ((data m h 0 c).before w t d))
                  | true => owns (c : Thread nD τ) (((cfgT m h).win w).stage ((cfgT m h).slots t w)) fullShare ((data m h 0 c).after w t)
                | false => owns (c : Thread nD τ) (((cfgT m h).win w).stage ((cfgT m h).slots t w)) fullShare ((data m h 0 c).after w t)) := by
  rw [bigSep_W0]
  rewrite [show (cfgT m h).idle (4 : Fin 5) ((cfgT m h).grid.coords t) = false from busy m h t]
  simp only [before0, before1, before2, before3, after0, after1, after2, after3, after4]
  rewrite [show (data m h 0 c).Φ t.succ = held m c from rfl, show (data m h 0 c).Φ t.castSucc = held m c from rfl,
    show (data m h 0 c).owesAt () t.succ = (data m h 0 c).owesAt () t.castSucc from rfl]
  unfold held
  iintro ⟨⟨HT0, HT1⟩, Ho, ⟨%d0, H0⟩, ⟨%d1, H1⟩, ⟨%d2, H2⟩, ⟨%d3, H3⟩, ⟨%d4, H4⟩⟩
  iapply (body_run c (pt m h t) (stg0 m h t) _ (stg1 m h t) _ (stg2 m h t) _ (stg3 m h t) _ (stg4 m h t) _ (tables m 0) (tables m 1)
    (blkOf m h c (0 : Fin 5) t) (blkOf m h c (1 : Fin 5) t) (blkOf m h c (2 : Fin 5) t) (blkOf m h c (3 : Fin 5) t) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

theorem obligation (c : Dev nD) : BodyObligation (data m h 0 c) (defs₀ (F := F)) Variants.none () Set.univ := fun t => by
  rw [bigSep_W0]
  exact sound m h c t

/-! ## The launch -/

abbrev pcsT : Fin 1 → Pipeline.Cfg sig Λ₀ := Pipeline.pin (pcfgs (F := F)) fun _ => adm m h

theorem share_eq (c : Dev nD) (w : Fin (cfgT m h).W) : (data m h 0 c).share w = fullShare := by unfold Dat.share; split <;> rfl

/-- The tables as the launch hands them to the region. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm m h).1 ∗ Pipeline.scopedRest spec0 c) ⊢ (data m h 0 c).Φ 0 := by
  rw [prefHeld_eq, scopedRest0_eq, show (data m h 0 c).Φ 0 = held m c from rfl]
  unfold held
  iintro ⟨-, ⟨HT0, HT1⟩, -⟩
  isplitl [HT0]
  · iexact HT0
  iexact HT1

theorem leave (c : Dev nD) : (data m h 0 c).Φ (Fin.last (cfgT m h).N) ⊢ iprop(BI.emp ∗ Pipeline.scopedRest spec0 c) := by
  rw [scopedRest0_eq, show (data m h 0 c).Φ (Fin.last (cfgT m h).N) = held m c from rfl]
  unfold held
  iintro ⟨-, -⟩
  isplitr; · iempintro
  iempintro

theorem tables_eq (c : Dev nD) (j : Fin 2) : m ((c : Thread nD τ).loc (pre0.ref j)) = (adm m h).1 j := by
  obtain rfl : c = 0 := Subsingleton.elim _ _
  rfl

/-- What the run leaves: every array as the pipeline computes it, the tables as they were. -/
def Post : PUnit × MemSt nD τ sig (Elt F) → Prop := fun r =>
  ∀ c : Dev nD, (∀ w : Fin (cfgT m h).W, r.2.mem (((cfgT m h).win w).arr.view.loc (c : Thread nD τ)) = (data m h 0 c).arrAt w (cfgT m h).N)
    ∧ ∀ j, r.2.mem ((c : Thread nD τ).loc (pre0.ref j)) = (adm m h).1 j

set_option backward.isDefEq.respectTransparency.types false in
set_option maxHeartbeats 4000000 in
/-- THE RUN, once for any values: every execution terminates, the arrays end as the pipeline leaves them, every counter ends at
    zero. -/
theorem run_main : θ_run (defs (F := F)) (onTc (τ := τ) (main (F := F))) ⟨m, fun _ => 0, ρ⟩ (fun r => Post m h r ∧ r.2.sem = fun _ => 0) :=
  Pipeline.θ_run_region_noSem_pf_quiescent pcfgs (fun _ => adm m h) (data m h) () ((launch0 (F := F)).cellOf_inj fun _ => adm m h) (0 : Fin 1)
    (launch0 (F := F)).win.to₀ (launch0 (F := F)).pre emb₁ defs₀ Variants.none m ρ main
    (hbody := fun c => (obligation m h c).loose) (hne := (launch0 (F := F)).block_pos)
    (harr := (launch0 (F := F)).arr_whole) (hstage := (launch0 (F := F)).stage_whole) (howed := fun _ _ => rfl)
    (u₀ := initOf (Pipeline.cells (pcsT m h) ((launch0 (F := F)).cellOf_inj fun _ => adm m h))
      (Pipeline.launchToks (pcsT m h) ((launch0 (F := F)).cellOf_inj fun _ => adm m h)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT m h) (data m h) 0 (launch0 (F := F)).win.arr_inj c (launch0 (F := F)).arr_whole
      (share_eq m h c) _ _ fun _ => rfl)
    (hpf := tables_eq m h)
    (X := fun _ => iprop(emp)) (Y := fun _ => iprop(emp)) (Z := fun _ => iprop(emp))
    (hX := fun c => by rw [unscopedRestP0_eq]; iintro -; isplitr <;> iempintro)
    (hin := enter m h)
    (hout := leave m h)
    (QY := fun _ _ => True)
    (hY := fun c s' => by
      iintro ⟨-, -, HSI⟩; imodintro
      isplitr; · ipureintro; trivial
      iexact HSI)
    (hQ := fun _ hs hz => ⟨fun c => ⟨(hs c).1, (hs c).2.1⟩, hz⟩)

/-- The arguments after the run: all six end unchanged. -/
theorem post_args {r : PUnit × MemSt nD τ sig (Elt F)} (hr : Post m h r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((hr c).2 0).trans (tables_eq m h c 0).symm, ((hr c).2 1).trans (tables_eq m h c 1).symm,
    ((hr c).1 (0 : Fin 5)).trans ((data m h 0 c).arrAt_in (0 : Fin 5) rfl _), ((hr c).1 (1 : Fin 5)).trans ((data m h 0 c).arrAt_in (1 : Fin 5) rfl _),
    ((hr c).1 (2 : Fin 5)).trans ((data m h 0 c).arrAt_in (2 : Fin 5) rfl _), ((hr c).1 (3 : Fin 5)).trans ((data m h 0 c).arrAt_in (3 : Fin 5) rfl _)⟩

include h in
/-- The frame: the arguments end unchanged and every counter at zero. -/
theorem run_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨post_args m h hr.1, hr.2⟩) (run_main m ρ h)

/-! ## The frames -/

theorem both (a b : BitVec 1) : IntOp.andi a b = 1#1 ↔ a = 1#1 ∧ b = 1#1 := by revert a b; decide

/-- The precondition, read: every entry of the table is below 32. -/
theorem named_of_pre [Cert.Pre_experts_in_range.Facts] {b : IVec S160 32} {n : IVec S1 32} {x : FVec F S81920x1024 .bf16}
    {g u : FVec F S2x32x1024x512 .f32} {d : FVec F S2x32x512x1024 .f32}
    (hp : Cert.Pre_experts_in_range.fn (F := F) b n x g u d = fun _ => 1#1) (i : S160.Idx) : (b i).toNat < 32 := by
  have hi : IntOp.andi (IntOp.cmpi .sge (b i) 0#32) (IntOp.cmpi .slt (b i) 32#32) = 1#1 := congrFun hp i
  obtain ⟨h₀, h₁⟩ := (both _ _).mp hi
  have h₀ := BitVec.sle_iff_toInt_le.mp ((bit_iff _).mp h₀)
  have h₁ := BitVec.slt_iff_toInt_lt.mp ((bit_iff _).mp h₁)
  have e := BitVec.toInt_eq_toNat_cond (b i)
  have := (b i).isLt
  rw [show (0#32).toInt = 0 from rfl] at h₀
  rw [show (32#32).toInt = 32 from rfl] at h₁
  split at e <;> omega

theorem frame_ideal [Cert.Pre_experts_in_range.Facts] : Cert.quiescent_Kernel5Ideal := fun m ρ hp =>
  run_args (F := Ideal) m ρ (named_of_pre (hp 0))

/-- The two programs' rows of the body table are the same, -/
theorem row_same : Cert.Kernel5.defs₀ (F := Bits) = Cert.Kernel5Ideal.defs₀ (F := Bits) := by
  unfold Cert.Kernel5.defs₀ Cert.Kernel5Ideal.defs₀
  refine congrArg Defs.onTc ?_
  funext l x
  match l, x with
  | ⟨0, _⟩, (t, s) => exact rfl

/-- and their whole tables. -/
theorem defs_same : Cert.Kernel5.defs (F := Bits) = Cert.Kernel5Ideal.defs (F := Bits) :=
  congrArg (Pipeline.defs Cert.Kernel5Ideal.pcfgs) row_same

theorem frame_kernel [Cert.Pre_experts_in_range.Facts] : Cert.quiescent_Kernel5 := fun m ρ hp => by
  rw [defs_same]
  exact run_args (F := Bits) m ρ (named_of_pre (hp 0))

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Experts

end
-- ==== Proof.ExpertsValue.lean ====
/-
  The experts' call, its values: at the ideal values what it leaves of the result is, row by row, the gated network of the expert the
  table names for the row's block, and zero from the block the count names on — which is what the reference computes of all blocks at
  once, the weights gathered by the table.
-/
module

public import proofs.«01_k».proof.Proof.Experts
public import proofs.«01_k».proof.Proof.Read
public import Idealize.ShloMosaic.Lib.StackMember

@[expose] public section

set_option maxRecDepth 16384

noncomputable section

open Idealize.ShloMosaic Idealize.ShloMosaic.TcCoe Idealize.SL.Sem Idealize.ShloMosaic.ValueIdx

namespace Cert.Experts

/-! ## One row of the result -/

def swish (z : EReal) : EReal :=
  z * Ideal.div (Ideal.ofBits .f32 0x3F800000#32) (Ideal.ofBits .f32 0x3F800000#32 + Ideal.exp (-z))

def proj (x : Fin 1024 → EReal) (w : Fin 1024 → Fin 512 → EReal) (j : Fin 512) : EReal := ∑ k, x k * w k j

/-- A row through one expert's gate, up and down weights. -/
def expert (x : Fin 1024 → EReal) (g u : Fin 1024 → Fin 512 → EReal) (d : Fin 512 → Fin 1024 → EReal) (q : Fin 1024) : EReal :=
  ∑ j, swish (proj x g j) * proj x u j * d j q

/-- The block of a row, and the expert a table names for a block. -/
def blockOf (r : Fin 81920) : Fin 160 := ⟨r.val / 512, by omega⟩
def who (be : (⟨1, ![160]⟩ : Shape).Idx → BitVec 32) (hb : ∀ i, (be i).toNat < 32) (b : Fin 160) : Fin 32 := ⟨(be (ix1 b)).toNat, hb _⟩

/-- What both leave. -/
def outV (be : (⟨1, ![160]⟩ : Shape).Idx → BitVec 32) (hb : ∀ i, (be i).toNat < 32) (n : (⟨1, ![1]⟩ : Shape).Idx → BitVec 32)
    (x : FVec Ideal ⟨2, ![81920, 1024]⟩ .bf16) (g u : FVec Ideal ⟨4, ![2, 32, 1024, 512]⟩ .f32) (d : FVec Ideal ⟨4, ![2, 32, 512, 1024]⟩ .f32) :
    FVec Ideal ⟨2, ![81920, 1024]⟩ .f32 := fun i =>
  if (BitVec.ofNat 32 (blockOf (i 0)).val).toInt < (n (ix1 0)).toInt then
    expert (fun k => x (ix2 (i 0) k)) (fun k j => g (ix4 0 (who be hb (blockOf (i 0))) k j)) (fun k j => u (ix4 0 (who be hb (blockOf (i 0))) k j))
      (fun j q => d (ix4 0 (who be hb (blockOf (i 0))) j q)) (i 1)
  else (0 : EReal)

theorem only (i j : (⟨1, ![1]⟩ : Shape).Idx) : i = j := funext fun a => match a with | ⟨0, _⟩ => Subsingleton.elim (α := Fin 1) _ _

theorem member {α : Type} {K N : ℕ} (x : (⟨4, ![1, 1, K, N]⟩ : Shape).Idx → α) (h : (⟨4, ![1, 1, K, N]⟩ : Shape).ShapeCasts ⟨2, ![K, N]⟩)
    (k : Fin K) (q : Fin N) : shapeCast ⟨2, ![K, N]⟩ x h (ix2 k q) = x (ix4 0 0 k q) :=
  shapeCast_apply x h _ _ (by
    rw [Shape.rowMajor_val_four, Shape.rowMajor_val_two]
    show ((0 * 1 + 0) * K + k.val) * N + q.val = k.val * N + q.val
    rw [Nat.zero_mul, Nat.zero_add])

section Kernel

open Cert.Kernel5Ideal Cert.Kernel5Ideal.Gen

/-- The block's product as the body stores it. -/
theorem pay_block (x : FVec Ideal S512x1024 .bf16) (g u : FVec Ideal S1x1x1024x512 .f32) (d : FVec Ideal S1x1x512x1024 .f32) (r : Fin 512)
    (q : Fin 1024) : k0_pay1 (F := Ideal) x g u d (ix2 r q)
      = expert (fun k => x (ix2 r k)) (fun k j => g (ix4 0 0 k j)) (fun k j => u (ix4 0 0 k j)) (fun j q => d (ix4 0 0 j q)) q := by
  have hp : ∀ (w : FVec Ideal S1x1x1024x512 .f32) (j : Fin 512),
      matmul (φ₁ := .bf16) (φ₂ := .bf16) dot_S512x1024_S1024x512_S512x512_1_0_0_1_n_n none x
          (truncf .bf16 (shapeCast S1024x512 w shapeCasts_S1x1x1024x512_S1024x512) bitsLt_bf16_f32) (constant S512x512 .f32 0x00000000#32) (ix2 r j)
        = proj (fun k => x (ix2 r k)) (fun k j => w (ix4 0 0 k j)) j := fun w j =>
    (Cert.Read.matmul2 (φ₁ := .bf16) (φ₂ := .bf16) dot_S512x1024_S1024x512_S512x512_1_0_0_1_n_n rfl x _ r j).trans
      (Finset.sum_congr rfl fun k _ => congrArg (fun b : EReal => x (ix2 r k) * b) (member w _ k j))
  unfold k0_pay1
  refine (Cert.Read.matmul2 (φ₁ := .bf16) (φ₂ := .bf16) dot_S512x512_S512x1024_S512x1024_1_0_0_1_n_n rfl _ _ r q).trans ?_
  refine Finset.sum_congr rfl fun j _ => congrArg₂ (fun a b : EReal => a * b) (congrArg₂ (fun a b : EReal => a * b) ?_ (hp u j)) (member d _ j q)
  refine congrArg₂ (fun a b : EReal => a * b) (hp g j) (congrArg (fun a => Ideal.div _ (_ + Ideal.exp a)) ?_)
  refine (congrArg (fun a : EReal => Ideal.ofBits .f32 0x00000000#32 - a) (hp g j)).trans ?_
  rw [Ideal.ofBits_zero_f32, sub_eq_add_neg, zero_add]

variable (m : (ℓ : Loc nD τ sig) → Buf (Elt Ideal) ℓ) (ρ : Dev nD → PrngReg) (h : Named m)

theorem N160 : grid0.N = 160 := by decide +kernel

theorem coord : ∀ t : Fin grid0.N, (grid0.coords t 0).val = t.val := by decide +kernel

/-- The rows' block of point `t`; -/
theorem rowBlock (t : Fin grid0.N) : cc0_transform_0 (grid0.coords t) 0 = t.val ∧ cc0_transform_0 (grid0.coords t) 1 = 0 := by
  have ht := t.isLt
  have hN := N160
  refine ⟨?_, rfl⟩
  show (BitVec.ofNat 32 (grid0.coords t 0).val).toNat = t.val
  rw [coord, BitVec.toNat_ofNat]
  omega

/-- the expert its table names. -/
theorem named (t : Fin grid0.N) (b : Fin 160) (hb : b.val = t.val) :
    ((tables m).at 0 (Rect.unit (s := S160) (k0_off1 (grid0.coords t)) S1.size (k0_off1_inb (grid0.coords t))) numel1_S1 : BitVec 32)
      = (m (((0 : Dev nD) : Thread nD τ).loc main_arg0) : S160.Idx → BitVec 32) (ix1 b) := by
  refine congrArg (m (((0 : Dev nD) : Thread nD τ).loc main_arg0) : S160.Idx → BitVec 32) (funext fun a => Fin.ext ?_)
  match a with
  | ⟨0, _⟩ =>
    show (BitVec.ofNat 32 (grid0.coords t 0).val).toNat + 1 * 0 = b.val
    have := (rowBlock t).1
    have e : cc0_transform_0 (grid0.coords t) 0 = (BitVec.ofNat 32 (grid0.coords t 0).val).toNat := rfl
    omega

theorem count_eq (T : S1.Idx → BitVec 32) : count (F := Ideal) T = T (ix1 0) := congrArg T (only _ _)

/-- The arrays of the call. -/
def tab : S160.Idx → BitVec 32 := m (((0 : Dev nD) : Thread nD τ).loc main_arg0)
def cnt : S1.Idx → BitVec 32 := m (((0 : Dev nD) : Thread nD τ).loc main_arg1)
def toks : FVec Ideal S81920x1024 .bf16 := m (((0 : Dev nD) : Thread nD τ).loc main_arg2)
def wg : FVec Ideal S2x32x1024x512 .f32 := m (((0 : Dev nD) : Thread nD τ).loc main_arg3)
def wu : FVec Ideal S2x32x1024x512 .f32 := m (((0 : Dev nD) : Thread nD τ).loc main_arg4)
def wd : FVec Ideal S2x32x512x1024 .f32 := m (((0 : Dev nD) : Thread nD τ).loc main_arg5)

section Reads

variable (t : Fin (cfgT m h).N)

theorem toks_eq (r : Fin 512) (k : Fin 1024) (r' : Fin 81920) (hr : r'.val = t.val * 512 + r.val) :
    (blkOf m h 0 (0 : Fin 5) t : Vec Ideal S512x1024 .bf16) (ix2 r k) = toks m (ix2 r' k) := by
  obtain ⟨h0, h1⟩ := rowBlock t
  unfold blkOf
  rw [View.read_apply]
  refine congrArg (toks m) (funext fun a => Fin.ext ?_)
  match a with
  | ⟨0, _⟩ => show cc0_transform_0 (grid0.coords t) 0 * 512 + 1 * r.val = r'.val; rw [h0, hr]; omega
  | ⟨1, _⟩ => show cc0_transform_0 (grid0.coords t) 1 * 1024 + 1 * k.val = k.val; rw [h1]; omega

variable (b : Fin 160) (hb : b.val = t.val)
include hb

theorem wg_eq (k : Fin 1024) (j : Fin 512) :
    (blkOf m h 0 (1 : Fin 5) t : Vec Ideal S1x1x1024x512 .f32) (ix4 0 0 k j) = wg m (ix4 0 (who (tab m) h b) k j) := by
  have hn := congrArg BitVec.toNat (named m t b hb)
  unfold blkOf
  rw [View.read_apply]
  refine congrArg (wg m) (funext fun a => Fin.ext ?_)
  match a with
  | ⟨0, _⟩ => rfl
  | ⟨1, _⟩ => exact (Nat.mul_one _).trans hn
  | ⟨2, _⟩ => show 0 * 1024 + 1 * k.val = k.val; omega
  | ⟨3, _⟩ => show 0 * 512 + 1 * j.val = j.val; omega

theorem wu_eq (k : Fin 1024) (j : Fin 512) :
    (blkOf m h 0 (2 : Fin 5) t : Vec Ideal S1x1x1024x512 .f32) (ix4 0 0 k j) = wu m (ix4 0 (who (tab m) h b) k j) := by
  have hn := congrArg BitVec.toNat (named m t b hb)
  unfold blkOf
  rw [View.read_apply]
  refine congrArg (wu m) (funext fun a => Fin.ext ?_)
  match a with
  | ⟨0, _⟩ => rfl
  | ⟨1, _⟩ => exact (Nat.mul_one _).trans hn
  | ⟨2, _⟩ => show 0 * 1024 + 1 * k.val = k.val; omega
  | ⟨3, _⟩ => show 0 * 512 + 1 * j.val = j.val; omega

theorem wd_eq (j : Fin 512) (q : Fin 1024) :
    (blkOf m h 0 (3 : Fin 5) t : Vec Ideal S1x1x512x1024 .f32) (ix4 0 0 j q) = wd m (ix4 0 (who (tab m) h b) j q) := by
  have hn := congrArg BitVec.toNat (named m t b hb)
  unfold blkOf
  rw [View.read_apply]
  refine congrArg (wd m) (funext fun a => Fin.ext ?_)
  match a with
  | ⟨0, _⟩ => rfl
  | ⟨1, _⟩ => exact (Nat.mul_one _).trans hn
  | ⟨2, _⟩ => show 0 * 512 + 1 * j.val = j.val; omega
  | ⟨3, _⟩ => show 0 * 1024 + 1 * q.val = q.val; omega

end Reads

/-- What the call leaves of its arrays. -/
abbrev result : FVec Ideal S81920x1024 .f32 := outV (tab m) h (cnt m) (toks m) (wg m) (wu m) (wd m)

theorem point_eq (t : Fin (cfgT m h).N) (r : Fin 512) (q : Fin 1024) (r' : Fin 81920) (hr : r'.val = t.val * 512 + r.val) :
    leftAt m h 0 t (ix2 r q) = result m h (ix2 r' q) := by
  have hb : (blockOf r').val = t.val := by
    show r'.val / 512 = t.val
    omega
  have hc : k0_cond1 (grid0.coords t) (count (F := Ideal) (cnt m)) = 1#1 ↔ (BitVec.ofNat 32 (blockOf r').val).toInt < (cnt m (ix1 0)).toInt := by
    rw [cond1_iff, count_eq, coord, hb]
  show (if k0_cond1 (grid0.coords t) (count (F := Ideal) (cnt m)) = 1#1 then k0_pay1 (F := Ideal) (blkOf m h 0 (0 : Fin 5) t) (blkOf m h 0 (1 : Fin 5) t)
      (blkOf m h 0 (2 : Fin 5) t) (blkOf m h 0 (3 : Fin 5) t) else k0_pay2 (F := Ideal)) (ix2 r q)
    = if (BitVec.ofNat 32 (blockOf r').val).toInt < (cnt m (ix1 0)).toInt then expert (fun k => toks m (ix2 r' k))
        (fun k j => wg m (ix4 0 (who (tab m) h (blockOf r')) k j)) (fun k j => wu m (ix4 0 (who (tab m) h (blockOf r')) k j))
        (fun j q => wd m (ix4 0 (who (tab m) h (blockOf r')) j q)) q else (0 : EReal)
  by_cases hlt : (BitVec.ofNat 32 (blockOf r').val).toInt < (cnt m (ix1 0)).toInt
  · rw [if_pos (hc.mpr hlt), if_pos hlt, pay_block]
    simp only [toks_eq m h t r _ r' hr, wg_eq m h t _ hb, wu_eq m h t _ hb, wd_eq m h t _ hb]
  · rw [if_neg fun hk => hlt (hc.mp hk), if_neg hlt]
    exact Ideal.ofBits_zero_f32

/-- Every point writes its block of the result back: the next point's is another. -/
theorem flush4 (t : Fin (cfgT m h).N) : ((cfgT m h).win (4 : Fin 5)).flush t = true := by
  rw [Pipeline.Window.flush_eq_flushF]
  unfold Pipeline.Window.flushF
  refine (Bool.true_and _).trans ?_
  by_cases hl : t.val + 1 = grid0.N
  · rw [Bool.or_eq_true]; exact .inl (decide_eq_true hl)
  · rw [Bool.or_eq_true]
    have hs : t.val + 1 < grid0.N := by have := lt_of_lt_of_eq t.isLt (show (cfgT m h).N = grid0.N from rfl); omega
    refine .inr (decide_eq_true ⟨hs, 0, fun he => ?_⟩)
    have he : cc0_transform_0 (grid0.coords ⟨t.val + 1, hs⟩) 0 = cc0_transform_0 (grid0.coords t) 0 := he
    rw [(rowBlock _).1, (rowBlock _).1] at he
    exact absurd he (Nat.succ_ne_self _)

theorem flushed_eq (t : Fin (cfgT m h).N) :
    (data m h 0 0).flushed (4 : Fin 5) t = (((cfgT m h).win (4 : Fin 5)).blk t).view.read (Elt Ideal) (result m h) := by
  show leftAt m h 0 t = _
  have ht : t.val < 160 := lt_of_lt_of_eq t.isLt N160
  obtain ⟨h0, h1⟩ := rowBlock t
  funext j
  have hj0 : (j 0).val < 512 := (j 0).isLt
  rw [View.read_apply]
  refine (congrArg (leftAt m h 0 t) (eq_ix2 (n0 := 512) (n1 := 1024) j)).trans
    ((point_eq m h t (j 0) (j 1) ⟨t.val * 512 + (j 0).val, by omega⟩ rfl).trans ?_)
  refine congrArg (result m h) (funext fun a => Fin.ext ?_)
  match a with
  | ⟨0, _⟩ => show t.val * 512 + (j 0).val = cc0_transform_0 (grid0.coords t) 0 * 512 + 1 * (j 0).val; rw [h0]; omega
  | ⟨1, _⟩ => show (j 1).val = 0 * 1024 + 1 * (j 1).val; omega

theorem final : (data m h 0 0).arrAt (4 : Fin 5) (cfgT m h).N = result m h :=
  (data m h 0 0).arrAt_eq_of_cover (4 : Fin 5) (result m h) (fun t _ => flushed_eq m h t) fun i => by
    have h0 : (i 0 : Nat) < 81920 := (i 0).isLt
    have h1 : (i 1 : Nat) < 1024 := (i 1).isLt
    have hN := N160
    obtain ⟨t, ht⟩ : ∃ t : Fin grid0.N, t.val = (i 0 : Nat) / 512 := ⟨⟨_, by omega⟩, rfl⟩
    have hr := (rowBlock t).1
    refine ⟨t, flush4 m h t, ?_⟩
    show i ∈ ((View.whole main_v0).slice (((cfgT m h).win (4 : Fin 5)).rect t)).set
    rw [View.set_slice_whole, Rect.mem_set_unit]
    intro a
    match a with
    | ⟨0, _⟩ =>
      show cc0_transform_0 (grid0.coords t) 0 * 512 ≤ (i 0 : Nat) ∧ (i 0 : Nat) < cc0_transform_0 (grid0.coords t) 0 * 512 + 512
      rw [hr, ht]; omega
    | ⟨1, _⟩ =>
      show 0 * 1024 ≤ (i 1 : Nat) ∧ (i 1 : Nat) < 0 * 1024 + 1024
      omega

end Kernel

/-! ## What the reference computes of its arrays -/

/-- The members of a stack picked by a list of numbers, at (c, a, b): the member the list names at `c`, held inside the stack. -/
theorem gather_members {α : Type} {N A B C w : ℕ} (hN : 0 < N)
    (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (idx : IVec ⟨2, ![C, 1]⟩ w) (c : Fin C) (a : Fin A) (b : Fin B) (n : Fin N)
    (hn : n.val = min (idx (ix2 c 0)).toInt.toNat (N - 1)) :
    Host.gather (⟨[1, 2], [0], [], [], [0], 1, ![1, A, B], wf⟩ : GatherDims ⟨3, ![N, A, B]⟩ ⟨2, ![C, 1]⟩ ⟨3, ![C, A, B]⟩) x idx (ix3 c a b)
      = x (ix3 n a b) := by
  unfold Host.gather
  refine congrArg x (funext fun e => Fin.ext ?_)
  let d : GatherDims ⟨3, ![N, A, B]⟩ ⟨2, ![C, 1]⟩ ⟨3, ![C, A, B]⟩ := ⟨[1, 2], [0], [], [], [0], 1, ![1, A, B], wf⟩
  show d.start (ix3 c a b) idx e + d.batchCoord (ix3 c a b) e + d.offCoord (ix3 c a b) e = _
  rw [GatherDims.batchCoord_eq_zero _ _ _ List.not_mem_nil, Nat.add_zero]
  match e with
  | ⟨0, _⟩ =>
    rw [GatherDims.offCoord_eq_zero _ _ _ fun h => ((GatherDims.mem_sKept _ _).mp h).1 (List.mem_singleton.mpr rfl)]
    unfold GatherDims.start
    refine (congrArg (· + 0) (dif_pos (show (0 : Fin 3) ∈ d.startIndexMap from List.mem_singleton.mpr rfl))).trans ?_
    have hs : d.siIdx (ix3 c a b) ⟨List.idxOf (0 : Fin 3) d.startIndexMap, List.idxOf_lt_length_iff.2 (List.mem_singleton.mpr rfl)⟩ = ix2 c 0 :=
      funext fun f => Fin.ext (match f with | ⟨0, _⟩ => rfl | ⟨1, _⟩ => rfl)
    show min (idx (d.siIdx (ix3 c a b) ⟨List.idxOf (0 : Fin 3) d.startIndexMap, _⟩)).toInt.toNat (N - 1) + 0 = n.val
    rw [hs, hn, Nat.add_zero]
  | ⟨1, _⟩ =>
    unfold GatherDims.start
    exact (congrArg (· + _) (dif_neg (show (1 : Fin 3) ∉ ([0] : List (Fin 3)) by decide))).trans (Nat.zero_add _)
  | ⟨2, _⟩ =>
    unfold GatherDims.start
    exact (congrArg (· + _) (dif_neg (show (2 : Fin 3) ∉ ([0] : List (Fin 3)) by decide))).trans (Nat.zero_add _)

/-- The first of a pair of stacks, as a stack. -/
theorem first {α : Type} {G N K J : ℕ} (x : (⟨4, ![G, N, K, J]⟩ : Shape).Idx → α) (hs : (⟨4, ![G, N, K, J]⟩ : Shape).Slices ![0, 0, 0, 0] ⟨4, ![1, N, K, J]⟩)
    (hc : (⟨4, ![1, N, K, J]⟩ : Shape).ShapeCasts ⟨3, ![N, K, J]⟩) (g : Fin G) (hg : g.val = 0) (n : Fin N) (k : Fin K) (j : Fin J) :
    shapeCast ⟨3, ![N, K, J]⟩ (extractStridedSlice ⟨4, ![1, N, K, J]⟩ ![0, 0, 0, 0] x hs) hc (ix3 n k j) = x (ix4 g n k j) :=
  (shapeCast_apply _ hc _ (ix4 0 n k j) (by
    rw [Shape.rowMajor_val_four, Shape.rowMajor_val_three]
    show ((0 * N + n.val) * K + k.val) * J + j.val = (n.val * K + k.val) * J + j.val
    rw [Nat.zero_mul, Nat.zero_add])).trans
  (extractStridedSlice_apply _ x hs _ _ fun e => by
    match e with
    | ⟨0, _⟩ => exact hg
    | ⟨1, _⟩ => exact (Nat.zero_add _).symm
    | ⟨2, _⟩ => exact (Nat.zero_add _).symm
    | ⟨3, _⟩ => exact (Nat.zero_add _).symm)

section Reference

open Cert.Reference5Ideal Cert.Reference5Ideal.Gen

variable (be : S160.Idx → BitVec 32) (hb : ∀ i, (be i).toNat < 32)

/-- The table as the gathers take it, its negative entries counted from the end. -/
def hostTable : IVec S160x1 32 :=
  broadcastInDim S160x1 ![0] bcast_S160_S160x1_0 (select (cmpi .slt be (broadcastInDim S160 ![] bcast_S_S160 (constantI S_ 32 0#32)))
    (addi be (broadcastInDim S160 ![] bcast_S_S160 (constantI S_ 32 32#32))) be)

include hb in
theorem table_read (b : Fin 160) : (who be hb b).val = min (hostTable be (ix2 b 0)).toInt.toNat (32 - 1) := by
  have hlt := hb (ix1 b)
  have hi : (be (ix1 b)).toInt = ((be (ix1 b)).toNat : ℤ) := by rw [BitVec.toInt_eq_toNat_cond, if_pos (by omega)]
  have e : hostTable be (ix2 b 0) = be (ix1 b) := by
    unfold hostTable
    refine (broadcastInDim_apply _ _ _ _ (ix1 b) fun a => ?_).trans ?_
    · match a with | ⟨0, _⟩ => rfl
    rw [select_apply]
    show Scalar.select (IntOp.cmpi .slt (be (ix1 b)) 0#32) _ _ = _
    have hz : IntOp.cmpi .slt (be (ix1 b)) 0#32 = 0#1 := by
      refine (BitVec.eq_zero_or_eq_one _).resolve_right fun h1 => ?_
      have h1 := BitVec.slt_iff_toInt_lt.mp ((bit_iff _).mp h1)
      rw [show (0#32).toInt = 0 from rfl, hi] at h1
      omega
    rw [hz]
    rfl
  rw [e, hi, Int.toNat_natCast]
  show (be (ix1 b)).toNat = _
  omega

variable (n : S1.Idx → BitVec 32) (x : FVec Ideal S81920x1024 .bf16) (g u : FVec Ideal S2x32x1024x512 .f32) (d : FVec Ideal S2x32x512x1024 .f32)

def hostProj (w : FVec Ideal S2x32x1024x512 .f32) : FVec Ideal S160x512x512 .f32 :=
  Host.dotGeneral (φ₁ := .f32) (φ₂ := .f32) dot_S160x512x1024_S160x1024x512_S160x512x512_2_1_1_2_0_0 none
    (shapeCast S160x512x1024 (extf .f32 x bitsLt_bf16_f32) shapeCasts_S81920x1024_S160x512x1024)
    (Host.gather gather_S32x1024x512_S160x1_S160x1024x512_12_0_n_n_0_1_11024512
      (shapeCast S32x1024x512 (extractStridedSlice S1x32x1024x512 ![0, 0, 0, 0] w slices_S2x32x1024x512_S1x32x1024x512_0_0_0_0)
        shapeCasts_S1x32x1024x512_S32x1024x512) (hostTable be))

def hostGated : FVec Ideal S160x512x512 .f32 :=
  mulf (mulf (hostProj be x g) (Host.divf (broadcastInDim S160x512x512 ![] bcast_S_S160x512x512 (constant S_ .f32 0x3F800000#32))
    (addf (broadcastInDim S160x512x512 ![] bcast_S_S160x512x512 (constant S_ .f32 0x3F800000#32)) (Host.exp (Host.negf (hostProj be x g)))))) (hostProj be x u)

def hostOut : FVec Ideal S81920x1024 .f32 :=
  shapeCast S81920x1024 (select (broadcastInDim S160x512x1024 ![0, 1, 2] bcast_S160x1x1_S160x512x1024_0_1_2
      (cmpi .slt (broadcastInDim S160x1x1 ![0] bcast_S160_S160x1x1_0 (iotaInDim S160 32 0))
        (broadcastInDim S160x1x1 ![] bcast_S_S160x1x1 (shapeCast S_ n shapeCasts_S1_S_))))
    (Host.dotGeneral (φ₁ := .f32) (φ₂ := .f32) dot_S160x512x512_S160x512x1024_S160x512x1024_2_1_1_2_0_0 none (hostGated be x g u)
      (Host.gather gather_S32x512x1024_S160x1_S160x512x1024_12_0_n_n_0_1_15121024
        (shapeCast S32x512x1024 (extractStridedSlice S1x32x512x1024 ![0, 0, 0, 0] d slices_S2x32x512x1024_S1x32x512x1024_0_0_0_0)
          shapeCasts_S1x32x512x1024_S32x512x1024) (hostTable be)))
    (broadcastInDim S160x512x1024 ![] bcast_S_S160x512x1024 (id (constant (F := Ideal) S_ .f32 0x00000000#32)))) shapeCasts_S160x512x1024_S81920x1024

theorem proj_read (w : FVec Ideal S2x32x1024x512 .f32) (b : Fin 160) (r : Fin 512) (r' : Fin 81920) (hr : r'.val = b.val * 512 + r.val) (j : Fin 512) :
    hostProj be x w (ix3 b r j) = proj (fun k => x (ix2 r' k)) (fun k j => w (ix4 0 (who be hb b) k j)) j := by
  refine (StackMember.dotGeneral_stack_apply _ none _ _ b r j).trans
    (Finset.sum_congr rfl fun k _ => congrArg₂ (fun a b : EReal => a * b) ?_ ?_)
  · refine (shapeCast_apply _ shapeCasts_S81920x1024_S160x512x1024 _ (ix2 r' k) ?_).trans rfl
    rw [Shape.rowMajor_val_two, Shape.rowMajor_val_three]
    show r'.val * 1024 + k.val = (b.val * 512 + r.val) * 1024 + k.val
    rw [hr]
  · exact (gather_members (by decide) _ _ (hostTable be) b k j (who be hb b) (table_read be hb b)).trans (first w _ _ 0 rfl _ k j)

theorem out_read (b : Fin 160) (r : Fin 512) (r' : Fin 81920) (hr : r'.val = b.val * 512 + r.val) (q : Fin 1024) :
    hostOut be n x g u d (ix2 r' q) = outV be hb n x g u d (ix2 r' q) := by
  have hbl : blockOf r' = b := Fin.ext (by show r'.val / 512 = b.val; have := r.isLt; omega)
  unfold hostOut
  refine (shapeCast_apply _ shapeCasts_S160x512x1024_S81920x1024 _ (ix3 b r q) ?_).trans ?_
  · rw [Shape.rowMajor_val_two, Shape.rowMajor_val_three]
    show (b.val * 512 + r.val) * 1024 + q.val = r'.val * 1024 + q.val
    rw [hr]
  rw [select_apply]
  have hc : (broadcastInDim S160x512x1024 ![0, 1, 2] bcast_S160x1x1_S160x512x1024_0_1_2
      (cmpi .slt (broadcastInDim S160x1x1 ![0] bcast_S160_S160x1x1_0 (iotaInDim S160 32 0))
        (broadcastInDim S160x1x1 ![] bcast_S_S160x1x1 (shapeCast S_ n shapeCasts_S1_S_)))) (ix3 b r q)
      = BitVec.ofBool ((BitVec.ofNat 32 b.val).slt (n (ix1 0))) := by
    refine (broadcastInDim_apply _ _ _ _ (ix3 b 0 0) fun a => ?_).trans ?_
    · match a with
      | ⟨0, _⟩ => rfl
      | ⟨1, _⟩ => rfl
      | ⟨2, _⟩ => rfl
    have h0 : broadcastInDim S160x1x1 ![0] bcast_S160_S160x1x1_0 (iotaInDim S160 32 0) (ix3 b 0 0) = BitVec.ofNat 32 b.val :=
      (broadcastInDim_apply _ _ _ _ (ix1 b) fun a => match a with | ⟨0, _⟩ => rfl).trans rfl
    have h1 : broadcastInDim S160x1x1 ![] bcast_S_S160x1x1 (shapeCast S_ n shapeCasts_S1_S_) (ix3 b 0 0) = n (ix1 0) := congrArg n (only _ _)
    exact congrArg₂ (fun a b : BitVec 32 => IntOp.cmpi .slt a b) h0 h1
  have hd : Host.dotGeneral (φ₁ := .f32) (φ₂ := .f32) dot_S160x512x512_S160x512x1024_S160x512x1024_2_1_1_2_0_0 none (hostGated be x g u)
      (Host.gather gather_S32x512x1024_S160x1_S160x512x1024_12_0_n_n_0_1_15121024
        (shapeCast S32x512x1024 (extractStridedSlice S1x32x512x1024 ![0, 0, 0, 0] d slices_S2x32x512x1024_S1x32x512x1024_0_0_0_0)
          shapeCasts_S1x32x512x1024_S32x512x1024) (hostTable be)) (ix3 b r q)
      = expert (fun k => x (ix2 r' k)) (fun k j => g (ix4 0 (who be hb b) k j)) (fun k j => u (ix4 0 (who be hb b) k j))
          (fun j q => d (ix4 0 (who be hb b) j q)) q := by
    refine (StackMember.dotGeneral_stack_apply _ none _ _ b r q).trans
      (Finset.sum_congr rfl fun j _ => congrArg₂ (fun a b : EReal => a * b) ?_ ?_)
    · have hg := proj_read be hb x g b r r' hr j
      have hu := proj_read be hb x u b r r' hr j
      refine congrArg₂ (fun a b : EReal => a * b) (congrArg₂ (fun a b : EReal => a * b) hg ?_) hu
      exact congrArg (fun a : EReal => Ideal.div _ (_ + Ideal.exp (-a))) hg
    · exact (gather_members (by decide) _ _ (hostTable be) b j q (who be hb b) (table_read be hb b)).trans (first d _ _ 0 rfl _ j q)
  rw [hc, hd]
  show _ = if (BitVec.ofNat 32 (blockOf r').val).toInt < (n (ix1 0)).toInt then expert (fun k => x (ix2 r' k))
    (fun k j => g (ix4 0 (who be hb (blockOf r')) k j)) (fun k j => u (ix4 0 (who be hb (blockOf r')) k j))
    (fun j q => d (ix4 0 (who be hb (blockOf r')) j q)) q else (0 : EReal)
  rw [hbl]
  by_cases hlt : (BitVec.ofNat 32 b.val).toInt < (n (ix1 0)).toInt
  · rw [if_pos hlt, BitVec.slt_iff_toInt_lt.mpr hlt]
    rfl
  · rw [if_neg hlt, Bool.eq_false_iff.mpr fun hs => hlt (BitVec.slt_iff_toInt_lt.mp hs)]
    exact Ideal.ofBits_zero_f32

theorem reference_read : hostOut be n x g u d = outV be hb n x g u d := by
  funext i
  have h0 : (i 0 : Nat) < 81920 := (i 0).isLt
  have e := out_read be hb n x g u d ⟨(i 0 : Nat) / 512, by omega⟩ ⟨(i 0 : Nat) % 512, by omega⟩ (i 0) (by show (i 0 : Nat) = (i 0 : Nat) / 512 * 512 + (i 0 : Nat) % 512; omega) (i 1)
  exact (congrArg _ (eq_ix2 (n0 := 81920) (n1 := 1024) i)).trans (e.trans (congrArg _ (eq_ix2 (n0 := 81920) (n1 := 1024) i).symm))

end Reference

theorem algebraic [Cert.Pre_experts_in_range.Facts] : Cert.algebraic_Kernel5Ideal_Reference5Ideal := by
  intro m ρ m' ρ' hp hagree
  have h : Named m := named_of_pre (hp 0)
  refine ⟨fun c => result m h, ?_, ?_⟩
  · refine (θ_run Kernel5Ideal.defs _ _).mono (fun _ hr c => ⟨?_, post_args m h hr.1 c⟩) (run_main (F := Ideal) m ρ h)
    obtain rfl : c = 0 := Subsingleton.elim _ _
    exact ((hr.1 0).1 (4 : Fin 5)).trans (final m h)
  · refine (θ_run Reference5Ideal.defs _ _).mono (fun _ hr c => ⟨(hr c).1.trans ?_, (hr c).2⟩) (Reference5Ideal.Value.run (F := Ideal) m' ρ')
    obtain rfl : c = 0 := Subsingleton.elim _ _
    obtain ⟨a0, a1, a2, a3, a4, a5⟩ := hagree 0
    rw [a0, a1, a2, a3, a4, a5]
    exact reference_read (tab m) h (cnt m) (toks m) (wg m) (wu m) (wd m)

end Cert.Experts

end
-- ==== Proof.lean ====
module

public import proofs.«01_k».proof.Defs
public import proofs.«01_k».proof.Proof.Launch
public import proofs.«01_k».proof.Proof.ProjB
public import proofs.«01_k».proof.Proof.ProjF
public import proofs.«01_k».proof.Proof.Merge
public import proofs.«01_k».proof.Proof.Route
public import proofs.«01_k».proof.Proof.ExpertsValue
public import proofs.«01_k».proof.Proof.Gen.Kernel
public import proofs.«01_k».proof.Proof.Gen.KernelIdeal
public import proofs.«01_k».proof.Proof.Gen.Kernel2.Frame
public import proofs.«01_k».proof.Proof.Gen.Kernel3.Frame

@[expose] public section

noncomputable section

namespace Cert.Proof

open Idealize.ShloMosaic Idealize.SL.Sem

/-- The two programs' bodies are one, -/
theorem body_same : @Cert.Kernel.cc0_mixer_b Bits _ _ = @Cert.KernelIdeal.cc0_mixer_b Bits _ _ := rfl

/-- so are their rows of the body table, -/
theorem row_same : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => exact rfl

/-- and their whole tables. -/
theorem defs_same : Cert.Kernel.defs (F := Bits) = Cert.KernelIdeal.defs (F := Bits) :=
  congrArg (Pipeline.defs Cert.KernelIdeal.pcfgs) row_same

/-- The kernel at machine floats: the one run, at the bits. -/
theorem frame_kernel : Cert.quiescent_Kernel := fun m ρ _ => by
  rw [defs_same]
  exact Cert.Mix.run_args (F := Bits) m ρ

/-- The idealized kernel: the same run, at the reals. -/
theorem frame_ideal : Cert.quiescent_KernelIdeal := fun m ρ _ => Cert.Mix.run_args (F := Ideal) m ρ

/-- The references run to the end too. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The precondition's one shape relation. -/
instance pre_facts : Cert.Pre_experts_in_range.Facts := ⟨by decide⟩

/-- Every program runs to the end with its arguments unchanged and every counter of a kernel at zero; no operation was rewritten
    on the way to the idealized ones; and the two projections, the merge, its routing and the experts are their references'. The experts'
    table is supposed to name experts there are, and the routing's arguments to be finite. -/
theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel6.Gen.facts, Cert.Kernel6Ideal.Gen.facts, Cert.Reference6Ideal.Gen.facts,
    Cert.Kernel5.Gen.facts, Cert.Kernel5Ideal.Gen.facts, Cert.Reference5Ideal.Gen.facts, Cert.Pre_inputs_finite.Gen.facts, pre_facts,
    frame_kernel, frame_ideal,
    fun m ρ _ => Cert.Kernel2.Gen.frame (F := Bits) m ρ, fun m ρ _ => Cert.Kernel2Ideal.Gen.frame (F := Ideal) m ρ, frame_reference2,
    fun m ρ _ => Cert.Kernel3.Gen.frame (F := Bits) m ρ, fun m ρ _ => Cert.Kernel3Ideal.Gen.frame (F := Ideal) m ρ, frame_reference3,
    fun m ρ _ => Cert.Kernel4.Gen.frame (F := Bits) m ρ, fun m ρ _ => Cert.Kernel4Ideal.Gen.frame (F := Ideal) m ρ, frame_reference4,
    fun m ρ _ => Cert.Kernel6.Gen.frame (F := Bits) m ρ, fun m ρ _ => Cert.Kernel6Ideal.Gen.frame (F := Ideal) m ρ,
    fun m ρ _ => Cert.Kernel6Ideal.Gen.frame (F := Ideal) m ρ, frame_reference6, fun m ρ _ => frame_reference6 m ρ trivial,
    Experts.frame_kernel, Experts.frame_ideal, Experts.frame_reference, fun m ρ _ => Experts.frame_reference m ρ trivial,
    trivial, trivial, ProjB.algebraic, trivial, ProjF.algebraic, trivial, Merge.algebraic, trivial, Route.algebraic, trivial, Experts.algebraic⟩

end Cert.Proof

end
